-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_dt_below_inf [hPre_dt_below_inf : Cert.Pre_dt_below_inf.Facts] (m : (ℓ : Loc Cert.SsdIdeal.nD Cert.SsdIdeal.τ Cert.SsdIdeal.sig) → Buf (Elt Ideal) ℓ) : Prop :=
  ∀ c : Dev Cert.SsdIdeal.nD,
    (Cert.Pre_dt_below_inf.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_dt_below_inf [hPre_dt_below_inf : Cert.Pre_dt_below_inf.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_dt_below_inf.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdIdeal_pre_dt_below_inf [hSsdIdeal : Cert.SsdIdeal.Facts] [hPre_dt_below_inf : Cert.Pre_dt_below_inf.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_dt_below_inf m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdRefIdeal_pre_dt_below_inf [hSsdRefIdeal : Cert.SsdRefIdeal.Facts] [hPre_dt_below_inf : Cert.Pre_dt_below_inf.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_dt_below_inf m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def preserves_Ssd_SsdIdeal : Prop :=
  True

def algebraic_SsdIdeal_SsdRefIdeal_pre_dt_below_inf [hSsdIdeal : Cert.SsdIdeal.Facts] [hSsdRefIdeal : Cert.SsdRefIdeal.Facts] [hPre_dt_below_inf : Cert.Pre_dt_below_inf.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_dt_below_inf m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v25_0)) (v1 : (c : Dev Cert.SsdIdeal.nD) → Buf (Elt Ideal) ((c.tc : Thread Cert.SsdIdeal.nD Cert.SsdIdeal.τ).loc Cert.SsdIdeal.main_v25_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v25_0) = v0 c
          ∧ r.2.mem ((c.tc : Thread Cert.SsdIdeal.nD Cert.SsdIdeal.τ).loc Cert.SsdIdeal.main_v25_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v61) = v0 c
          ∧ r.2.mem ((c.tc : Thread Cert.SsdRefIdeal.nD Cert.SsdRefIdeal.τ).loc Cert.SsdRefIdeal.main_v62) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v48) = v0 c
          ∧ r.2.mem ((c.tc : Thread Cert.FfnUpRefIdeal.nD Cert.FfnUpRefIdeal.τ).loc Cert.FfnUpRefIdeal.main_v49) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v15) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def Claim : Prop :=
  ∃ (hSsd : Cert.Ssd.Facts) (hSsdIdeal : Cert.SsdIdeal.Facts) (hSsdRefIdeal : Cert.SsdRefIdeal.Facts) (hProj : Cert.Proj.Facts) (hProjIdeal : Cert.ProjIdeal.Facts) (hProjRefIdeal : Cert.ProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPre_dt_below_inf : Cert.Pre_dt_below_inf.Facts),
    quiescent_Ssd (hSsd := hSsd)
    ∧ quiescent_SsdIdeal (hSsdIdeal := hSsdIdeal)
    ∧ quiescent_SsdIdeal_pre_dt_below_inf (hSsdIdeal := hSsdIdeal) (hPre_dt_below_inf := hPre_dt_below_inf)
    ∧ quiescent_SsdRefIdeal (hSsdRefIdeal := hSsdRefIdeal)
    ∧ quiescent_SsdRefIdeal_pre_dt_below_inf (hSsdRefIdeal := hSsdRefIdeal) (hPre_dt_below_inf := hPre_dt_below_inf)
    ∧ quiescent_Proj (hProj := hProj)
    ∧ quiescent_ProjIdeal (hProjIdeal := hProjIdeal)
    ∧ quiescent_ProjRefIdeal (hProjRefIdeal := hProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_Ssd_SsdIdeal
    ∧ algebraic_SsdIdeal_SsdRefIdeal_pre_dt_below_inf (hSsdIdeal := hSsdIdeal) (hSsdRefIdeal := hSsdRefIdeal) (hPre_dt_below_inf := hPre_dt_below_inf)
    ∧ preserves_Proj_ProjIdeal
    ∧ algebraic_ProjIdeal_ProjRefIdeal (hProjIdeal := hProjIdeal) (hProjRefIdeal := hProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
-- ==== Pre_dt_below_inf.lean ====
abbrev S4x2048x6144 : Shape := ⟨3, ![4, 2048, 6144]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S4x2048x16 : Shape := ⟨3, ![4, 2048, 16]⟩
abbrev S_ : Shape := ⟨0, ![]⟩

class Facts : Prop where
  slices_S4x2048x6144_S4x2048x16_0_0_5680 : S4x2048x6144.Slices ![0, 0, 5680] S4x2048x16
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4x2048x6144 .f32) (main_arg1 : FVec F S1x4x2048 .f32) (main_arg2 : FVec F S1x2048 .f32) (main_arg3 : FVec F S1x16 .f32) (main_arg4 : FVec F S1x16 .f32) (main_arg5 : FVec F S1x16 .f32) (main_arg6 : FVec F S1x1024 .f32) : IVec S_ 1 :=
  let main_v0 : FVec F S4x2048x16 .f32 := (extractStridedSlice S4x2048x16 ![0, 0, 5680] · slices_S4x2048x6144_S4x2048x16_0_0_5680) main_arg0
  let main_cst : FVec F S_ .f32 := constant S_ .f32 0x7F800000#32
  let main_v1 : FVec F S4x2048x16 .f32 := broadcastInDim S4x2048x16 ![] bcast_S_S4x2048x16 main_cst
  let main_v2 : IVec S4x2048x16 1 := cmpf .olt main_v0 main_v1
  let main_c : IVec S_ 1 := constantI S_ 1 1#1
  let main_v3 : IVec S_ 1 := (fun x v => Host.reduce IntOp.andi x v reducesTo_S4x2048x16_S_d0_1_2 h_S_) main_v2 main_c
  let main_cst_0 : FVec F S_ .f32 := constant S_ .f32 0x7F800000#32
  let main_v4 : FVec F S1x16 .f32 := broadcastInDim S1x16 ![] bcast_S_S1x16 main_cst_0
  let main_v5 : IVec S1x16 1 := cmpf .olt main_arg3 main_v4
  let main_c_1 : IVec S_ 1 := constantI S_ 1 1#1
  let main_v6 : IVec S_ 1 := (fun x v => Host.reduce IntOp.andi x v reducesTo_S1x16_S_d0_1 h_S_) main_v5 main_c_1
  let main_v7 : IVec S_ 1 := andi main_v3 main_v6
  main_v7
-- ==== Ssd.lean ====
abbrev S4x2048x6144 : Shape := ⟨3, ![4, 2048, 6144]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S128x1024 : Shape := ⟨2, ![128, 1024]⟩
abbrev S_ : Shape := ⟨0, ![]⟩
abbrev S4x2048 : Shape := ⟨2, ![4, 2048]⟩
abbrev S8x2048 : Shape := ⟨2, ![8, 2048]⟩
abbrev S2048 : Shape := ⟨1, ![2048]⟩
abbrev S16 : Shape := ⟨1, ![16]⟩
abbrev S64 : Shape := ⟨1, ![64]⟩
abbrev S128 : Shape := ⟨1, ![128]⟩
abbrev S1x128 : Shape := ⟨2, ![1, 128]⟩
abbrev S16x64 : Shape := ⟨2, ![16, 64]⟩
abbrev S1024 : Shape := ⟨1, ![1024]⟩
abbrev S4x2048x1024 : Shape := ⟨3, ![4, 2048, 1024]⟩
abbrev S4x16x64x128 : Shape := ⟨4, ![4, 16, 64, 128]⟩
abbrev S1x128x1024 : Shape := ⟨3, ![1, 128, 1024]⟩
abbrev S1x128x2048 : Shape := ⟨3, ![1, 128, 2048]⟩
abbrev S1x128x128 : Shape := ⟨3, ![1, 128, 128]⟩
abbrev S1x16x64x128 : Shape := ⟨4, ![1, 16, 64, 128]⟩
abbrev S128x2048 : Shape := ⟨2, ![128, 2048]⟩
abbrev S16x64x128 : Shape := ⟨3, ![16, 64, 128]⟩
abbrev S128x1 : Shape := ⟨2, ![128, 1]⟩
abbrev S128x512 : Shape := ⟨2, ![128, 512]⟩
abbrev S128x128 : Shape := ⟨2, ![128, 128]⟩
abbrev S128x64 : Shape := ⟨2, ![128, 64]⟩
abbrev S128x256 : Shape := ⟨2, ![128, 256]⟩
abbrev S4x64x128 : Shape := ⟨3, ![4, 64, 128]⟩
abbrev S256x128 : Shape := ⟨2, ![256, 128]⟩
abbrev S1x1 : Shape := ⟨2, ![1, 1]⟩
abbrev S64x128 : Shape := ⟨2, ![64, 128]⟩

abbrev nBuf : Space → Nat
  | .hbm => 62
  | .vmem => 19
  | .smem => 0
  | _ => 0

abbrev bufTy : (tb : Table) → Fin (tcTables nBuf tb) → BufTy
  | .hbm, ⟨0, _⟩ => ⟨S4x2048x6144, .f32⟩
  | .hbm, ⟨1, _⟩ => ⟨S1x4x2048, .f32⟩
  | .hbm, ⟨2, _⟩ => ⟨S1x2048, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S128x1024, .i32⟩
  | .hbm, ⟨8, _⟩ => ⟨S128x1024, .i32⟩
  | .hbm, ⟨9, _⟩ => ⟨S_, .i32⟩
  | .hbm, ⟨10, _⟩ => ⟨S_, .i32⟩
  | .hbm, ⟨11, _⟩ => ⟨S128x1024, .i32⟩
  | .hbm, ⟨12, _⟩ => ⟨S128x1024, .i32⟩
  | .hbm, ⟨13, _⟩ => ⟨S128x1024, .i32⟩
  | .hbm, ⟨14, _⟩ => ⟨S_, .i32⟩
  | .hbm, ⟨15, _⟩ => ⟨S128x1024, .i32⟩
  | .hbm, ⟨16, _⟩ => ⟨S128x1024, .i1⟩
  | .hbm, ⟨17, _⟩ => ⟨S128x1024, .i32⟩
  | .hbm, ⟨18, _⟩ => ⟨S128x1024, .i32⟩
  | .hbm, ⟨19, _⟩ => ⟨S_, .i32⟩
  | .hbm, ⟨20, _⟩ => ⟨S128x1024, .i32⟩
  | .hbm, ⟨21, _⟩ => ⟨S128x1024, .i1⟩
  | .hbm, ⟨22, _⟩ => ⟨S128x1024, .i1⟩
  | .hbm, ⟨23, _⟩ => ⟨S_, .i32⟩
  | .hbm, ⟨24, _⟩ => ⟨S128x1024, .i32⟩
  | .hbm, ⟨25, _⟩ => ⟨S128x1024, .i32⟩
  | .hbm, ⟨26, _⟩ => ⟨S128x1024, .i32⟩
  | .hbm, ⟨27, _⟩ => ⟨S_, .i32⟩
  | .hbm, ⟨28, _⟩ => ⟨S128x1024, .i32⟩
  | .hbm, ⟨29, _⟩ => ⟨S128x1024, .i32⟩
  | .hbm, ⟨30, _⟩ => ⟨S128x1024, .i1⟩
  | .hbm, ⟨31, _⟩ => ⟨S128x1024, .bf16⟩
  | .hbm, ⟨32, _⟩ => ⟨S4x2048, .f32⟩
  | .hbm, ⟨33, _⟩ => ⟨S_, .i32⟩
  | .hbm, ⟨34, _⟩ => ⟨S_, .f32⟩
  | .hbm, ⟨35, _⟩ => ⟨S8x2048, .f32⟩
  | .hbm, ⟨36, _⟩ => ⟨S2048, .f32⟩
  | .hbm, ⟨37, _⟩ => ⟨S1x2048, .f32⟩
  | .hbm, ⟨38, _⟩ => ⟨S16, .f32⟩
  | .hbm, ⟨39, _⟩ => ⟨S_, .i32⟩
  | .hbm, ⟨40, _⟩ => ⟨S_, .f32⟩
  | .hbm, ⟨41, _⟩ => ⟨S64, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S16, .f32⟩
  | .hbm, ⟨47, _⟩ => ⟨S_, .i32⟩
  | .hbm, ⟨48, _⟩ => ⟨S_, .f32⟩
  | .hbm, ⟨49, _⟩ => ⟨S64, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S16, .f32⟩
  | .hbm, ⟨55, _⟩ => ⟨S16x64, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S4x2048x1024, .bf16⟩
  | .hbm, ⟨61, _⟩ => ⟨S4x16x64x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x2048, .f32⟩
  | .local _ .vmem, ⟨3, _⟩ => ⟨S1x128x2048, .f32⟩
  | .local _ .vmem, ⟨4, _⟩ => ⟨S1x128x128, .f32⟩
  | .local _ .vmem, ⟨5, _⟩ => ⟨S1x128x128, .f32⟩
  | .local _ .vmem, ⟨6, _⟩ => ⟨S8x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S1x128x1024, .bf16⟩
  | .local _ .vmem, ⟨14, _⟩ => ⟨S1x128x1024, .bf16⟩
  | .local _ .vmem, ⟨15, _⟩ => ⟨S1x16x64x128, .f32⟩
  | .local _ .vmem, ⟨16, _⟩ => ⟨S1x16x64x128, .f32⟩
  | .local _ .vmem, ⟨17, _⟩ => ⟨S128x2048, .f32⟩
  | .local _ .vmem, ⟨18, _⟩ => ⟨S16x64x128, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_call1_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_call2_v0 : Ref sig .tc := ⟨.hbm, 40, rfl⟩
abbrev main_v12 : Ref sig .tc := ⟨.hbm, 41, rfl⟩
abbrev main_c_3 : Ref sig .tc := ⟨.hbm, 42, rfl⟩
abbrev main_call3_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c_4 : Ref sig .tc := ⟨.hbm, 47, rfl⟩
abbrev main_call4_v0 : Ref sig .tc := ⟨.hbm, 48, rfl⟩
abbrev main_v16 : Ref sig .tc := ⟨.hbm, 49, rfl⟩
abbrev main_c_5 : Ref sig .tc := ⟨.hbm, 50, rfl⟩
abbrev main_call5_v0 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25_0 : Ref sig .tc := ⟨.hbm, 60, rfl⟩
abbrev main_v25_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v714 : BitVec 1 := Scalar.cmpi .eq arg1 c15_i32
  let v715 : BitVec 32 := Scalar.extui v714
  let c0_i32_156 : BitVec 32 := 0#32
  let v716 : BitVec 1 := Scalar.cmpi .ne v715 c0_i32_156
  v716

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, arg1.toNat, c44_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== SsdRefIdeal.lean ====
abbrev S4x2048x6144 : Shape := ⟨3, ![4, 2048, 6144]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S4x2048x1024 : Shape := ⟨3, ![4, 2048, 1024]⟩
abbrev S4x2048x2048 : Shape := ⟨3, ![4, 2048, 2048]⟩
abbrev S4x2048x16 : Shape := ⟨3, ![4, 2048, 16]⟩
abbrev S_ : Shape := ⟨0, ![]⟩
abbrev S4x3x2048 : Shape := ⟨3, ![4, 3, 2048]⟩
abbrev S4x16x64x128 : Shape := ⟨4, ![4, 16, 64, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S4x2051x2048 : Shape := ⟨3, ![4, 2051, 2048]⟩
abbrev S1x1x2048 : Shape := ⟨3, ![1, 1, 2048]⟩
abbrev S1x1x16 : Shape := ⟨3, ![1, 1, 16]⟩
abbrev S128x128 : Shape := ⟨2, ![128, 128]⟩
abbrev S1x128x128x1x1 : Shape := ⟨5, ![1, 128, 128, 1, 1]⟩
abbrev S4x4x4x64x128 : Shape := ⟨5, ![4, 4, 4, 64, 128]⟩
abbrev S4x16x128x1024 : Shape := ⟨4, ![4, 16, 128, 1024]⟩
abbrev S16x4x128x1024 : Shape := ⟨4, ![16, 4, 128, 1024]⟩
abbrev S4x16x128x2048 : Shape := ⟨4, ![4, 16, 128, 2048]⟩
abbrev S16x4x128x2048 : Shape := ⟨4, ![16, 4, 128, 2048]⟩
abbrev S4x16x128x16 : Shape := ⟨4, ![4, 16, 128, 16]⟩
abbrev S16x4x128x16 : Shape := ⟨4, ![16, 4, 128, 16]⟩
abbrev S1x4x128x1024 : Shape := ⟨4, ![1, 4, 128, 1024]⟩
abbrev S4x128x1024 : Shape := ⟨3, ![4, 128, 1024]⟩
abbrev S1x4x128x2048 : Shape := ⟨4, ![1, 4, 128, 2048]⟩
abbrev S4x128x2048 : Shape := ⟨3, ![4, 128, 2048]⟩
abbrev S1x4x128x16 : Shape := ⟨4, ![1, 4, 128, 16]⟩
abbrev S4x128x16 : Shape := ⟨3, ![4, 128, 16]⟩
abbrev S4x128x4x4x64 : Shape := ⟨5, ![4, 128, 4, 4, 64]⟩
abbrev S4x128x512 : Shape := ⟨3, ![4, 128, 512]⟩
abbrev S4x128x4x128 : Shape := ⟨4, ![4, 128, 4, 128]⟩
abbrev S4x128x4x4 : Shape := ⟨4, ![4, 128, 4, 4]⟩
abbrev S4x128x4x4x1 : Shape := ⟨5, ![4, 128, 4, 4, 1]⟩
abbrev S4x4 : Shape := ⟨2, ![4, 4]⟩
abbrev S1x1x4x4 : Shape := ⟨4, ![1, 1, 4, 4]⟩
abbrev S4x128x1x4x4 : Shape := ⟨5, ![4, 128, 1, 4, 4]⟩
abbrev S4x1x128x4x4 : Shape := ⟨5, ![4, 1, 128, 4, 4]⟩
abbrev S4x128x128x4x4 : Shape := ⟨5, ![4, 128, 128, 4, 4]⟩
abbrev S4x4x128x128 : Shape := ⟨4, ![4, 4, 128, 128]⟩
abbrev S4x128x128x4 : Shape := ⟨4, ![4, 128, 128, 4]⟩
abbrev S4x128x128x4x1 : Shape := ⟨5, ![4, 128, 128, 4, 1]⟩
abbrev S4x1x4x4 : Shape := ⟨4, ![4, 1, 4, 4]⟩
abbrev S4x4x4 : Shape := ⟨3, ![4, 4, 4]⟩
abbrev S4x4x4x1x1 : Shape := ⟨5, ![4, 4, 4, 1, 1]⟩
abbrev S4x4x1 : Shape := ⟨3, ![4, 4, 1]⟩
abbrev S1x1x4x4x1 : Shape := ⟨5, ![1, 1, 4, 4, 1]⟩
abbrev S4x128x4x256 : Shape := ⟨4, ![4, 128, 4, 256]⟩
abbrev S4x128x4 : Shape := ⟨3, ![4, 128, 4]⟩
abbrev S4x128x4x1 : Shape := ⟨4, ![4, 128, 4, 1]⟩
abbrev S1x1x1024 : Shape := ⟨3, ![1, 1, 1024]⟩

abbrev nBuf : Space → Nat
  | .hbm => 235
  | .vmem => 0
  | .smem => 0
  | _ => 0

abbrev hbmTy0_0 (i : Nat) : BufTy := match i % 128 with
  | 0 => ⟨S4x2048x6144, .f32⟩
  | 1 => ⟨S1x4x2048, .f32⟩
  | 2 => ⟨S1x2048, .f32⟩
  | 3 => ⟨S1x16, .f32⟩
  | 4 => ⟨S1x16, .f32⟩
  | 5 => ⟨S1x16, .f32⟩
  | 6 => ⟨S1x1024, .f32⟩
  | 7 => ⟨S4x2048x1024, .f32⟩
  | 8 => ⟨S4x2048x2048, .f32⟩
  | 9 => ⟨S4x2048x16, .f32⟩
  | 10 => ⟨S_, .f32⟩
  | 11 => ⟨S4x3x2048, .f32⟩
  | 12 => ⟨S_, .f32⟩
  | 13 => ⟨S4x16x64x128, .f32⟩
  | 14 => ⟨S4x2048, .f32⟩
  | 15 => ⟨S2048, .f32⟩
  | 16 => ⟨S16, .f32⟩
  | 17 => ⟨S16, .f32⟩
  | 18 => ⟨S16, .f32⟩
  | 19 => ⟨S1024, .f32⟩
  | 20 => ⟨S4x2051x2048, .f32⟩
  | 21 => ⟨S4x2048x2048, .f32⟩
  | 22 => ⟨S1x2048, .f32⟩
  | 23 => ⟨S2048, .f32⟩
  | 24 => ⟨S1x1x2048, .f32⟩
  | 25 => ⟨S4x2048x2048, .f32⟩
  | 26 => ⟨S4x2048x2048, .f32⟩
  | 27 => ⟨S1x1x2048, .f32⟩
  | 28 => ⟨S4x2048x2048, .f32⟩
  | 29 => ⟨S4x2048x2048, .f32⟩
  | 30 => ⟨S4x2048x2048, .f32⟩
  | 31 => ⟨S1x2048, .f32⟩
  | 32 => ⟨S2048, .f32⟩
  | 33 => ⟨S1x1x2048, .f32⟩
  | 34 => ⟨S4x2048x2048, .f32⟩
  | 35 => ⟨S4x2048x2048, .f32⟩
  | 36 => ⟨S4x2048x2048, .f32⟩
  | 37 => ⟨S4x2048x2048, .f32⟩
  | 38 => ⟨S1x2048, .f32⟩
  | 39 => ⟨S2048, .f32⟩
  | 40 => ⟨S1x1x2048, .f32⟩
  | 41 => ⟨S4x2048x2048, .f32⟩
  | 42 => ⟨S4x2048x2048, .f32⟩
  | 43 => ⟨S4x2048x2048, .f32⟩
  | 44 => ⟨S4x2048x2048, .f32⟩
  | 45 => ⟨S1x2048, .f32⟩
  | 46 => ⟨S2048, .f32⟩
  | 47 => ⟨S1x1x2048, .f32⟩
  | 48 => ⟨S4x2048x2048, .f32⟩
  | 49 => ⟨S4x2048x2048, .f32⟩
  | 50 => ⟨S4x2048x2048, .f32⟩
  | 51 => ⟨S4x2048x2048, .f32⟩
  | 52 => ⟨S4x2048x2048, .f32⟩
  | 53 => ⟨S_, .f32⟩
  | 54 => ⟨S4x2048x2048, .f32⟩
  | 55 => ⟨S4x2048x2048, .f32⟩
  | 56 => ⟨S_, .f32⟩
  | 57 => ⟨S4x2048x2048, .f32⟩
  | 58 => ⟨S4x2048x2048, .f32⟩
  | 59 => ⟨S4x2048x2048, .f32⟩
  | 60 => ⟨S1x1x16, .f32⟩
  | 61 => ⟨S4x2048x16, .f32⟩
  | 62 => ⟨S4x2048x16, .f32⟩
  | 63 => ⟨S_, .f32⟩
  | 64 => ⟨S4x2048x16, .f32⟩
  | 65 => ⟨S4x2048x16, .f32⟩
  | 66 => ⟨S4x2048x16, .f32⟩
  | 67 => ⟨S4x2048x16, .f32⟩
  | 68 => ⟨S4x2048x16, .i1⟩
  | 69 => ⟨S4x2048x16, .f32⟩
  | 70 => ⟨S4x2048x16, .f32⟩
  | 71 => ⟨S4x2048x16, .f32⟩
  | 72 => ⟨S4x2048x16, .f32⟩
  | 73 => ⟨S4x2048x16, .f32⟩
  | 74 => ⟨S4x2048x16, .f32⟩
  | 75 => ⟨S4x2048x16, .f32⟩
  | 76 => ⟨S4x2048x16, .f32⟩
  | 77 => ⟨S_, .i1⟩
  | 78 => ⟨S128x128, .i1⟩
  | 79 => ⟨S128x128, .i32⟩
  | 80 => ⟨S_, .i32⟩
  | 81 => ⟨S128x128, .i32⟩
  | 82 => ⟨S128x128, .i32⟩
  | 83 => ⟨S128x128, .i32⟩
  | 84 => ⟨S128x128, .i1⟩
  | 85 => ⟨S_, .i1⟩
  | 86 => ⟨S128x128, .i1⟩
  | 87 => ⟨S128x128, .i1⟩
  | 88 => ⟨S1x128x128x1x1, .i1⟩
  | 89 => ⟨S4x4x4x64x128, .f32⟩
  | 90 => ⟨S4x16x128x1024, .f32⟩
  | 91 => ⟨S16x4x128x1024, .f32⟩
  | 92 => ⟨S4x16x128x2048, .f32⟩
  | 93 => ⟨S16x4x128x2048, .f32⟩
  | 94 => ⟨S4x16x128x16, .f32⟩
  | 95 => ⟨S16x4x128x16, .f32⟩
  | 96 => ⟨S_, .f32⟩
  | 97 => ⟨S16x4x128x1024, .f32⟩
  | 98 => ⟨S_, .i32⟩
  | 99 => ⟨S16x4x128x1024, .f32⟩
  | 100 => ⟨S16x4x128x2048, .f32⟩
  | 101 => ⟨S16x4x128x16, .f32⟩
  | 102 => ⟨S16, .f32⟩
  | 103 => ⟨S1x128x128x1x1, .i1⟩
  | 104 => ⟨S16, .f32⟩
  | 105 => ⟨S1024, .f32⟩
  | 106 => ⟨S_, .i32⟩
  | 107 => ⟨S4x4x4x64x128, .f32⟩
  | 108 => ⟨S16x4x128x1024, .f32⟩
  | 109 => ⟨S_, .i32⟩
  | 110 => ⟨S_, .i1⟩
  | 111 => ⟨S_, .i32⟩
  | 112 => ⟨S_, .i32⟩
  | 113 => ⟨S_, .i32⟩
  | 114 => ⟨S1x4x128x1024, .f32⟩
  | 115 => ⟨S4x128x1024, .f32⟩
  | 116 => ⟨S_, .i32⟩
  | 117 => ⟨S_, .i32⟩
  | 118 => ⟨S_, .i32⟩
  | 119 => ⟨S1x4x128x2048, .f32⟩
  | 120 => ⟨S4x128x2048, .f32⟩
  | 121 => ⟨S_, .i32⟩
  | 122 => ⟨S_, .i32⟩
  | 123 => ⟨S_, .i32⟩
  | 124 => ⟨S1x4x128x16, .f32⟩
  | 125 => ⟨S4x128x16, .f32⟩
  | 126 => ⟨S4x128x1024, .f32⟩
  | 127 => ⟨S4x128x4x4x64, .f32⟩
  | _ => ⟨S4x2048x6144, .f32⟩

abbrev hbmTy0_1 (i : Nat) : BufTy := match i % 128 with
  | 0 => ⟨S4x128x512, .f32⟩
  | 1 => ⟨S4x128x4x128, .f32⟩
  | 2 => ⟨S4x128x512, .f32⟩
  | 3 => ⟨S4x128x4x128, .f32⟩
  | 4 => ⟨S4x128x4x4, .f32⟩
  | 5 => ⟨S4x128x4x4x1, .f32⟩
  | 6 => ⟨S4x128x4x4x64, .f32⟩
  | 7 => ⟨S4x128x4x4x64, .f32⟩
  | 8 => ⟨S16, .f32⟩
  | 9 => ⟨S4x4, .f32⟩
  | 10 => ⟨S4x4, .f32⟩
  | 11 => ⟨S1x1x4x4, .f32⟩
  | 12 => ⟨S4x128x4x4, .f32⟩
  | 13 => ⟨S4x128x4x4, .f32⟩
  | 14 => ⟨S_, .f32⟩
  | 15 => ⟨S_, .f32⟩
  | 16 => ⟨S4x128x4x4, .f32⟩
  | 17 => ⟨S4x128x1x4x4, .f32⟩
  | 18 => ⟨S4x1x128x4x4, .f32⟩
  | 19 => ⟨S4x128x128x4x4, .f32⟩
  | 20 => ⟨S4x128x128x4x4, .f32⟩
  | 21 => ⟨S4x128x128x4x4, .f32⟩
  | 22 => ⟨S_, .f32⟩
  | 23 => ⟨S_, .f32⟩
  | 24 => ⟨S4x128x128x4x4, .i1⟩
  | 25 => ⟨S4x128x128x4x4, .f32⟩
  | 26 => ⟨S4x128x128x4x4, .f32⟩
  | 27 => ⟨S4x128x128x4x4, .f32⟩
  | 28 => ⟨S_, .f32⟩
  | 29 => ⟨S_, .f32⟩
  | 30 => ⟨S4x128x128x4x4, .i1⟩
  | 31 => ⟨S4x128x128x4x4, .f32⟩
  | 32 => ⟨S4x128x128x4x4, .f32⟩
  | 33 => ⟨S4x4x128x128, .f32⟩
  | 34 => ⟨S4x128x128x4, .f32⟩
  | 35 => ⟨S4x128x128x4x1, .f32⟩
  | 36 => ⟨S4x128x128x4x4, .f32⟩
  | 37 => ⟨S4x128x128x4x4, .f32⟩
  | 38 => ⟨S4x4x4x64x128, .f32⟩
  | 39 => ⟨S4x128x4x4x64, .f32⟩
  | 40 => ⟨S4x4x4x64x128, .f32⟩
  | 41 => ⟨S4x128x4x4x64, .f32⟩
  | 42 => ⟨S4x128x4x4, .f32⟩
  | 43 => ⟨S4x128x4x4x1, .f32⟩
  | 44 => ⟨S4x128x4x4x64, .f32⟩
  | 45 => ⟨S4x128x4x4x64, .f32⟩
  | 46 => ⟨S4x128x4x4x64, .f32⟩
  | 47 => ⟨S4x1x4x4, .f32⟩
  | 48 => ⟨S4x128x4x4, .f32⟩
  | 49 => ⟨S4x128x4x4, .f32⟩
  | 50 => ⟨S4x128x4x4, .f32⟩
  | 51 => ⟨S4x1x4x4, .f32⟩
  | 52 => ⟨S4x4x4, .f32⟩
  | 53 => ⟨S4x4x4, .f32⟩
  | 54 => ⟨S4x4x4x1x1, .f32⟩
  | 55 => ⟨S4x4x4x64x128, .f32⟩
  | 56 => ⟨S4x4x4x64x128, .f32⟩
  | 57 => ⟨S4x128x4x4x1, .f32⟩
  | 58 => ⟨S4x128x4x4x64, .f32⟩
  | 59 => ⟨S4x128x4x4x64, .f32⟩
  | 60 => ⟨S4x4x4x64x128, .f32⟩
  | 61 => ⟨S4x4x4x64x128, .f32⟩
  | 62 => ⟨S4x4x1, .f32⟩
  | 63 => ⟨S1x1x4x4x1, .f32⟩
  | 64 => ⟨S4x128x4x4x64, .f32⟩
  | 65 => ⟨S4x128x4x4x64, .f32⟩
  | 66 => ⟨S4x128x4x4x64, .f32⟩
  | 67 => ⟨S4x128x1024, .f32⟩
  | 68 => ⟨S4x128x1024, .f32⟩
  | 69 => ⟨S4x128x1024, .f32⟩
  | 70 => ⟨S_, .f32⟩
  | 71 => ⟨S4x128x1024, .f32⟩
  | 72 => ⟨S4x128x1024, .f32⟩
  | 73 => ⟨S_, .f32⟩
  | 74 => ⟨S4x128x1024, .f32⟩
  | 75 => ⟨S4x128x1024, .f32⟩
  | 76 => ⟨S4x128x1024, .f32⟩
  | 77 => ⟨S4x128x1024, .f32⟩
  | 78 => ⟨S4x128x4x256, .f32⟩
  | 79 => ⟨S4x128x4x256, .f32⟩
  | 80 => ⟨S_, .f32⟩
  | 81 => ⟨S4x128x4, .f32⟩
  | 82 => ⟨S4x128x4x1, .f32⟩
  | 83 => ⟨S_, .f32⟩
  | 84 => ⟨S4x128x4x1, .f32⟩
  | 85 => ⟨S4x128x4x1, .f32⟩
  | 86 => ⟨S_, .f32⟩
  | 87 => ⟨S4x128x4x1, .f32⟩
  | 88 => ⟨S4x128x4x1, .f32⟩
  | 89 => ⟨S4x128x4x1, .f32⟩
  | 90 => ⟨S4x128x4x256, .f32⟩
  | 91 => ⟨S4x128x4x256, .f32⟩
  | 92 => ⟨S4x128x1024, .f32⟩
  | 93 => ⟨S1x1x1024, .f32⟩
  | 94 => ⟨S4x128x1024, .f32⟩
  | 95 => ⟨S4x128x1024, .f32⟩
  | 96 => ⟨S1x4x128x1024, .f32⟩
  | 97 => ⟨S_, .i32⟩
  | 98 => ⟨S_, .i32⟩
  | 99 => ⟨S_, .i32⟩
  | 100 => ⟨S16x4x128x1024, .f32⟩
  | 101 => ⟨S_, .i32⟩
  | 102 => ⟨S_, .i32⟩
  | 103 => ⟨S4x16x128x1024, .f32⟩
  | 104 => ⟨S4x2048x1024, .f32⟩
  | 105 => ⟨S4x2048x1024, .bf16⟩
  | 106 => ⟨S4x16x64x128, .f32⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v46 : Ref sig .tc := ⟨.hbm, 76, rfl⟩
abbrev main_c : Ref sig .tc := ⟨.hbm, 77, rfl⟩
abbrev main_v47 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_0 : Ref sig .tc := ⟨.hbm, 85, rfl⟩
abbrev main_call2_v5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_1 : Ref sig .tc := ⟨.hbm, 96, rfl⟩
abbrev main_v57 : Ref sig .tc := ⟨.hbm, 97, rfl⟩
abbrev main_c_2 : Ref sig .tc := ⟨.hbm, 98, rfl⟩
abbrev main_v58_0 : Ref sig .tc := ⟨.hbm, 99, rfl⟩
abbrev main_v58_1 : Ref sig .tc := ⟨.hbm, 100, rfl⟩
abbrev main_v58_2 : Ref sig .tc := ⟨.hbm, 101, rfl⟩
abbrev main_v58_3 : Ref sig .tc := ⟨.hbm, 102, rfl⟩
abbrev main_v58_4 : Ref sig .tc := ⟨.hbm, 103, rfl⟩
abbrev main_v58_5 : Ref sig .tc := ⟨.hbm, 104, rfl⟩
abbrev main_v58_6 : Ref sig .tc := ⟨.hbm, 105, rfl⟩
abbrev main_v58_7 : Ref sig .tc := ⟨.hbm, 106, rfl⟩
abbrev main_v58_8 : Ref sig .tc := ⟨.hbm, 107, rfl⟩
abbrev main_v58_9 : Ref sig .tc := ⟨.hbm, 108, rfl⟩
abbrev main_while0c_c_12 : Ref sig .tc := ⟨.hbm, 109, rfl⟩
abbrev main_while0c_v63 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_v0 : Ref sig .tc := ⟨.hbm, 114, rfl⟩
abbrev main_while0b_v63 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_v0 : Ref sig .tc := ⟨.hbm, 119, rfl⟩
abbrev main_while0b_v64 : Ref sig .tc := ⟨.hbm, 120, rfl⟩
abbrev main_while0b_call5_c : Ref sig .tc := ⟨.hbm, 121, rfl⟩
abbrev main_while0b_call5_c_0 : Ref sig .tc := ⟨.hbm, 122, rfl⟩
abbrev main_while0b_call5_c_1 : Ref sig .tc := ⟨.hbm, 123, rfl⟩
abbrev main_while0b_call5_v0 : Ref sig .tc := ⟨.hbm, 124, rfl⟩
abbrev main_while0b_v65 : Ref sig .tc := ⟨.hbm, 125, rfl⟩
abbrev main_while0b_v66 : Ref sig .tc := ⟨.hbm, 126, rfl⟩
abbrev main_while0b_v67 : Ref sig .tc := ⟨.hbm, 127, rfl⟩
abbrev main_while0b_v68 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_v75 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_call6_call0_cst : Ref sig .tc := ⟨.hbm, 142, rfl⟩
abbrev main_while0b_call6_call0_v0 : Ref sig .tc := ⟨.hbm, 143, rfl⟩
abbrev main_while0b_v82 : Ref sig .tc := ⟨.hbm, 144, rfl⟩
abbrev main_while0b_v83 : Ref sig .tc := ⟨.hbm, 145, rfl⟩
abbrev main_while0b_v84 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_cst_12 : Ref sig .tc := ⟨.hbm, 150, rfl⟩
abbrev main_while0b_call7_v0 : Ref sig .tc := ⟨.hbm, 151, rfl⟩
abbrev main_while0b_call7_v1 : Ref sig .tc := ⟨.hbm, 152, rfl⟩
abbrev main_while0b_call7_v2 : Ref sig .tc := ⟨.hbm, 153, rfl⟩
abbrev main_while0b_v88 : Ref sig .tc := ⟨.hbm, 154, rfl⟩
abbrev main_while0b_v89 : Ref sig .tc := ⟨.hbm, 155, rfl⟩
abbrev main_while0b_cst_13 : Ref sig .tc := ⟨.hbm, 156, rfl⟩
abbrev main_while0b_call8_v0 : Ref sig .tc := ⟨.hbm, 157, rfl⟩
abbrev main_while0b_call8_v1 : Ref sig .tc := ⟨.hbm, 158, rfl⟩
abbrev main_while0b_call8_v2 : Ref sig .tc := ⟨.hbm, 159, rfl⟩
abbrev main_while0b_v90 : Ref sig .tc := ⟨.hbm, 160, rfl⟩
abbrev main_while0b_v91 : Ref sig .tc := ⟨.hbm, 161, rfl⟩
abbrev main_while0b_v92 : Ref sig .tc := ⟨.hbm, 162, rfl⟩
abbrev main_while0b_v93 : Ref sig .tc := ⟨.hbm, 163, rfl⟩
abbrev main_while0b_v94 : Ref sig .tc := ⟨.hbm, 164, rfl⟩
abbrev main_while0b_v95 : Ref sig .tc := ⟨.hbm, 165, rfl⟩
abbrev main_while0b_v96 : Ref sig .tc := ⟨.hbm, 166, rfl⟩
abbrev main_while0b_v97 : Ref sig .tc := ⟨.hbm, 167, rfl⟩
abbrev main_while0b_v98 : Ref sig .tc := ⟨.hbm, 168, rfl⟩
abbrev main_while0b_v99 : Ref sig .tc := ⟨.hbm, 169, rfl⟩
abbrev main_while0b_v100 : Ref sig .tc := ⟨.hbm, 170, rfl⟩
abbrev main_while0b_v101 : Ref sig .tc := ⟨.hbm, 171, rfl⟩
abbrev main_while0b_v102 : Ref sig .tc := ⟨.hbm, 172, rfl⟩
abbrev main_while0b_v103 : Ref sig .tc := ⟨.hbm, 173, rfl⟩
abbrev main_while0b_v104 : Ref sig .tc := ⟨.hbm, 174, rfl⟩
abbrev main_while0b_v105 : Ref sig .tc := ⟨.hbm, 175, rfl⟩
abbrev main_while0b_v106 : Ref sig .tc := ⟨.hbm, 176, rfl⟩
abbrev main_while0b_v107 : Ref sig .tc := ⟨.hbm, 177, rfl⟩
abbrev main_while0b_v108 : Ref sig .tc := ⟨.hbm, 178, rfl⟩
abbrev main_while0b_v109 : Ref sig .tc := ⟨.hbm, 179, rfl⟩
abbrev main_while0b_v110 : Ref sig .tc := ⟨.hbm, 180, rfl⟩
abbrev main_while0b_v111 : Ref sig .tc := ⟨.hbm, 181, rfl⟩
abbrev main_while0b_v112 : Ref sig .tc := ⟨.hbm, 182, rfl⟩
abbrev main_while0b_v113 : Ref sig .tc := ⟨.hbm, 183, rfl⟩
abbrev main_while0b_v114 : Ref sig .tc := ⟨.hbm, 184, rfl⟩
abbrev main_while0b_v115 : Ref sig .tc := ⟨.hbm, 185, rfl⟩
abbrev main_while0b_v116 : Ref sig .tc := ⟨.hbm, 186, rfl⟩
abbrev main_while0b_v117 : Ref sig .tc := ⟨.hbm, 187, rfl⟩
abbrev main_while0b_v118 : Ref sig .tc := ⟨.hbm, 188, rfl⟩
abbrev main_while0b_v119 : Ref sig .tc := ⟨.hbm, 189, rfl⟩
abbrev main_while0b_v120 : Ref sig .tc := ⟨.hbm, 190, rfl⟩
abbrev main_while0b_v121 : Ref sig .tc := ⟨.hbm, 191, rfl⟩
abbrev main_while0b_v122 : Ref sig .tc := ⟨.hbm, 192, rfl⟩
abbrev main_while0b_v123 : Ref sig .tc := ⟨.hbm, 193, rfl⟩
abbrev main_while0b_v124 : Ref sig .tc := ⟨.hbm, 194, rfl⟩
abbrev main_while0b_v125 : Ref sig .tc := ⟨.hbm, 195, rfl⟩
abbrev main_while0b_call9_v0 : Ref sig .tc := ⟨.hbm, 196, rfl⟩
abbrev main_while0b_call9_v1 : Ref sig .tc := ⟨.hbm, 197, rfl⟩
abbrev main_while0b_call9_cst : Ref sig .tc := ⟨.hbm, 198, rfl⟩
abbrev main_while0b_call9_v2 : Ref sig .tc := ⟨.hbm, 199, rfl⟩
abbrev main_while0b_call9_v3 : Ref sig .tc := ⟨.hbm, 200, rfl⟩
abbrev main_while0b_call9_cst_0 : Ref sig .tc := ⟨.hbm, 201, rfl⟩
abbrev main_while0b_call9_v4 : Ref sig .tc := ⟨.hbm, 202, rfl⟩
abbrev main_while0b_call9_v5 : Ref sig .tc := ⟨.hbm, 203, rfl⟩
abbrev main_while0b_v126 : Ref sig .tc := ⟨.hbm, 204, rfl⟩
abbrev main_while0b_v127 : Ref sig .tc := ⟨.hbm, 205, rfl⟩
abbrev main_while0b_v128 : Ref sig .tc := ⟨.hbm, 206, rfl⟩
abbrev main_while0b_v129 : Ref sig .tc := ⟨.hbm, 207, rfl⟩
abbrev main_while0b_cst_14 : Ref sig .tc := ⟨.hbm, 208, rfl⟩
abbrev main_while0b_v130 : Ref sig .tc := ⟨.hbm, 209, rfl⟩
abbrev main_while0b_v131 : Ref sig .tc := ⟨.hbm, 210, rfl⟩
abbrev main_while0b_cst_15 : Ref sig .tc := ⟨.hbm, 211, rfl⟩
abbrev main_while0b_v132 : Ref sig .tc := ⟨.hbm, 212, rfl⟩
abbrev main_while0b_v133 : Ref sig .tc := ⟨.hbm, 213, rfl⟩
abbrev main_while0b_cst_16 : Ref sig .tc := ⟨.hbm, 214, rfl⟩
abbrev main_while0b_v134 : Ref sig .tc := ⟨.hbm, 215, rfl⟩
abbrev main_while0b_v135 : Ref sig .tc := ⟨.hbm, 216, rfl⟩
abbrev main_while0b_v136 : Ref sig .tc := ⟨.hbm, 217, rfl⟩
abbrev main_while0b_v137 : Ref sig .tc := ⟨.hbm, 218, rfl⟩
abbrev main_while0b_v138 : Ref sig .tc := ⟨.hbm, 219, rfl⟩
abbrev main_while0b_v139 : Ref sig .tc := ⟨.hbm, 220, rfl⟩
abbrev main_while0b_v140 : Ref sig .tc := ⟨.hbm, 221, rfl⟩
abbrev main_while0b_v141 : Ref sig .tc := ⟨.hbm, 222, rfl⟩
abbrev main_while0b_v142 : Ref sig .tc := ⟨.hbm, 223, rfl⟩
abbrev main_while0b_call10_v0 : Ref sig .tc := ⟨.hbm, 224, rfl⟩
abbrev main_while0b_call10_c : Ref sig .tc := ⟨.hbm, 225, rfl⟩
abbrev main_while0b_call10_c_0 : Ref sig .tc := ⟨.hbm, 226, rfl⟩
abbrev main_while0b_call10_c_1 : Ref sig .tc := ⟨.hbm, 227, rfl⟩
abbrev main_while0b_v143 : Ref sig .tc := ⟨.hbm, 228, rfl⟩
abbrev main_while0b_c_17 : Ref sig .tc := ⟨.hbm, 229, rfl⟩
abbrev main_while0b_v144 : Ref sig .tc := ⟨.hbm, 230, rfl⟩
abbrev main_v59 : Ref sig .tc := ⟨.hbm, 231, rfl⟩
abbrev main_v60 : Ref sig .tc := ⟨.hbm, 232, rfl⟩
abbrev main_v61 : Ref sig .tc := ⟨.hbm, 233, rfl⟩
abbrev main_v62 : Ref sig .tc := ⟨.hbm, 234, rfl⟩

abbrev nD : Nat := 1
abbrev τ : Topo := Topo.v7x

variable {F : FTy → Type} [FloatOps F]

abbrev main_while0_count : Scf.Loop 32 := ⟨0#32, 16#32, 1#32⟩
-- ==== Proj.lean ====
abbrev S8192x2048 : Shape := ⟨2, ![8192, 2048]⟩
abbrev S1x2048 : Shape := ⟨2, ![1, 2048]⟩
abbrev S2048x6144 : Shape := ⟨2, ![2048, 6144]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6144, .bf16⟩
  | .hbm, ⟨3, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8192x2048 : Shape := ⟨2, ![8192, 2048]⟩
abbrev S1x2048 : Shape := ⟨2, ![1, 2048]⟩
abbrev S2048x6144 : Shape := ⟨2, ![2048, 6144]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x6144, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x6144, .f32⟩
  | .hbm, ⟨19, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnUp.lean ====
abbrev S8192x2048 : Shape := ⟨2, ![8192, 2048]⟩
abbrev S2048x5632 : Shape := ⟨2, ![2048, 5632]⟩
abbrev S8x5632 : Shape := ⟨2, ![8, 5632]⟩
abbrev S1x5632 : Shape := ⟨2, ![1, 5632]⟩
abbrev S8192x5632 : Shape := ⟨2, ![8192, 5632]⟩
abbrev S4x8x5632 : Shape := ⟨3, ![4, 8, 5632]⟩
abbrev S1024x2048 : Shape := ⟨2, ![1024, 2048]⟩
abbrev S2048x512 : Shape := ⟨2, ![2048, 512]⟩
abbrev S8x512 : Shape := ⟨2, ![8, 512]⟩
abbrev S1x512 : Shape := ⟨2, ![1, 512]⟩
abbrev S1024x512 : Shape := ⟨2, ![1024, 512]⟩
abbrev S1x8x512 : Shape := ⟨3, ![1, 8, 512]⟩
abbrev S1024x1 : Shape := ⟨2, ![1024, 1]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8x5632, .f32⟩
  | .hbm, ⟨4, _⟩ => ⟨S1x5632, .f32⟩
  | .hbm, ⟨5, _⟩ => ⟨S8192x5632, .bf16⟩
  | .hbm, ⟨6, _⟩ => ⟨S4x8x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1x8x512, .f32⟩
  | .local _ .vmem, ⟨13, _⟩ => ⟨S1x8x512, .f32⟩
  | .local _ .vmem, ⟨14, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 11, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnUpRefIdeal.lean ====
abbrev S8192x2048 : Shape := ⟨2, ![8192, 2048]⟩
abbrev S2048x5632 : Shape := ⟨2, ![2048, 5632]⟩
abbrev S8x5632 : Shape := ⟨2, ![8, 5632]⟩
abbrev S1x5632 : Shape := ⟨2, ![1, 5632]⟩
abbrev S4x2048x2048 : Shape := ⟨3, ![4, 2048, 2048]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S3x5632 : Shape := ⟨2, ![3, 5632]⟩
abbrev S5632 : Shape := ⟨1, ![5632]⟩
abbrev S1x1x5632 : Shape := ⟨3, ![1, 1, 5632]⟩
abbrev S8192x5632 : Shape := ⟨2, ![8192, 5632]⟩
abbrev S4x8x5632 : Shape := ⟨3, ![4, 8, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8x5632, .f32⟩
  | .hbm, ⟨4, _⟩ => ⟨S1x5632, .f32⟩
  | .hbm, ⟨5, _⟩ => ⟨S8192x2048, .f32⟩
  | .hbm, ⟨6, _⟩ => ⟨S4x2048x2048, .f32⟩
  | .hbm, ⟨7, _⟩ => ⟨S2048x5632, .f32⟩
  | .hbm, ⟨8, _⟩ => ⟨S4x2048x5632, .f32⟩
  | .hbm, ⟨9, _⟩ => ⟨S_, .f32⟩
  | .hbm, ⟨10, _⟩ => ⟨S4x2x5632, .f32⟩
  | .hbm, ⟨11, _⟩ => ⟨S4x2050x5632, .f32⟩
  | .hbm, ⟨12, _⟩ => ⟨S3x5632, .f32⟩
  | .hbm, ⟨13, _⟩ => ⟨S5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S_, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S_, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S_, .f32⟩
  | .hbm, ⟨48, _⟩ => ⟨S4x2048x5632, .f32⟩
  | .hbm, ⟨49, _⟩ => ⟨S4x2048x5632, .f32⟩
  | .hbm, ⟨50, _⟩ => ⟨S_, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S2048x5632, .f32⟩
  | .hbm, ⟨55, _⟩ => ⟨S4x2048x5632, .f32⟩
  | .hbm, ⟨56, _⟩ => ⟨S4x2048x5632, .f32⟩
  | .hbm, ⟨57, _⟩ => ⟨S8192x5632, .f32⟩
  | .hbm, ⟨58, _⟩ => ⟨S8192x5632, .bf16⟩
  | .hbm, ⟨59, _⟩ => ⟨S4x8x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x512 : Shape := ⟨2, ![1024, 512]⟩
abbrev S512x2048 : Shape := ⟨2, ![512, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDownRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.SsdMath.lean ====
/- The mathematics of the state-space duality scan, over the extended reals: one chunk of 128 positions as
   functions of the convolved channels, the time steps, the decay rates and the state that enters the chunk;
   and the facts about sums and about the three-piece splitting that both programs' readings rest on. -/
module

public import Idealize.ShloMosaic.Lib.Pointwise

@[expose] public section

noncomputable section

open Idealize.ShloMosaic

namespace Cert.Proof.Ssd

/-! ## Facts about the extended reals -/

/-- A value below `⊤` is the sum of its three pieces, the second and third of which are differences of it with itself. -/
theorem split_exact {x : EReal} (hx : x ≠ ⊤) : x + (x - x) + ((x - x) - (x - x)) = x := by
  induction x with
  | bot => simp
  | top => exact absurd rfl hx
  | coe r => simp [← EReal.coe_sub]

/-- A sum of three sums, over the three pieces of each term under weights that are 0 or 1, is the sum of the terms. -/
theorem sum_pieces {n : ℕ} (w a : Fin n → EReal) (hw : ∀ j, w j = 0 ∨ w j = 1) (ha : ∀ j, a j ≠ ⊤) :
    (∑ j, w j * a j + ∑ j, w j * (a j - a j)) + ∑ j, w j * ((a j - a j) - (a j - a j)) = ∑ j, w j * a j := by
  rw [← Finset.sum_add_distrib, ← Finset.sum_add_distrib]
  refine Finset.sum_congr rfl fun j _ => ?_
  rcases hw j with h | h
  · simp [h]
  · simp only [h, one_mul]; exact split_exact (ha j)

/-- The same with the weights on the right. -/
theorem sum_pieces_right {n : ℕ} (w a : Fin n → EReal) (hw : ∀ j, w j = 0 ∨ w j = 1) (ha : ∀ j, w j = 1 → a j ≠ ⊤) :
    (∑ j, a j * w j + ∑ j, (a j - a j) * w j) + ∑ j, ((a j - a j) - (a j - a j)) * w j = ∑ j, a j * w j := by
  rw [← Finset.sum_add_distrib, ← Finset.sum_add_distrib]
  refine Finset.sum_congr rfl fun j _ => ?_
  rcases hw j with h | h
  · simp [h]
  · simp only [h, mul_one]; exact split_exact (ha j h)

/-- The smooth positive part, as both programs compute it. -/
def softplus (x : EReal) : EReal := max x 0 + Ideal.log1p (Ideal.exp (-(max x (-x))))

theorem exp_nonneg (x : EReal) : 0 ≤ Ideal.exp x := by
  induction x with
  | bot => simp
  | top => simp
  | coe r => rw [Ideal.exp_coe]; exact_mod_cast (Real.exp_pos r).le

theorem exp_ne_top {x : EReal} (hx : x ≠ ⊤) : Ideal.exp x ≠ ⊤ := by
  induction x with
  | bot => simp
  | top => exact absurd rfl hx
  | coe r => rw [Ideal.exp_coe]; exact EReal.coe_ne_top _

/-- `log1p (exp (-|x|))` of a real is a nonnegative real. -/
theorem log1p_exp_coe (r : ℝ) : ∃ s : ℝ, 0 ≤ s ∧ Ideal.log1p (Ideal.exp (r : EReal)) = (s : EReal) := by
  refine ⟨Real.log (1 + Real.exp r), Real.log_nonneg (by linarith [Real.exp_pos r]), ?_⟩
  have h : (1 : EReal) + ((Real.exp r : ℝ) : EReal) = ((1 + Real.exp r : ℝ) : EReal) := by
    rw [← EReal.coe_one, ← EReal.coe_add]
  have hn : ¬ (1 + Real.exp r ≤ 0) := by linarith [Real.exp_pos r]
  rw [Ideal.exp_coe]
  simp only [Ideal.log1p]
  first
    | rw [h, Ideal.log_coe, if_neg hn]
    | (rw [add_comm, h, Ideal.log_coe, if_neg hn])

theorem softplus_nonneg (x : EReal) : 0 ≤ softplus x := by
  have h0 : Ideal.log1p 0 = 0 := by
    simp only [Ideal.log1p, add_zero, zero_add]
    rw [← EReal.coe_one, Ideal.log_coe]; simp
  induction x with
  | bot => simp [softplus, h0]
  | top => simp [softplus, h0]
  | coe r =>
    obtain ⟨s, hs, e⟩ := log1p_exp_coe (-(max r (-r)))
    have : softplus (r : EReal) = max (r : EReal) 0 + (s : EReal) := by
      rw [softplus, ← e]; congr 3
    rw [this]
    exact add_nonneg (le_max_right _ _) (by exact_mod_cast hs)

theorem softplus_ne_top {x : EReal} (hx : x ≠ ⊤) : softplus x ≠ ⊤ := by
  have h0 : Ideal.log1p 0 = 0 := by
    simp only [Ideal.log1p, add_zero, zero_add]
    rw [← EReal.coe_one, Ideal.log_coe]; simp
  induction x with
  | bot => simp [softplus, h0]
  | top => exact absurd rfl hx
  | coe r =>
    obtain ⟨s, hs, e⟩ := log1p_exp_coe (-(max r (-r)))
    have : softplus (r : EReal) = max (r : EReal) 0 + (s : EReal) := by
      rw [softplus, ← e]; congr 3
    rw [this, ← EReal.coe_zero, ← EReal.coe_strictMono.monotone.map_max, ← EReal.coe_add]
    exact EReal.coe_ne_top _

/-! ## One chunk -/

/-- `x · logistic x`. -/
def silu (x : EReal) : EReal := x * Ideal.logistic x

section Chunk

variable (xc : Fin 128 → Fin 2048 → EReal) (dt : Fin 128 → Fin 16 → EReal) (al : Fin 16 → EReal)
  (H : Fin 16 → Fin 64 → Fin 128 → EReal) (z : Fin 128 → Fin 1024 → EReal) (dsk : Fin 16 → EReal)
  (ng : Fin 1024 → EReal)

/-- The column of head `h`, lane `p`, among the 1024 inner channels. -/
def col (h : Fin 16) (p : Fin 64) : Fin 1024 := ⟨64 * h.val + p.val, by omega⟩

/-- The head a column belongs to. -/
def headOf (c : Fin 1024) : Fin 16 := ⟨c.val / 64, by omega⟩

/-- The channel of an inner column, and of state lane `n` of the group of head `h` on the input and the output side. -/
def chX (c : Fin 1024) : Fin 2048 := ⟨c.val, by omega⟩
def chB (h : Fin 16) (n : Fin 128) : Fin 2048 := ⟨1024 + (128 * (h.val / 4) + n.val), by omega⟩
def chC (h : Fin 16) (n : Fin 128) : Fin 2048 := ⟨1536 + (128 * (h.val / 4) + n.val), by omega⟩

/-- The log decay of one position: the time step against the negated rate. -/
def logDecay (j : Fin 128) (h : Fin 16) : EReal := dt j h * -(Ideal.exp (al h))

/-- The log decay from the chunk's start through position `i`. -/
def acum (i : Fin 128) (h : Fin 16) : EReal := ∑ j : Fin 128, if j ≤ i then logDecay dt al j h else 0

/-- What position `j` puts into the state, per lane of the head. -/
def xin (j : Fin 128) (h : Fin 16) (p : Fin 64) : EReal := xc j (chX (col h p)) * dt j h

/-- The decay from position `j` to position `i`, and 0 where `j` is later. -/
def decay (i j : Fin 128) (h : Fin 16) : EReal :=
  if j ≤ i then Ideal.exp (acum dt al i h - acum dt al j h) else 0

/-- The part of the output that comes from the chunk's own positions. -/
def yDiag (i : Fin 128) (h : Fin 16) (p : Fin 64) : EReal :=
  ∑ j : Fin 128, (∑ n : Fin 128, xc i (chC h n) * xc j (chB h n)) * decay dt al i j h * xin xc dt j h p

/-- The part that comes from the state entering the chunk. -/
def yState (i : Fin 128) (h : Fin 16) (p : Fin 64) : EReal :=
  (∑ n : Fin 128, xc i (chC h n) * H h p n) * Ideal.exp (acum dt al i h)

/-- The state after the chunk. -/
def stateNext (h : Fin 16) (p : Fin 64) (n : Fin 128) : EReal :=
  H h p n * Ideal.exp (acum dt al 127 h)
    + ∑ j : Fin 128, xin xc dt j h p * Ideal.exp (acum dt al 127 h - acum dt al j h) * xc j (chB h n)

/-- The output with its skip, under the gate. -/
def gated (i : Fin 128) (h : Fin 16) (p : Fin 64) : EReal :=
  (yDiag xc dt al i h p + yState xc dt al H i h p + xc i (chX (col h p)) * dsk h) * silu (z i (col h p))

/-- Lane `k` of 256 of group `g`, as head and lane of the head. -/
def headIn (g : Fin 4) (k : Fin 256) : Fin 16 := ⟨4 * g.val + k.val / 64, by omega⟩
def laneIn (k : Fin 256) : Fin 64 := ⟨k.val % 64, by omega⟩

/-- The mean square of a group's gated outputs. -/
def meanSq (i : Fin 128) (g : Fin 4) : EReal :=
  Ideal.div (∑ k : Fin 256, gated xc dt al H z dsk i (headIn g k) (laneIn k) * gated xc dt al H z dsk i (headIn g k) (laneIn k))
    (Ideal.ofBits .f32 0x43800000#32)

/-- The chunk's output: the gated values over their group's root mean square, times the gain. -/
def yOut (i : Fin 128) (h : Fin 16) (p : Fin 64) : EReal :=
  gated xc dt al H z dsk i h p
      * Ideal.rsqrt (meanSq xc dt al H z dsk i ⟨h.val / 4, by omega⟩ + Ideal.ofBits .f32 0x358637BD#32)
    * ng (col h p)

end Chunk

/-! ## Signs -/

section Sign

variable {dt : Fin 128 → Fin 16 → EReal} {al : Fin 16 → EReal}

theorem logDecay_nonpos (hd : ∀ j h, 0 ≤ dt j h) (j : Fin 128) (h : Fin 16) : logDecay dt al j h ≤ 0 := by
  rw [logDecay, mul_neg, ← neg_zero (G := EReal), EReal.neg_le_neg_iff]
  exact mul_nonneg (hd j h) (exp_nonneg _)

theorem acum_nonpos (hd : ∀ j h, 0 ≤ dt j h) (i : Fin 128) (h : Fin 16) : acum dt al i h ≤ 0 := by
  refine Finset.sum_nonpos fun j _ => ?_
  split
  · exact logDecay_nonpos hd j h
  · exact le_rfl

/-- The accumulated log decay only falls. -/
theorem acum_anti (hd : ∀ j h, 0 ≤ dt j h) {i i' : Fin 128} (hi : i ≤ i') (h : Fin 16) :
    acum dt al i' h ≤ acum dt al i h := by
  refine Finset.sum_le_sum fun j _ => ?_
  by_cases h1 : j ≤ i
  · rw [if_pos h1, if_pos (h1.trans hi)]
  · rw [if_neg h1]; split
    · exact logDecay_nonpos hd j h
    · exact le_rfl

theorem ne_top_of_nonpos {x : EReal} (h : x ≤ 0) : x ≠ ⊤ := fun e => by simp [e] at h

/-- The decay to the chunk's end has an exponent below `⊤`. -/
theorem toEnd_ne_top (hd : ∀ j h, 0 ≤ dt j h) (i : Fin 128) (h : Fin 16) :
    acum dt al 127 h - acum dt al i h ≠ ⊤ := by
  have h1 := ne_top_of_nonpos (acum_nonpos (al := al) hd 127 h)
  have h2 := acum_anti (al := al) hd (i := i) (i' := 127) (Fin.le_last i) h
  generalize acum dt al 127 h = x at *
  generalize acum dt al i h = y at *
  induction y with
  | bot => have : x = ⊥ := le_bot_iff.mp h2
           subst this; simp
  | top => simp
  | coe r => induction x with
    | bot => simp
    | top => exact absurd rfl h1
    | coe s => rw [← EReal.coe_sub]; exact EReal.coe_ne_top _

end Sign

end Cert.Proof.Ssd

end
-- ==== Proof.SsdScan.lean ====
/- One trip of the reference's loop over the chunks, read at an index: the state it carries on and the rows it writes. -/
module

public import proofs.«01_k».proof.Proof.SsdMath
public import proofs.«01_k».proof.Proof.Gen.SsdRefIdeal.Run
public import Idealize.ShloMosaic.Lib.Pointwise

@[expose] public section

set_option maxRecDepth 16384

noncomputable section

open Idealize.ShloMosaic Idealize.ShloMosaic.TcCoe Idealize.SL.Sem Cert.SsdRefIdeal Cert.SsdRefIdeal.Gen Cert.SsdRefIdeal.Value

namespace Cert.Proof.Ssd

/-! ## The running sum -/

theorem foldl_add_eq {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of 128 padded low by 127 sums what is at or before its position. -/
theorem sum_shift (f : Fin 128 → EReal) (i : Fin 128) :
    (∑ m : Fin 128, if h : 127 ≤ i.val + m.val then f ⟨i.val + m.val - 127, by omega⟩ else 0) = ∑ j : Fin 128, if j ≤ i then f j else 0 := by
  have h1 : (∑ m : Fin 128, if h : 127 ≤ i.val + m.val then f ⟨i.val + m.val - 127, by omega⟩ else 0)
      = ∑ m ∈ Finset.univ.filter (fun m : Fin 128 => 127 ≤ i.val + m.val), f ⟨i.val + m.val - 127, by omega⟩ := by
    rw [Finset.sum_filter]
    exact Finset.sum_congr rfl fun m _ => by split_ifs <;> rfl
  rw [h1, ← Finset.sum_filter]
  refine Finset.sum_bij' (fun m hm => ⟨i.val + m.val - 127, by omega⟩) (fun j hj => ⟨(j.val + 127 - i.val) % 128, by omega⟩) ?_ ?_ ?_ ?_ ?_
  · intro m hm
    simp only [Finset.mem_filter, Finset.mem_univ, true_and] at hm ⊢
    rw [Fin.le_def]; dsimp only; omega
  · intro j hj
    simp only [Finset.mem_filter, Finset.mem_univ, true_and, Fin.le_def] at hj ⊢
    omega
  · intro m hm
    simp only [Finset.mem_filter, Finset.mem_univ, true_and] at hm
    exact Fin.ext (by dsimp only; omega)
  · intro j hj
    simp only [Finset.mem_filter, Finset.mem_univ, true_and, Fin.le_def] at hj
    exact Fin.ext (by dsimp only; omega)
  · intro m hm
    rfl

theorem cumsum_at (x : FVec Ideal S4x128x4x4 .f32) (init : S_.Idx → Ideal .f32) (h0 : ∀ i, init i = (0 : EReal)) (b : Fin 4) (i : Fin 128) (g r : Fin 4) :
    Host.reduceWindowAdd ![1, 128, 1, 1] ![1, 1, 1, 1] ![0, 127, 0, 0] ![0, 0, 0, 0] x init reduceWindows_S4x128x4x4_S4x128x4x4_w1s1p0_0_w128s1p127_0_w1s1p0_0_w1s1p0_0 h_S_ (ix4 b i g r)
      = ∑ j : Fin 128, if j ≤ i then (x (ix4 b j g r) : EReal) else 0 := by
  rw [← sum_shift (fun j => x (ix4 b j g r)) i]
  let W : Shape := ⟨4, ![1, 128, 1, 1]⟩
  let P : W.Idx → EReal := fun w => if hin : 127 ≤ i.val + (w 1).val then x (ix4 b ⟨i.val + (w 1).val - 127, by have := (w 1).isLt; simp [W] at this; omega⟩ g r) else 0
  refine Eq.trans (b := (0 : EReal) + ((List.finRange W.numel).map (fun n => P (W.rowMajor.symm n))).sum) ?_ ?_
  · refine Eq.trans ?_ (foldl_add_eq (fun n => P (W.rowMajor.symm n)) (List.finRange W.numel) 0)
    show Ideal.hostReduceWindowAdd ![1, 128, 1, 1] ![1, 1, 1, 1] ![0, 127, 0, 0] ![0, 0, 0, 0] reduceWindows_S4x128x4x4_S4x128x4x4_w1s1p0_0_w128s1p127_0_w1s1p0_0_w1s1p0_0 x (init (Shape.Idx.first h_S_)) (ix4 b i g r) = _
    rw [h0]
    unfold Ideal.hostReduceWindowAdd Host.reduceWindow
    dsimp only
    congr 1
    funext r' n
    congr 1
    dsimp only [P]
    have hz : ∀ a : Fin 4, a ≠ 1 → (W.rowMajor.symm n a).val = 0 := by
      intro a ha
      have := (W.rowMajor.symm n a).isLt
      fin_cases a <;> simp [W] at * <;> omega
    by_cases hin : 127 ≤ i.val + (W.rowMajor.symm n 1).val
    · have h1 := (W.rowMajor.symm n 1).isLt
      change _ < 128 at h1
      rw [dif_pos hin, dif_pos]
      · refine congrArg x (funext fun a => Fin.ext ?_)
        fin_cases a
        · show b.val * 1 + (W.rowMajor.symm n 0).val - 0 = b.val
          rw [hz 0 (by decide)]; omega
        · show i.val * 1 + (W.rowMajor.symm n 1).val - 127 = i.val + (W.rowMajor.symm n 1).val - 127
          omega
        · show g.val * 1 + (W.rowMajor.symm n 2).val - 0 = g.val
          rw [hz 2 (by decide)]; omega
        · show r.val * 1 + (W.rowMajor.symm n 3).val - 0 = r.val
          rw [hz 3 (by decide)]; omega
      · intro a
        fin_cases a
        · show 0 ≤ b.val * 1 + (W.rowMajor.symm n 0).val ∧ b.val * 1 + (W.rowMajor.symm n 0).val - 0 < 4
          rw [hz 0 (by decide)]; omega
        · show 127 ≤ i.val * 1 + (W.rowMajor.symm n 1).val ∧ i.val * 1 + (W.rowMajor.symm n 1).val - 127 < 128
          omega
        · show 0 ≤ g.val * 1 + (W.rowMajor.symm n 2).val ∧ g.val * 1 + (W.rowMajor.symm n 2).val - 0 < 4
          rw [hz 2 (by decide)]; omega
        · show 0 ≤ r.val * 1 + (W.rowMajor.symm n 3).val ∧ r.val * 1 + (W.rowMajor.symm n 3).val - 0 < 4
          rw [hz 3 (by decide)]; omega
    · rw [dif_neg hin, dif_neg]
      intro hall
      have h1 : 127 ≤ i.val * 1 + (W.rowMajor.symm n 1).val := (hall 1).1
      omega
  · rw [zero_add, ← Fin.sum_univ_def]
    refine (Equiv.sum_comp W.rowMajor.symm P).trans ?_
    refine Fintype.sum_equiv ⟨fun w => (w 1 : Fin 128), fun m => (ix4 (0 : Fin 1) m (0 : Fin 1) (0 : Fin 1) : W.Idx), ?_, ?_⟩ _ _ ?_
    · intro w
      funext a
      fin_cases a
      · exact Subsingleton.elim (α := Fin 1) _ _
      · rfl
      · exact Subsingleton.elim (α := Fin 1) _ _
      · exact Subsingleton.elim (α := Fin 1) _ _
    · intro m; rfl
    · intro w; rfl

/-! ## The values of a trip -/

section Trip

variable (V0 : Valuation τ sig (Elt Ideal)) (k : Fin 16) (b : Fin 4)

/-- The rows, steps, rates, state, gate, skip and gain of chunk `k` of batch `b`. -/
def rXc (j : Fin 128) (c : Fin 2048) : EReal := V0 (Proc.devRef .tc main_v58_1) (ix4 k b j c)
def rDt (j : Fin 128) (h : Fin 16) : EReal := V0 (Proc.devRef .tc main_v58_2) (ix4 k b j h)
def rAl (h : Fin 16) : EReal := V0 (Proc.devRef .tc main_v58_3) (ix1 h)
def rH (h : Fin 16) (p : Fin 64) (n : Fin 128) : EReal := V0 (Proc.devRef .tc main_v58_8) (ix5 b (⟨h.val / 4, by omega⟩ : Fin 4) (⟨h.val % 4, by omega⟩ : Fin 4) p n)
def rZ (j : Fin 128) (c : Fin 1024) : EReal := V0 (Proc.devRef .tc main_v58_0) (ix4 k b j c)
def rDsk (h : Fin 16) : EReal := V0 (Proc.devRef .tc main_v58_5) (ix1 h)
def rNg (c : Fin 1024) : EReal := V0 (Proc.devRef .tc main_v58_6) (ix1 c)

/-- The mask of the pairs (position, earlier position). -/
def Masked : Prop := ∀ i j : Fin 128, (V0 (Proc.devRef .tc main_v58_4) (ix5 (0 : Fin 1) i j (0 : Fin 1) (0 : Fin 1)) : BitVec 1) = if j ≤ i then 1#1 else 0#1

/-- Head `r` of group `g`. -/
def hd (g r : Fin 4) : Fin 16 := ⟨4 * g.val + r.val, by omega⟩

variable {V0 k b} (hk : V0 (Proc.devRef .tc main_v58_7) = fun _ => Scf.iv 0#32 1#32 k.val) (hm : Masked V0)
include hk

theorem start0 {s t : Shape} (hs : s.rank = 4) (ht : t.rank = s.rank) (h0 : s.size ⟨0, by omega⟩ = 16) (h1 : t.size ⟨0, by omega⟩ = 1) :
    Host.clampedStart s t ht (fun a => BitVec.toInt (![V0 (Proc.devRef .tc main_v58_7), constantI S_ 32 0#32, constantI S_ 32 0#32, constantI S_ 32 0#32] (a.cast hs) (Shape.Idx.first h_S_))) ⟨0, by omega⟩ = k.val := by
  refine Host.clampedStart_of_le ht _ _ k.val ?_ ?_
  · show BitVec.toInt (V0 (Proc.devRef .tc main_v58_7) (Shape.Idx.first h_S_)) = _
    rw [hk]
    exact (by decide : ∀ k : Fin 16, BitVec.toInt (Scf.iv 0#32 1#32 k.val) = (k.val : Int)) k
  · rw [h0]
    have : t.size (Fin.cast ht.symm ⟨0, by omega⟩) = 1 := h1
    omega

omit hk in
theorem start123 {s t : Shape} (hs : s.rank = 4) (ht : t.rank = s.rank) (a : Fin s.rank) (ha : a.val ≠ 0) (h1 : t.size (a.cast ht.symm) ≤ s.size a) :
    Host.clampedStart s t ht (fun a => BitVec.toInt (![V0 (Proc.devRef .tc main_v58_7), constantI S_ 32 0#32, constantI S_ 32 0#32, constantI S_ 32 0#32] (a.cast hs) (Shape.Idx.first h_S_))) a = 0 := by
  refine Host.clampedStart_of_le ht _ _ 0 ?_ (by omega)
  show BitVec.toInt (![V0 (Proc.devRef .tc main_v58_7), constantI S_ 32 0#32, constantI S_ 32 0#32, constantI S_ 32 0#32] (a.cast hs) (Shape.Idx.first h_S_)) = 0
  have hq : a.cast hs ≠ 0 := fun e => ha (congrArg Fin.val e)
  generalize a.cast hs = q at hq
  fin_cases q
  · exact absurd rfl hq
  · rfl
  · rfl
  · rfl

theorem v63_at (i : Fin 128) (c : Fin 1024) : res_main_while0b_v63 V0 (ix3 b i c) = rZ V0 k b i c := by
  pointwise [res_main_while0b_v63]
  refine congrArg _ (funext fun a => Fin.ext ?_)
  fin_cases a
  · exact congrArg (· + 0) (start0 (s := S16x4x128x1024) (t := S1x4x128x1024) hk rfl rfl rfl rfl)
  · exact (congrArg (· + b.val) (start123 (V0 := V0) (s := S16x4x128x1024) (t := S1x4x128x1024) rfl rfl 1 (by decide) (by decide))).trans (by simp)
  · exact (congrArg (· + i.val) (start123 (V0 := V0) (s := S16x4x128x1024) (t := S1x4x128x1024) rfl rfl 2 (by decide) (by decide))).trans (by simp)
  · exact (congrArg (· + c.val) (start123 (V0 := V0) (s := S16x4x128x1024) (t := S1x4x128x1024) rfl rfl 3 (by decide) (by decide))).trans (by simp)

theorem v64_at (i : Fin 128) (c : Fin 2048) : res_main_while0b_v64 V0 (ix3 b i c) = rXc V0 k b i c := by
  pointwise [res_main_while0b_v64]
  refine congrArg _ (funext fun a => Fin.ext ?_)
  fin_cases a
  · exact congrArg (· + 0) (start0 (s := S16x4x128x2048) (t := S1x4x128x2048) hk rfl rfl rfl rfl)
  · exact (congrArg (· + b.val) (start123 (V0 := V0) (s := S16x4x128x2048) (t := S1x4x128x2048) rfl rfl 1 (by decide) (by decide))).trans (by simp)
  · exact (congrArg (· + i.val) (start123 (V0 := V0) (s := S16x4x128x2048) (t := S1x4x128x2048) rfl rfl 2 (by decide) (by decide))).trans (by simp)
  · exact (congrArg (· + c.val) (start123 (V0 := V0) (s := S16x4x128x2048) (t := S1x4x128x2048) rfl rfl 3 (by decide) (by decide))).trans (by simp)

theorem v72_at (i : Fin 128) (g r : Fin 4) : res_main_while0b_v72 V0 (ix4 b i g r) = rDt V0 k b i (hd g r) := by
  pointwise [res_main_while0b_v72]
  refine congrArg _ (funext fun a => Fin.ext ?_)
  fin_cases a
  · exact congrArg (· + 0) (start0 (s := S16x4x128x16) (t := S1x4x128x16) hk rfl rfl rfl rfl)
  · exact (congrArg (· + b.val) (start123 (V0 := V0) (s := S16x4x128x16) (t := S1x4x128x16) rfl rfl 1 (by decide) (by decide))).trans (by simp)
  · exact (congrArg (· + i.val) (start123 (V0 := V0) (s := S16x4x128x16) (t := S1x4x128x16) rfl rfl 2 (by decide) (by decide))).trans (by simp)
  · exact (congrArg (· + (g.val * 4 + r.val)) (start123 (V0 := V0) (s := S16x4x128x16) (t := S1x4x128x16) rfl rfl 3 (by decide) (by decide))).trans (by simp [hd]; omega)

theorem v67_at (i : Fin 128) (g r : Fin 4) (p : Fin 64) : res_main_while0b_v67 V0 (ix5 b i g r p) = rXc V0 k b i (chX (col (hd g r) p)) := by
  pointwise [res_main_while0b_v67]
  refine (v64_at hk i _).trans (congrArg _ (Fin.ext ?_))
  simp [chX, col, hd]; omega

theorem v69_at (i : Fin 128) (g r : Fin 4) (n : Fin 128) : res_main_while0b_v69 V0 (ix4 b i g n) = rXc V0 k b i (chB (hd g r) n) := by
  pointwise [res_main_while0b_v69]
  refine (v64_at hk i _).trans (congrArg _ (Fin.ext ?_))
  simp [chB, hd]; omega

theorem v71_at (i : Fin 128) (g r : Fin 4) (n : Fin 128) : res_main_while0b_v71 V0 (ix4 b i g n) = rXc V0 k b i (chC (hd g r) n) := by
  pointwise [res_main_while0b_v71]
  refine (v64_at hk i _).trans (congrArg _ (Fin.ext ?_))
  simp [chC, hd]; omega

theorem v75_at (i : Fin 128) (g r : Fin 4) (p : Fin 64) : res_main_while0b_v75 V0 (ix5 b i g r p) = xin (rXc V0 k b) (rDt V0 k b) i (hd g r) p := by
  pointwise [res_main_while0b_v75]
  rw [v67_at hk, v72_at hk]; rfl

theorem v82_at (i : Fin 128) (g r : Fin 4) : res_main_while0b_v82 V0 (ix4 b i g r) = acum (rDt V0 k b) (rAl V0) i (hd g r) := by
  unfold res_main_while0b_v82
  refine (cumsum_at _ _ (fun x => by pointwise []) b i g r).trans (Finset.sum_congr rfl fun j _ => ?_)
  refine if_congr Iff.rfl ?_ rfl
  pointwise []
  rw [v72_at hk]
  unfold logDecay rAl
  have e : (⟨g.val * 4 + r.val, by omega⟩ : Fin 16) = hd g r := Fin.ext (by simp [hd]; omega)
  rw [← e]

/-- The state a trip carries on. -/
theorem state_at (g r : Fin 4) (p : Fin 64) (n : Fin 128) :
    step_main_v58_8 V0 (ix5 b g r p n) = stateNext (rXc V0 k b) (rDt V0 k b) (rAl V0) (rH V0 b) (hd g r) p n := by
  simp only [step_main_v58_8, id_eq]
  pointwise []
  have e1 : (⟨(hd g r).val / 4, by omega⟩ : Fin 4) = g := Fin.ext (by simp only [hd]; omega)
  have e2 : (⟨(hd g r).val % 4, by omega⟩ : Fin 4) = r := Fin.ext (by simp only [hd]; omega)
  unfold stateNext
  have eH : rH V0 b (hd g r) p n = V0 (Proc.devRef .tc main_v58_8) (ix5 b g r p n) := by unfold rH; rw [e1, e2]
  rw [eH, v82_at hk]
  congr 1
  refine Finset.sum_congr rfl fun j _ => ?_
  rw [v75_at hk, v82_at hk, v69_at hk j g r n]

include hm

/-- The gated row of a trip. -/
theorem v128_at (i : Fin 128) (g : Fin 4) (q : Fin 256) :
    res_main_while0b_v128 V0 (ix4 b i g q) = gated (rXc V0 k b) (rDt V0 k b) (rAl V0) (rH V0 b) (rZ V0 k b) (rDsk V0) i (headIn g q) (laneIn q) := by
  pointwise [res_main_while0b_v128]
  obtain ⟨r, hr⟩ : ∃ r : Fin 4, r.val = q.val / 64 := ⟨⟨q.val / 64, by omega⟩, rfl⟩
  have eh : headIn g q = hd g r := Fin.ext (by simp [headIn, hd]; omega)
  have e1 : ∀ h, (⟨(g.val * 256 + q.val) / 64 % 4, h⟩ : Fin 4) = r := fun h => Fin.ext (by dsimp only; omega)
  have e2 : ∀ h, (⟨(g.val * 256 + q.val) % 64, h⟩ : Fin 64) = laneIn q := fun h => Fin.ext (by simp [laneIn]; omega)
  have e3 : ∀ h, (⟨g.val * 4 + (g.val * 256 + q.val) / 64 % 4, h⟩ : Fin 16) = hd g r := fun h => Fin.ext (by simp [hd]; omega)
  have e4 : ∀ h, (⟨g.val * 256 + q.val, h⟩ : Fin 1024) = col (hd g r) (laneIn q) := fun h => Fin.ext (by simp [hd, col, laneIn]; omega)
  have eH : ∀ n, V0 (Proc.devRef .tc main_v58_8) (ix5 b g r (laneIn q) n) = rH V0 b (hd g r) (laneIn q) n := fun n => by
    have e1 : (⟨(hd g r).val / 4, by omega⟩ : Fin 4) = g := Fin.ext (by simp only [hd]; omega)
    have e2 : (⟨(hd g r).val % 4, by omega⟩ : Fin 4) = r := Fin.ext (by simp only [hd]; omega)
    unfold rH; rw [e1, e2]
  have hz : (constant S_ FTy.f32 0#32 : FVec Ideal S_ .f32) ix0 = (0 : EReal) := by pointwise []
  simp only [e1, e2, e3, e4, eh, eH, id_eq, hz, v63_at hk, v82_at hk, v75_at hk, v67_at hk, v69_at hk _ g r, v71_at hk _ g r]
  unfold gated yDiag yState
  congr 1
  · congr 1
    · congr 1
      · refine Finset.sum_congr rfl fun j _ => ?_
        have hmj := hm i j
        unfold decay
        by_cases hj : j ≤ i
        · rw [if_pos hj] at hmj ⊢
          simp only [hmj, Scalar.select, if_true]
          rw [mul_comm (xin _ _ _ _ _)]
          refine congrArg (· * _) (congrArg (· * _) (Finset.sum_congr rfl fun n _ => mul_comm _ _))
        · rw [if_neg hj] at hmj ⊢
          simp [hmj, Scalar.select]
      · refine congrArg (· * _) (Finset.sum_congr rfl fun n _ => mul_comm _ _)

/-- The block of rows a trip writes. -/
theorem block_at (i : Fin 128) (h : Fin 16) (p : Fin 64) :
    (broadcastInDim S1x4x128x1024 ![1, 2, 3] bcast_S4x128x1024_S1x4x128x1024_1_2_3
      (mulf
        (shapeCast S4x128x1024
          (mulf (res_main_while0b_v128 V0)
            (broadcastInDim S4x128x4x256 ![0, 1, 2, 3] bcast_S4x128x4x1_S4x128x4x256_0_1_2_3
              (Host.rsqrt
                (addf
                  (Host.divf
                    (broadcastInDim S4x128x4x1 ![0, 1, 2] bcast_S4x128x4_S4x128x4x1_0_1_2
                      (Host.reduceAdd (mulf (res_main_while0b_v128 V0) (res_main_while0b_v128 V0))
                        (constant S_ FTy.f32 0#32) reducesTo_S4x128x4x256_S4x128x4_d3 h_S_))
                    (broadcastInDim S4x128x4x1 ![] bcast_S_S4x128x4x1 (constant S_ FTy.f32 1132462080#32)))
                  (broadcastInDim S4x128x4x1 ![] bcast_S_S4x128x4x1 (constant S_ FTy.f32 897988541#32))))))
          shapeCasts_S4x128x4x256_S4x128x1024)
        (broadcastInDim S4x128x1024 ![0, 1, 2] bcast_S1x1x1024_S4x128x1024_0_1_2
          (broadcastInDim S1x1x1024 ![2] bcast_S1024_S1x1x1024_2 (V0 (Proc.devRef .tc main_v58_6))))) : FVec Ideal S1x4x128x1024 .f32)
      (ix4 (0 : Fin 1) b i (col h p)) =
    yOut (rXc V0 k b) (rDt V0 k b) (rAl V0) (rH V0 b) (rZ V0 k b) (rDsk V0) (rNg V0) i h p := by
  pointwise []
  simp only [v128_at hk hm]
  have e1 : ∀ hlt, (⟨(col h p).val / 256, hlt⟩ : Fin 4) = ⟨h.val / 4, by omega⟩ := fun _ => Fin.ext (by simp only [col]; omega)
  have e2 : ∀ hlt, headIn (⟨h.val / 4, by omega⟩ : Fin 4) (⟨(col h p).val % 256, hlt⟩ : Fin 256) = h := fun _ => Fin.ext (by simp only [col, headIn]; omega)
  have e3 : ∀ hlt, laneIn (⟨(col h p).val % 256, hlt⟩ : Fin 256) = p := fun _ => Fin.ext (by simp only [col, laneIn]; omega)
  simp only [e1, e2, e3]
  rfl

/-- The row a trip writes, and the rows it leaves. -/
theorem rows_at (k' : Fin 16) (i : Fin 128) (h : Fin 16) (p : Fin 64) :
    step_main_v58_9 V0 (ix4 k' b i (col h p))
      = if k' = k then yOut (rXc V0 k b) (rDt V0 k b) (rAl V0) (rH V0 b) (rZ V0 k b) (rDsk V0) (rNg V0) i h p
        else V0 (Proc.devRef .tc main_v58_9) (ix4 k' b i (col h p)) := by
  simp only [step_main_v58_9, id_eq]
  rw [Host.dynamicUpdateSlice_apply]
  have s0 := start0 (s := S16x4x128x1024) (t := S1x4x128x1024) hk rfl rfl rfl rfl
  have s1 := fun a ha h1 => start123 (V0 := V0) (s := S16x4x128x1024) (t := S1x4x128x1024) rfl rfl a ha h1
  by_cases he : k' = k
  · subst he
    rw [if_pos rfl, dif_pos]
    · refine (congrArg _ ?_).trans (block_at hk hm i h p)
      refine funext fun a => Fin.ext ?_
      fin_cases a
      · exact (congrArg (k'.val - ·) s0).trans (Nat.sub_self _)
      · exact (congrArg (b.val - ·) (s1 1 (by decide) (by decide))).trans (Nat.sub_zero _)
      · exact (congrArg (i.val - ·) (s1 2 (by decide) (by decide))).trans (Nat.sub_zero _)
      · exact (congrArg ((col h p).val - ·) (s1 3 (by decide) (by decide))).trans (Nat.sub_zero _)
    · intro a
      fin_cases a
      · exact ⟨s0.le, by refine (Nat.lt_succ_self k'.val).trans_eq (congrArg (· + 1) s0.symm)⟩
      · exact ⟨(s1 1 (by decide) (by decide)).le.trans (Nat.zero_le _), b.isLt.trans_eq (((Nat.zero_add _).symm.trans (congrArg (· + 4) (s1 1 (by decide) (by decide)).symm)))⟩
      · exact ⟨(s1 2 (by decide) (by decide)).le.trans (Nat.zero_le _), i.isLt.trans_eq (((Nat.zero_add _).symm.trans (congrArg (· + 128) (s1 2 (by decide) (by decide)).symm)))⟩
      · exact ⟨(s1 3 (by decide) (by decide)).le.trans (Nat.zero_le _), (col h p).isLt.trans_eq (((Nat.zero_add _).symm.trans (congrArg (· + 1024) (s1 3 (by decide) (by decide)).symm)))⟩
  · rw [if_neg he, dif_neg]
    intro hall
    have h2 := hall ⟨0, by decide⟩
    have l1 : k.val ≤ k'.val := s0.symm.le.trans h2.1
    have l2 : k'.val < k.val + 1 := lt_of_lt_of_eq h2.2 (congrArg (· + 1) s0)
    exact he (Fin.ext (by omega))

end Trip

end Cert.Proof.Ssd

end
-- ==== Proof.SsdConv.lean ====
/- The kernel's causal convolution over its input blocks, read at an index. -/
module

public import proofs.«01_k».proof.Proof.SsdMath
public import proofs.«01_k».proof.Proof.Gen.SsdIdeal.Skeleton

@[expose] public section

set_option maxRecDepth 16384

noncomputable section

open Idealize.ShloMosaic Cert.SsdIdeal Cert.SsdIdeal.Gen

namespace Cert.Proof.Ssd

/-! ## The causal convolution and the time step, as functions -/

/-- Position `j`'s value `k` positions back: in the chunk, or at the end of the chunk before. -/
def lag (x prev : Fin 128 → Fin 2048 → EReal) (k : ℕ) (j : Fin 128) (c : Fin 2048) : EReal :=
  if k ≤ j.val then x ⟨j.val - k, by omega⟩ c else prev ⟨(j.val + 128 - k) % 128, by omega⟩ c

/-- The four-tap causal convolution under the gate `x · logistic x`. -/
def conv (x prev : Fin 128 → Fin 2048 → EReal) (w : Fin 4 → Fin 2048 → EReal) (b : Fin 2048 → EReal) (j : Fin 128)
    (c : Fin 2048) : EReal :=
  silu (b c + w 3 c * x j c + w 2 c * lag x prev 1 j c + w 1 c * lag x prev 2 j c + w 0 c * lag x prev 3 j c)

theorem pos_word (i : Fin 128) : k0_pay5 (ix2 i 0) = BitVec.ofNat 32 i.val := by
  pointwise [k0_pay5]
  revert i; decide +kernel

theorem ge1_word : ∀ i : Fin 128, IntOp.cmpi .sge (BitVec.ofNat 32 i.val) 1#32 = BitVec.ofBool (decide (1 ≤ i.val)) := by
  decide +kernel
theorem ge2_word : ∀ i : Fin 128, IntOp.cmpi .sge (BitVec.ofNat 32 i.val) 2#32 = BitVec.ofBool (decide (2 ≤ i.val)) := by
  decide +kernel
theorem ge3_word : ∀ i : Fin 128, IntOp.cmpi .sge (BitVec.ofNat 32 i.val) 3#32 = BitVec.ofBool (decide (3 ≤ i.val)) := by
  decide +kernel

section Arrays

variable (x1 : Vec Ideal S1x128x2048 .f32) (x4 : Vec Ideal S1x2048 .f32) (w3 w2 w1 w0 : Vec Ideal S1x2048 .f32)
  (xs0 : Vec Ideal S128x2048 .f32)

/-- The convolved channels, and their three parts, as the body computes them. -/
def kConv : FVec Ideal S128x2048 .f32 :=
  k0_pay11 (k0_pay2 x1) xs0 k0_pay5 (k0_pay6 x1 x4 w3) (k0_pay7 x1) (k0_pay8 xs0) k0_pay9 w2 w1 w0
def kX : FVec Ideal S128x1024 .f32 :=
  k0_pay12 (k0_pay2 x1) xs0 k0_pay5 (k0_pay6 x1 x4 w3) (k0_pay7 x1) (k0_pay8 xs0) k0_pay9 w2 w1 w0
def kB : FVec Ideal S128x512 .f32 :=
  k0_pay13 (k0_pay2 x1) xs0 k0_pay5 (k0_pay6 x1 x4 w3) (k0_pay7 x1) (k0_pay8 xs0) k0_pay9 w2 w1 w0
def kC : FVec Ideal S128x512 .f32 :=
  k0_pay14 (k0_pay2 x1) xs0 k0_pay5 (k0_pay6 x1 x4 w3) (k0_pay7 x1) (k0_pay8 xs0) k0_pay9 w2 w1 w0

/-- The convolved channels the blocks give. -/
def xcK : Fin 128 → Fin 2048 → EReal :=
  conv (fun j c => x1 (ix3 0 j c)) (fun j c => xs0 (ix2 j c))
    ![fun c => w0 (ix2 0 c), fun c => w1 (ix2 0 c), fun c => w2 (ix2 0 c), fun c => w3 (ix2 0 c)] (fun c => x4 (ix2 0 c))

theorem lag_at (k : ℕ) (hk : k ≤ 128) (j : Fin 128) (c : Fin 2048) {b : BitVec 1} (hb : b = BitVec.ofBool (decide (k ≤ j.val))) :
    Scalar.select b (x1 (ix3 0 ⟨(j.val + 128 - k) % 128, by omega⟩ c)) (xs0 (ix2 ⟨(j.val + 128 - k) % 128, by omega⟩ c))
      = lag (fun j c => x1 (ix3 0 j c)) (fun j c => xs0 (ix2 j c)) k j c := by
  subst hb
  by_cases h : k ≤ j.val
  · have e : (⟨(j.val + 128 - k) % 128, by omega⟩ : Fin 128) = ⟨j.val - k, by omega⟩ := Fin.ext (by simp only; omega)
    simp [h, Scalar.select, lag, e]
  · simp [h, Scalar.select, lag]

theorem conv_at (j : Fin 128) (c : Fin 2048) :
    kConv x1 x4 w3 w2 w1 w0 xs0 (ix2 j c) = xcK x1 x4 w3 w2 w1 w0 xs0 j c := by
  have e1 := lag_at x1 xs0 1 (by omega) j c (b := k0_pay9 (ix2 j c)) (by
    pointwise [k0_pay9]; rw [pos_word]; exact ge1_word j)
  have e2 := lag_at x1 xs0 2 (by omega) j c (b := IntOp.cmpi .sge (k0_pay5 (ix2 j 0)) 2#32) (by rw [pos_word]; exact ge2_word j)
  have e3 := lag_at x1 xs0 3 (by omega) j c (b := IntOp.cmpi .sge (k0_pay5 (ix2 j 0)) 3#32) (by rw [pos_word]; exact ge3_word j)
  rw [kConv]
  pointwise [k0_pay11, k0_pay2, k0_pay6, k0_pay7, k0_pay8]
  rw [e1, e2, e3]
  rfl

theorem x_at (j : Fin 128) (c : Fin 1024) : kX x1 x4 w3 w2 w1 w0 xs0 (ix2 j c) = xcK x1 x4 w3 w2 w1 w0 xs0 j (chX c) := by
  rw [← conv_at, kX, kConv]
  pointwise [k0_pay12]
  exact congrArg _ (congrArg (ix2 j) (Fin.ext (by simp [chX])))

theorem b_at (j : Fin 128) (c : Fin 512) :
    kB x1 x4 w3 w2 w1 w0 xs0 (ix2 j c) = xcK x1 x4 w3 w2 w1 w0 xs0 j ⟨1024 + c.val, by omega⟩ := by
  rw [← conv_at, kB, kConv]
  pointwise [k0_pay13]

theorem c_at (j : Fin 128) (c : Fin 512) :
    kC x1 x4 w3 w2 w1 w0 xs0 (ix2 j c) = xcK x1 x4 w3 w2 w1 w0 xs0 j ⟨1536 + c.val, by omega⟩ := by
  rw [← conv_at, kC, kConv]
  pointwise [k0_pay14]

end Arrays

end Cert.Proof.Ssd

end
-- ==== Proof.SsdSeq.lean ====
/- The recurrence over the whole sequence as plain functions of the seven arguments: what each chunk of 128 positions takes in,
   the state it starts from and the rows it gives. -/
module

public import proofs.«01_k».proof.Proof.SsdConv

@[expose] public section

noncomputable section

open Idealize.ShloMosaic

namespace Cert.Proof.Ssd

/-- Position `j` of chunk `k`. -/
def pos (k : Fin 16) (j : Fin 128) : Fin 2048 := ⟨128 * k.val + j.val, by omega⟩

section

variable (p3 : Fin 4 → Fin 2048 → Fin 6144 → EReal) (cw : Fin 4 → Fin 2048 → EReal) (cb : Fin 2048 → EReal)
  (dtb al dsk : Fin 16 → EReal) (ng : Fin 1024 → EReal) (b : Fin 4)

/-- The convolution's input `d` positions back, zero before the start. -/
def back (d : ℕ) (t : Fin 2048) (c : Fin 2048) : EReal :=
  if d ≤ t.val then p3 b ⟨t.val - d, by omega⟩ ⟨2048 + c.val, by omega⟩ else 0

/-- The convolved channels at a position. -/
def seqConv (t : Fin 2048) (c : Fin 2048) : EReal :=
  silu (cb c + cw 3 c * back p3 b 0 t c + cw 2 c * back p3 b 1 t c + cw 1 c * back p3 b 2 t c + cw 0 c * back p3 b 3 t c)

/-- The convolved channels, the step sizes and the gate of a chunk. -/
def seqXc (k : Fin 16) (j : Fin 128) (c : Fin 2048) : EReal := seqConv p3 cw cb b (pos k j) c
def seqDt (k : Fin 16) (j : Fin 128) (h : Fin 16) : EReal := softplus (p3 b (pos k j) ⟨5680 + h.val, by omega⟩ + dtb h)
def seqZ (k : Fin 16) (j : Fin 128) (c : Fin 1024) : EReal := p3 b (pos k j) ⟨1024 + c.val, by omega⟩

/-- The state before chunk `k`. -/
def seqH : ℕ → Fin 16 → Fin 64 → Fin 128 → EReal
  | 0 => fun _ _ _ => 0
  | k + 1 => stateNext (seqXc p3 cw cb b (Fin.ofNat 16 k)) (seqDt p3 dtb b (Fin.ofNat 16 k)) al (seqH k)

/-- The rows of chunk `k`. -/
def seqY (k : Fin 16) (i : Fin 128) (h : Fin 16) (p : Fin 64) : EReal :=
  yOut (seqXc p3 cw cb b k) (seqDt p3 dtb b k) al (seqH p3 cw cb dtb al b k.val) (seqZ p3 b k) dsk ng i h p

end

theorem ofNat_val (k : Fin 16) : Fin.ofNat 16 k.val = k := Fin.ext (Nat.mod_eq_of_lt k.isLt)

/-- A chunk's lagged inputs are the sequence's. -/
theorem lag_seq (p3 : Fin 4 → Fin 2048 → Fin 6144 → EReal) (b : Fin 4) (k : Fin 16) (x prev : Fin 128 → Fin 2048 → EReal)
    (hx : ∀ j c, x j c = p3 b (pos k j) ⟨2048 + c.val, by omega⟩)
    (hp0 : k.val = 0 → ∀ j c, prev j c = 0)
    (hp : ∀ hk : 0 < k.val, ∀ j c, prev j c = p3 b (pos ⟨k.val - 1, by omega⟩ j) ⟨2048 + c.val, by omega⟩)
    (d : ℕ) (hd : d ≤ 3) (j : Fin 128) (c : Fin 2048) : lag x prev d j c = back p3 b d (pos k j) c := by
  unfold lag back
  by_cases h : d ≤ j.val
  · rw [if_pos h, if_pos (by simp only [pos]; omega), hx]
    refine congrArg (fun t => p3 b t _) (Fin.ext ?_)
    simp only [pos]; omega
  · rw [if_neg h]
    by_cases hk : k.val = 0
    · rw [hp0 hk, if_neg (by simp only [pos]; omega)]
    · rw [hp (by omega), if_pos (by simp only [pos]; omega)]
      refine congrArg (fun t => p3 b t _) (Fin.ext ?_)
      simp only [pos]; omega

end Cert.Proof.Ssd
-- ==== Proof.SsdEntry.lean ====
/- What the reference's loop over the chunks starts from, read at an index. -/
module

public import proofs.«01_k».proof.Proof.SsdScan
public import proofs.«01_k».proof.Proof.SsdSeq

@[expose] public section

set_option maxRecDepth 16384
set_option maxHeartbeats 4000000

noncomputable section

open Idealize.ShloMosaic Idealize.ShloMosaic.TcCoe Idealize.SL.Sem Cert.SsdRefIdeal Cert.SsdRefIdeal.Gen Cert.SsdRefIdeal.Value

namespace Cert.Proof.Ssd

/-! ## Each line of host operations -/

section Lines

variable (X : Valuation τ sig (Elt Ideal))

theorem chunk_z (k : Fin 16) (b : Fin 4) (j : Fin 128) (c : Fin 1024) :
    StableHlo.after (hostOps0_6 (F := Ideal)) X (Proc.devRef .tc main_v58_0) (ix4 k b j c) = X (Proc.devRef .tc main_v0) (ix3 b (⟨128 * k.val + j.val, by omega⟩ : Fin 2048) c) := by
  after_results
  pointwise [id_eq]
  refine congrArg _ (congrArg (ix3 b · c) (Fin.ext ?_))
  dsimp only
  omega

theorem chunk_xc (k : Fin 16) (b : Fin 4) (j : Fin 128) (c : Fin 2048) :
    StableHlo.after (hostOps0_6 (F := Ideal)) X (Proc.devRef .tc main_v58_1) (ix4 k b j c) = X (Proc.devRef .tc main_v42) (ix3 b (⟨128 * k.val + j.val, by omega⟩ : Fin 2048) c) := by
  after_results
  pointwise [id_eq]
  refine congrArg _ (congrArg (ix3 b · c) (Fin.ext ?_))
  dsimp only
  omega

theorem chunk_dt (k : Fin 16) (b : Fin 4) (j : Fin 128) (c : Fin 16) :
    StableHlo.after (hostOps0_6 (F := Ideal)) X (Proc.devRef .tc main_v58_2) (ix4 k b j c) = X (Proc.devRef .tc main_v46) (ix3 b (⟨128 * k.val + j.val, by omega⟩ : Fin 2048) c) := by
  after_results
  pointwise [id_eq]
  refine congrArg _ (congrArg (ix3 b · c) (Fin.ext ?_))
  dsimp only
  omega

theorem chunk_mask (i j : Fin 128) :
    StableHlo.after (hostOps0_6 (F := Ideal)) X (Proc.devRef .tc main_v58_4) (ix5 (0 : Fin 1) i j (0 : Fin 1) (0 : Fin 1)) = X (Proc.devRef .tc main_v48) (ix2 i j) := by
  after_results
  pointwise [id_eq]

theorem chunk_al : StableHlo.after (hostOps0_6 (F := Ideal)) X (Proc.devRef .tc main_v58_3) = X (Proc.devRef .tc main_v8) := by
  after_results
  rfl
theorem chunk_dsk : StableHlo.after (hostOps0_6 (F := Ideal)) X (Proc.devRef .tc main_v58_5) = X (Proc.devRef .tc main_v9) := by
  after_results
  rfl
theorem chunk_ng : StableHlo.after (hostOps0_6 (F := Ideal)) X (Proc.devRef .tc main_v58_6) = X (Proc.devRef .tc main_v10) := by
  after_results
  rfl

theorem chunk_state (b g r : Fin 4) (p : Fin 64) (n : Fin 128) :
    StableHlo.after (hostOps0_6 (F := Ideal)) X (Proc.devRef .tc main_v58_8) (ix5 b g r p n) = X (Proc.devRef .tc main_v4) (ix4 b (hd g r) p n) := by
  after_results
  pointwise [id_eq]
  exact congrArg _ (congrArg (ix4 b · p n) (Fin.ext (by simp only [hd]; omega)))

theorem word_le : ∀ i j : Fin 128, IntOp.cmpi .sge (BitVec.ofNat 32 i.val) (BitVec.ofNat 32 j.val) = BitVec.ofBool (decide (j ≤ i)) := by
  intro i j
  have hi := i.isLt
  have hj := j.isLt
  show BitVec.ofBool (BitVec.sle (BitVec.ofNat 32 j.val) (BitVec.ofNat 32 i.val)) = _
  refine congrArg _ ?_
  have hw : ∀ i : Fin 128, (BitVec.ofNat 32 i.val).toInt = (i.val : Int) := by decide +kernel
  rw [BitVec.sle_eq_decide, hw, hw]
  refine decide_eq_decide.mpr ?_
  rw [Fin.le_def]
  omega

theorem tril_at (i j : Fin 128) :
    (StableHlo.after (hostOps0_5 (F := Ideal)) X (Proc.devRef .tc main_v48) (ix2 i j) : BitVec 1) = if j ≤ i then X (Proc.devRef .tc main_v47) (ix2 i j) else 0#1 := by
  have h : StableHlo.after (hostOps0_5 (F := Ideal)) X (Proc.devRef .tc main_v48)
      = (select (cmpi .sge (addi (iotaInDim S128x128 32 0) (broadcastInDim S128x128 ![] bcast_S_S128x128 (constantI S_ 32 0#32))) (iotaInDim S128x128 32 1))
          (X (Proc.devRef .tc main_v47)) (broadcastInDim S128x128 ![] bcast_S_S128x128 (constantI S_ 1 0#1)) : IVec S128x128 1) := by
    after_results
    rfl
  rw [h]
  pointwise []
  show Scalar.select (IntOp.cmpi .sge (BitVec.ofNat 32 i.val + 0#32) (BitVec.ofNat 32 j.val)) (X (Proc.devRef .tc main_v47) (ix2 i j)) 0#1 = _
  rw [BitVec.add_zero, word_le]
  by_cases h : j ≤ i <;> simp [h, Scalar.select]

theorem ones_at (i j : Fin 128) :
    (StableHlo.after (hostOps0_4 (F := Ideal)) X (Proc.devRef .tc main_v47) (ix2 i j) : BitVec 1) = 1#1 := by
  after_results
  pointwise []

theorem softplus_at (a : FVec Ideal S4x2048x16 .f32) (ha : X (Proc.devRef .tc main_v45) = a) (b : Fin 4) (t : Fin 2048) (h : Fin 16) :
    StableHlo.after (hostOps0_3 (F := Ideal)) X (Proc.devRef .tc main_v46) (ix3 b t h) = softplus (a (ix3 b t h)) := by
  have e : StableHlo.after (hostOps0_3 (F := Ideal)) X (Proc.devRef .tc main_v46)
      = (select (cmpf .une (subf a (broadcastInDim S4x2048x16 ![] bcast_S_S4x2048x16 (constant S_ .f32 0x00000000#32))) (subf a (broadcastInDim S4x2048x16 ![] bcast_S_S4x2048x16 (constant S_ .f32 0x00000000#32))))
          (addf a (broadcastInDim S4x2048x16 ![] bcast_S_S4x2048x16 (constant S_ .f32 0x00000000#32)))
          (addf (maximumf a (broadcastInDim S4x2048x16 ![] bcast_S_S4x2048x16 (constant S_ .f32 0x00000000#32)))
            (Host.log1p (Host.exp (Host.negf (Host.absf (subf a (broadcastInDim S4x2048x16 ![] bcast_S_S4x2048x16 (constant S_ .f32 0x00000000#32)))))))) : FVec Ideal S4x2048x16 .f32) := by
    after_results
    subst ha
    rfl
  rw [e]
  pointwise []
  rw [if_neg (fun h => h rfl)]
  rfl

theorem silu_at (b : Fin 4) (t : Fin 2048) (c : Fin 2048) :
    StableHlo.after (hostOps0_1 (F := Ideal)) X (Proc.devRef .tc main_v42) (ix3 b t c) = silu (X (Proc.devRef .tc main_v41) (ix3 b t c)) := by
  have e : StableHlo.after (hostOps0_1 (F := Ideal)) X (Proc.devRef .tc main_v42)
      = (mulf (X (Proc.devRef .tc main_v41)) (Host.divf (broadcastInDim S4x2048x2048 ![] bcast_S_S4x2048x2048 (constant S_ .f32 0x3F800000#32))
          (addf (broadcastInDim S4x2048x2048 ![] bcast_S_S4x2048x2048 (constant S_ .f32 0x3F800000#32)) (Host.exp (Host.negf (X (Proc.devRef .tc main_v41)))))) : FVec Ideal S4x2048x2048 .f32) := by
    after_results
    rfl
  rw [e]
  pointwise []
  rfl

theorem step_at (u v : EReal) (b : Fin 4) (t : Fin 2048) (h : Fin 16) (hu : X (Proc.devRef .tc main_v2) (ix3 b t h) = u) (hv : X (Proc.devRef .tc main_v7) (ix1 h) = v) :
    StableHlo.after (hostOps0_2 (F := Ideal)) X (Proc.devRef .tc main_v45) (ix3 b t h) = u + v := by
  after_results
  pointwise []
  rw [hu, hv]

variable (p3 : Fin 4 → Fin 2048 → Fin 6144 → EReal) (cw : Fin 4 → Fin 2048 → EReal) (cb : Fin 2048 → EReal)

theorem conv0_at (h0 : ∀ b t c, X (Proc.devRef .tc main_arg0) (ix3 b t c) = p3 b t c) (h1 : ∀ k c, X (Proc.devRef .tc main_arg1) (ix3 (0 : Fin 1) k c) = cw k c)
    (h2 : ∀ c, X (Proc.devRef .tc main_arg2) (ix2 (0 : Fin 1) c) = cb c) (b : Fin 4) (t : Fin 2048) (c : Fin 2048) :
    StableHlo.after (hostOps0 (F := Ideal)) X (Proc.devRef .tc main_v41) (ix3 b t c) =
      cb c + cw 3 c * back p3 b 0 t c + cw 2 c * back p3 b 1 t c + cw 1 c * back p3 b 2 t c + cw 0 c * back p3 b 3 t c := by
  after_results
  pointwise []
  simp only [h0, h1, h2]
  have hb : ∀ k d : ℕ, k + d = 3 → ∀ hlt : ¬ d + t.val < 3 → d + t.val - 3 < 2048,
      (if h : d + t.val < 3 then (0 : EReal) else p3 b (⟨d + t.val - 3, hlt h⟩ : Fin 2048) (⟨2048 + c.val, by omega⟩ : Fin 6144)) = back p3 b k t c := by
    intro k d hkd hlt
    unfold back
    by_cases h : d + t.val < 3
    · rw [dif_pos h, if_neg (by omega)]
    · rw [dif_neg h, if_pos (by omega)]
      exact congrArg (fun t => p3 b t _) (Fin.ext (by dsimp only; omega))
  have e0 : back p3 b 0 t c = p3 b t (⟨2048 + c.val, by omega⟩ : Fin 6144) := by
    unfold back; rw [if_pos (Nat.zero_le _)]; rfl
  have e3 := hb 3 0 rfl (fun _ => by omega)
  simp only [Nat.zero_add] at e3
  rw [e0, ← hb 1 2 rfl (fun _ => by omega), ← hb 2 1 rfl (fun _ => by omega), ← e3]
  simp only [mul_comm (cw _ _)]
  have hadd : ∀ u a0 a1 a2 a3 : EReal, u + a0 + a1 + a2 + a3 = u + a3 + a2 + a1 + a0 := by
    intro u a0 a1 a2 a3
    ac_rfl
  exact hadd _ _ _ _ _

theorem z0_at (b : Fin 4) (t : Fin 2048) (c : Fin 1024) :
    (StableHlo.after (hostOps0 (F := Ideal)) X (Proc.devRef .tc main_v0) (ix3 b t c) : EReal) = X (Proc.devRef .tc main_arg0) (ix3 b t (⟨1024 + c.val, by omega⟩ : Fin 6144)) := by
  after_results
  pointwise []

theorem dt0_at (b : Fin 4) (t : Fin 2048) (h : Fin 16) :
    (StableHlo.after (hostOps0 (F := Ideal)) X (Proc.devRef .tc main_v2) (ix3 b t h) : EReal) = X (Proc.devRef .tc main_arg0) (ix3 b t (⟨5680 + h.val, by omega⟩ : Fin 6144)) := by
  after_results
  pointwise []

theorem bias0_at (h : Fin 16) :
    (StableHlo.after (hostOps0 (F := Ideal)) X (Proc.devRef .tc main_v7) (ix1 h) : EReal) = X (Proc.devRef .tc main_arg3) (ix2 (0 : Fin 1) h) := by
  after_results
  pointwise []
theorem al0_at (h : Fin 16) :
    (StableHlo.after (hostOps0 (F := Ideal)) X (Proc.devRef .tc main_v8) (ix1 h) : EReal) = X (Proc.devRef .tc main_arg4) (ix2 (0 : Fin 1) h) := by
  after_results
  pointwise []
theorem dsk0_at (h : Fin 16) :
    (StableHlo.after (hostOps0 (F := Ideal)) X (Proc.devRef .tc main_v9) (ix1 h) : EReal) = X (Proc.devRef .tc main_arg5) (ix2 (0 : Fin 1) h) := by
  after_results
  pointwise []
theorem ng0_at (c : Fin 1024) :
    (StableHlo.after (hostOps0 (F := Ideal)) X (Proc.devRef .tc main_v10) (ix1 c) : EReal) = X (Proc.devRef .tc main_arg6) (ix2 (0 : Fin 1) c) := by
  after_results
  pointwise []
theorem zero0_at (b : Fin 4) (h : Fin 16) (p : Fin 64) (n : Fin 128) :
    StableHlo.after (hostOps0 (F := Ideal)) X (Proc.devRef .tc main_v4) (ix4 b h p n) = (0 : EReal) := by
  after_results
  pointwise []

theorem keep_v0 : StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) X)))) (Proc.devRef .tc main_v0) = X (Proc.devRef .tc main_v0) := by
  rw [StableHlo.after_of_writes_sub hostOps0_5 _ hostOps0_5_writes (by decide +kernel), StableHlo.after_of_writes_sub hostOps0_4 _ hostOps0_4_writes (by decide +kernel), StableHlo.after_of_writes_sub hostOps0_3 _ hostOps0_3_writes (by decide +kernel), StableHlo.after_of_writes_sub hostOps0_2 _ hostOps0_2_writes (by decide +kernel), StableHlo.after_of_writes_sub hostOps0_1 _ hostOps0_1_writes (by decide +kernel)]
theorem keep_v4 : StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) X)))) (Proc.devRef .tc main_v4) = X (Proc.devRef .tc main_v4) := by
  rw [StableHlo.after_of_writes_sub hostOps0_5 _ hostOps0_5_writes (by decide +kernel), StableHlo.after_of_writes_sub hostOps0_4 _ hostOps0_4_writes (by decide +kernel), StableHlo.after_of_writes_sub hostOps0_3 _ hostOps0_3_writes (by decide +kernel), StableHlo.after_of_writes_sub hostOps0_2 _ hostOps0_2_writes (by decide +kernel), StableHlo.after_of_writes_sub hostOps0_1 _ hostOps0_1_writes (by decide +kernel)]
theorem keep_v8 : StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) X)))) (Proc.devRef .tc main_v8) = X (Proc.devRef .tc main_v8) := by
  rw [StableHlo.after_of_writes_sub hostOps0_5 _ hostOps0_5_writes (by decide +kernel), StableHlo.after_of_writes_sub hostOps0_4 _ hostOps0_4_writes (by decide +kernel), StableHlo.after_of_writes_sub hostOps0_3 _ hostOps0_3_writes (by decide +kernel), StableHlo.after_of_writes_sub hostOps0_2 _ hostOps0_2_writes (by decide +kernel), StableHlo.after_of_writes_sub hostOps0_1 _ hostOps0_1_writes (by decide +kernel)]
theorem keep_v9 : StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) X)))) (Proc.devRef .tc main_v9) = X (Proc.devRef .tc main_v9) := by
  rw [StableHlo.after_of_writes_sub hostOps0_5 _ hostOps0_5_writes (by decide +kernel), StableHlo.after_of_writes_sub hostOps0_4 _ hostOps0_4_writes (by decide +kernel), StableHlo.after_of_writes_sub hostOps0_3 _ hostOps0_3_writes (by decide +kernel), StableHlo.after_of_writes_sub hostOps0_2 _ hostOps0_2_writes (by decide +kernel), StableHlo.after_of_writes_sub hostOps0_1 _ hostOps0_1_writes (by decide +kernel)]
theorem keep_v10 : StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) X)))) (Proc.devRef .tc main_v10) = X (Proc.devRef .tc main_v10) := by
  rw [StableHlo.after_of_writes_sub hostOps0_5 _ hostOps0_5_writes (by decide +kernel), StableHlo.after_of_writes_sub hostOps0_4 _ hostOps0_4_writes (by decide +kernel), StableHlo.after_of_writes_sub hostOps0_3 _ hostOps0_3_writes (by decide +kernel), StableHlo.after_of_writes_sub hostOps0_2 _ hostOps0_2_writes (by decide +kernel), StableHlo.after_of_writes_sub hostOps0_1 _ hostOps0_1_writes (by decide +kernel)]
theorem keep_v42 : StableHlo.after (hostOps0_5 (F := Ideal)) (StableHlo.after (hostOps0_4 (F := Ideal)) (StableHlo.after (hostOps0_3 (F := Ideal)) (StableHlo.after (hostOps0_2 (F := Ideal)) X))) (Proc.devRef .tc main_v42) = X (Proc.devRef .tc main_v42) := by
  rw [StableHlo.after_of_writes_sub hostOps0_5 _ hostOps0_5_writes (by decide +kernel), StableHlo.after_of_writes_sub hostOps0_4 _ hostOps0_4_writes (by decide +kernel), StableHlo.after_of_writes_sub hostOps0_3 _ hostOps0_3_writes (by decide +kernel), StableHlo.after_of_writes_sub hostOps0_2 _ hostOps0_2_writes (by decide +kernel)]
theorem keep_v2 : StableHlo.after (hostOps0_1 (F := Ideal)) X (Proc.devRef .tc main_v2) = X (Proc.devRef .tc main_v2) := by
  rw [StableHlo.after_of_writes_sub hostOps0_1 _ hostOps0_1_writes (by decide +kernel)]
theorem keep_v7 : StableHlo.after (hostOps0_1 (F := Ideal)) X (Proc.devRef .tc main_v7) = X (Proc.devRef .tc main_v7) := by
  rw [StableHlo.after_of_writes_sub hostOps0_1 _ hostOps0_1_writes (by decide +kernel)]
theorem keep_v46 : StableHlo.after (hostOps0_5 (F := Ideal)) (StableHlo.after (hostOps0_4 (F := Ideal)) X) (Proc.devRef .tc main_v46) = X (Proc.devRef .tc main_v46) := by
  rw [StableHlo.after_of_writes_sub hostOps0_5 _ hostOps0_5_writes (by decide +kernel), StableHlo.after_of_writes_sub hostOps0_4 _ hostOps0_4_writes (by decide +kernel)]

end Lines

/-! ## The values at the loop's start -/

section Entry

variable (m : (ℓ : Loc nD τ sig) → Buf (Elt Ideal) ℓ) (q : Dev nD)
variable (p3 : Fin 4 → Fin 2048 → Fin 6144 → EReal) (cw : Fin 4 → Fin 2048 → EReal) (cb : Fin 2048 → EReal)
  (dtb al dsk : Fin 16 → EReal) (ng : Fin 1024 → EReal)

/-- The arguments as functions. -/
structure RefArgs : Prop where
  a0 : ∀ b t c, m ((q.tc : Thread nD τ).loc main_arg0) (ix3 b t c) = p3 b t c
  a1 : ∀ k c, m ((q.tc : Thread nD τ).loc main_arg1) (ix3 (0 : Fin 1) k c) = cw k c
  a2 : ∀ c, m ((q.tc : Thread nD τ).loc main_arg2) (ix2 (0 : Fin 1) c) = cb c
  a3 : ∀ h, m ((q.tc : Thread nD τ).loc main_arg3) (ix2 (0 : Fin 1) h) = dtb h
  a4 : ∀ h, m ((q.tc : Thread nD τ).loc main_arg4) (ix2 (0 : Fin 1) h) = al h
  a5 : ∀ h, m ((q.tc : Thread nD τ).loc main_arg5) (ix2 (0 : Fin 1) h) = dsk h
  a6 : ∀ c, m ((q.tc : Thread nD τ).loc main_arg6) (ix2 (0 : Fin 1) c) = ng c

/-- What the loop starts from. -/
abbrev Ent : Valuation τ sig (Elt Ideal) := StableHlo.entryContents preI m q

variable {m q p3 cw cb dtb al dsk ng} (A : RefArgs m q p3 cw cb dtb al dsk ng)
include A

theorem ent_z (k : Fin 16) (b : Fin 4) (j : Fin 128) (c : Fin 1024) : rZ (Ent m q) k b j c = seqZ p3 b k j c :=
  (chunk_z _ k b j c).trans ((congrFun (keep_v0 _) _).trans ((z0_at _ b _ c).trans (A.a0 _ _ _)))
theorem ent_xc (k : Fin 16) (b : Fin 4) (j : Fin 128) (c : Fin 2048) : rXc (Ent m q) k b j c = seqXc p3 cw cb b k j c :=
  (chunk_xc _ k b j c).trans ((congrFun (keep_v42 _) _).trans ((silu_at _ b _ c).trans (congrArg silu (conv0_at _ p3 cw cb A.a0 A.a1 A.a2 b _ c))))
theorem ent_dt (k : Fin 16) (b : Fin 4) (j : Fin 128) (h : Fin 16) : rDt (Ent m q) k b j h = seqDt p3 dtb b k j h :=
  (chunk_dt _ k b j h).trans ((congrFun (keep_v46 _) _).trans ((softplus_at _ _ rfl b _ h).trans (congrArg softplus (step_at _ _ _ b _ h
    ((congrFun (keep_v2 _) _).trans ((dt0_at _ b _ h).trans (A.a0 _ _ _))) ((congrFun (keep_v7 _) _).trans ((bias0_at _ h).trans (A.a3 _)))))))
theorem ent_al (h : Fin 16) : rAl (Ent m q) h = al h :=
  (congrFun (chunk_al _) _).trans ((congrFun (keep_v8 _) _).trans ((al0_at _ h).trans (A.a4 _)))
theorem ent_dsk (h : Fin 16) : rDsk (Ent m q) h = dsk h :=
  (congrFun (chunk_dsk _) _).trans ((congrFun (keep_v9 _) _).trans ((dsk0_at _ h).trans (A.a5 _)))
theorem ent_ng (c : Fin 1024) : rNg (Ent m q) c = ng c :=
  (congrFun (chunk_ng _) _).trans ((congrFun (keep_v10 _) _).trans ((ng0_at _ c).trans (A.a6 _)))
omit A in
theorem ent_mask : Masked (Ent m q) := fun i j =>
  (chunk_mask _ i j).trans ((tril_at _ i j).trans (if_congr Iff.rfl (ones_at _ i j) rfl))
omit A in
theorem ent_state (b g r : Fin 4) (p : Fin 64) (n : Fin 128) : Ent m q (Proc.devRef .tc main_v58_8) (ix5 b g r p n) = (0 : EReal) :=
  (chunk_state _ b g r p n).trans ((congrFun (keep_v4 _) _).trans (zero0_at _ b _ p n))

omit A in
theorem trip_ctr : ∀ k : ℕ, (STEP^[k] (Ent m q)) (Proc.devRef .tc main_v58_7) = fun _ => Scf.iv 0#32 1#32 k :=
  fun k => (atK_agree m q k main_v58_7 (by decide)).symm.trans (atK_ctr m q k)

omit A in
theorem trip_keep (r : Ref sig .tc) (hr : ∀ V : Valuation τ sig (Elt Ideal), STEP V (Proc.devRef .tc r) = V (Proc.devRef .tc r)) :
    ∀ k : ℕ, (STEP^[k] (Ent m q)) (Proc.devRef .tc r) = Ent m q (Proc.devRef .tc r)
  | 0 => rfl
  | k + 1 => by rw [Function.iterate_succ_apply', hr, trip_keep r hr k]

/-- After `k` trips: the state of every batch, and the rows written. -/
theorem trips (k : ℕ) (hk : k ≤ 16) : ∀ b : Fin 4,
    (∀ (g r : Fin 4) (p : Fin 64) (n : Fin 128), (STEP^[k] (Ent m q)) (Proc.devRef .tc main_v58_8) (ix5 b g r p n) = seqH p3 cw cb dtb al b k (hd g r) p n)
    ∧ (∀ (k' : Fin 16) (i : Fin 128) (h : Fin 16) (p : Fin 64), k'.val < k → (STEP^[k] (Ent m q)) (Proc.devRef .tc main_v58_9) (ix4 k' b i (col h p)) = seqY p3 cw cb dtb al dsk ng b k' i h p) := by
  induction k with
  | zero => exact fun b => ⟨fun g r p n => ent_state b g r p n, fun k' _ _ _ h => absurd h (Nat.not_lt_zero _)⟩
  | succ k ih =>
    intro b
    obtain ⟨ih1, ih2⟩ := ih (by omega) b
    set V := STEP^[k] (Ent m q) with hV
    let kf : Fin 16 := ⟨k, by omega⟩
    have hk' : V (Proc.devRef .tc main_v58_7) = fun _ => Scf.iv 0#32 1#32 kf.val := trip_ctr k
    have hm : Masked V := fun i j => (congrFun (trip_keep main_v58_4 STEP_main_v58_4 k) _).trans (ent_mask i j)
    have exc : rXc V kf b = seqXc p3 cw cb b kf := funext fun j => funext fun c => (congrFun (trip_keep main_v58_1 STEP_main_v58_1 k) _).trans (ent_xc A kf b j c)
    have edt : rDt V kf b = seqDt p3 dtb b kf := funext fun j => funext fun h => (congrFun (trip_keep main_v58_2 STEP_main_v58_2 k) _).trans (ent_dt A kf b j h)
    have eal : rAl V = al := funext fun h => (congrFun (trip_keep main_v58_3 STEP_main_v58_3 k) _).trans (ent_al A h)
    have ez : rZ V kf b = seqZ p3 b kf := funext fun j => funext fun c => (congrFun (trip_keep main_v58_0 STEP_main_v58_0 k) _).trans (ent_z A kf b j c)
    have edsk : rDsk V = dsk := funext fun h => (congrFun (trip_keep main_v58_5 STEP_main_v58_5 k) _).trans (ent_dsk A h)
    have eng : rNg V = ng := funext fun h => (congrFun (trip_keep main_v58_6 STEP_main_v58_6 k) _).trans (ent_ng A h)
    have eH : rH V b = seqH p3 cw cb dtb al b k := by
      funext h p n
      refine (ih1 _ _ p n).trans (congrArg (fun h => seqH p3 cw cb dtb al b k h p n) (Fin.ext ?_))
      simp only [hd]; omega
    have ek : Fin.ofNat 16 k = kf := ofNat_val kf
    constructor
    · intro g r p n
      rw [Function.iterate_succ_apply', ← hV, STEP_main_v58_8, state_at hk', exc, edt, eal, eH]
      simp only [seqH, ek]
    · intro k' i h p hlt
      rw [Function.iterate_succ_apply', ← hV, STEP_main_v58_9, rows_at hk' hm, exc, edt, eal, eH, ez, edsk, eng]
      by_cases he : k' = kf
      · subst he
        rw [if_pos rfl]
        rfl
      · rw [if_neg he]
        exact ih2 k' i h p (by
          have : k'.val ≠ k := fun e => he (Fin.ext e)
          omega)

/-- The reference's rows and its final state. -/
theorem ref_rows (b : Fin 4) (k : Fin 16) (i : Fin 128) (h : Fin 16) (p : Fin 64) :
    out_main_v61 (STEP^[16] (Ent m q)) (ix3 b (pos k i) (col h p)) = seqY p3 cw cb dtb al dsk ng b k i h p := by
  have ht := ((trips A 16 le_rfl b).2 k i h p k.isLt)
  generalize STEP^[16] (Ent m q) = V at ht
  unfold out_main_v61
  pointwise []
  have e1 : ∀ hlt, (⟨(pos k i).val / 128, hlt⟩ : Fin 16) = k := fun _ => Fin.ext (by simp only [pos]; omega)
  have e2 : ∀ hlt, (⟨(pos k i).val % 128, hlt⟩ : Fin 128) = i := fun _ => Fin.ext (by simp only [pos]; omega)
  rw [e1, e2]
  exact ht

theorem ref_state (b : Fin 4) (h : Fin 16) (p : Fin 64) (n : Fin 128) :
    out_main_v62 (STEP^[16] (Ent m q)) (ix4 b h p n) = seqH p3 cw cb dtb al b 16 h p n := by
  have ht := ((trips A 16 le_rfl b).1 ⟨h.val / 4, by omega⟩ ⟨h.val % 4, by omega⟩ p n)
  generalize STEP^[16] (Ent m q) = V at ht
  unfold out_main_v62
  pointwise []
  refine ht.trans (congrArg (fun h => seqH p3 cw cb dtb al b 16 h p n) (Fin.ext ?_))
  simp only [hd]
  omega

end Entry

end Cert.Proof.Ssd
-- ==== Proof.SsdHeads.lean ====
/- Each head's output and each group's next state in the kernel's body, read at an index: given what the shared
   arrays of the body hold, they are the chunk's output terms and the chunk's next state. -/
module

public import proofs.«01_k».proof.Proof.SsdMath
public import proofs.«01_k».proof.Proof.Gen.SsdIdeal.Skeleton

@[expose] public section

set_option maxRecDepth 16384

noncomputable section

open Idealize.ShloMosaic Cert.SsdIdeal Cert.SsdIdeal.Gen

namespace Cert.Proof.Ssd

/-- What the arrays that every head reads hold: the convolved channels, the causal mask, the accumulated log decays
    (as stored, transposed, and at the chunk's end), the inputs to the state, those decayed to the chunk's end, and the
    decays from the chunk's start. -/
structure Reads (xc : Fin 128 → Fin 2048 → EReal) (dt : Fin 128 → Fin 16 → EReal) (al : Fin 16 → EReal)
    (v72 : FVec Ideal S128x1024 .f32) (v73 v74 : FVec Ideal S128x512 .f32) (v166 : IVec S128x128 1)
    (v181 v225 v226 : FVec Ideal S128x128 .f32) (v241 v256 v269 : FVec Ideal S128x1024 .f32) : Prop where
  h72 : ∀ (j : Fin 128) (c : Fin 1024), v72 (ix2 j c) = xc j (chX c)
  h73 : ∀ (j : Fin 128) (c : Fin 512), v73 (ix2 j c) = xc j ⟨1024 + c.val, by omega⟩
  h74 : ∀ (j : Fin 128) (c : Fin 512), v74 (ix2 j c) = xc j ⟨1536 + c.val, by omega⟩
  h166 : ∀ i j : Fin 128, v166 (ix2 i j) = BitVec.ofBool (decide (j ≤ i))
  h181 : ∀ (i : Fin 128) (h : Fin 16), v181 (ix2 i ⟨48 + h.val, by omega⟩) = acum dt al i h
  h225 : ∀ (i : Fin 128) (h : Fin 16), v225 (ix2 i ⟨48 + h.val, by omega⟩) = acum dt al 127 h
  h226 : ∀ (i : Fin 128) (h : Fin 16), v226 (ix2 ⟨48 + h.val, by omega⟩ i) = acum dt al i h
  h241 : ∀ (j : Fin 128) (c : Fin 1024), v241 (ix2 j c) = xc j (chX c) * dt j (headOf c)
  h256 : ∀ (j : Fin 128) (c : Fin 1024), v256 (ix2 j c)
    = xc j (chX c) * dt j (headOf c) * Ideal.exp (acum dt al 127 (headOf c) - acum dt al j (headOf c))
  h269 : ∀ (i : Fin 128) (c : Fin 1024), v269 (ix2 i c) = Ideal.exp (acum dt al i (headOf c))

/-- One term of a head's causal sum: the mask as a word selects what the mask as a condition selects. -/
theorem diag_term {b : BitVec 1} {q : Prop} [Decidable q] (hb : b = BitVec.ofBool (decide q))
    {s s' u u' w w' y y' : EReal} (hs : s = s') (hu : u = u') (hw : w = w') (hy : y = y') :
    Scalar.select b (s * Ideal.exp (Scalar.select b (u - w) 0) * y) 0 = s' * (if q then Ideal.exp (u' - w') else 0) * y' := by
  subst hb hs hu hw hy
  by_cases h : q <;> simp [h, Scalar.select]

/-- A group's loaded state read at an index given by its value. -/
theorem old_at {H : Fin 16 → Fin 64 → Fin 128 → EReal} {hg : Vec Ideal S4x64x128 .f32} {q : Fin 4 → Fin 16}
    (hH : ∀ (r : Fin 4) (p : Fin 64) (n : Fin 128), hg (ix3 r p n) = H (q r) p n)
    (r : Fin 4) (p : Fin 64) (n : Fin 128) (r' : Fin 4) (p' : Fin 64) (er : r'.val = r.val) (ep : p'.val = p.val) :
    hg (ix3 r' p' n) = H (q r) p n := by
  rw [show r' = r from Fin.ext er, show p' = p from Fin.ext ep]
  exact hH r p n

section Heads

variable {xc : Fin 128 → Fin 2048 → EReal} {dt : Fin 128 → Fin 16 → EReal} {al : Fin 16 → EReal}
  {v72 : FVec Ideal S128x1024 .f32} {v73 v74 : FVec Ideal S128x512 .f32} {v166 : IVec S128x128 1}
  {v181 v225 v226 : FVec Ideal S128x128 .f32} {v241 v256 v269 : FVec Ideal S128x1024 .f32}
  (R : Reads xc dt al v72 v73 v74 v166 v181 v225 v226 v241 v256 v269)

include R

/-- Channel reads of a group's output side and input side, and of a head's inputs. -/
theorem Reads.c_at (h : Fin 16) (i : Fin 128) (n : Fin 128) (c : Fin 512) (e : c.val = 128 * (h.val / 4) + n.val) :
    v74 (ix2 i c) = xc i (chC h n) :=
  (R.h74 i c).trans (congrArg (xc i) (Fin.ext (by simp only [chC]; omega)))
theorem Reads.b_at (h : Fin 16) (i : Fin 128) (n : Fin 128) (c : Fin 512) (e : c.val = 128 * (h.val / 4) + n.val) :
    v73 (ix2 i c) = xc i (chB h n) :=
  (R.h73 i c).trans (congrArg (xc i) (Fin.ext (by simp only [chB]; omega)))
theorem Reads.x_at (h : Fin 16) (j : Fin 128) (p : Fin 64) (c : Fin 1024) (e : c.val = 64 * h.val + p.val) :
    v241 (ix2 j c) = xin xc dt j h p := by
  rw [R.h241, show c = col h p from Fin.ext e, show headOf (col h p) = h from Fin.ext (by simp only [headOf, col]; omega)]
  rfl
theorem Reads.e_at (h : Fin 16) (j : Fin 128) (p : Fin 64) (c : Fin 1024) (e : c.val = 64 * h.val + p.val) :
    v256 (ix2 j c) = xin xc dt j h p * Ideal.exp (acum dt al 127 h - acum dt al j h) := by
  rw [R.h256, show c = col h p from Fin.ext e, show headOf (col h p) = h from Fin.ext (by simp only [headOf, col]; omega)]
  rfl
theorem Reads.g_at (h : Fin 16) (i : Fin 128) (p : Fin 64) (c : Fin 1024) (e : c.val = 64 * h.val + p.val) :
    v269 (ix2 i c) = Ideal.exp (acum dt al i h) := by
  rw [R.h269, show c = col h p from Fin.ext e, show headOf (col h p) = h from Fin.ext (by simp only [headOf, col]; omega)]

/-- Head 0's causal sum. -/
theorem diag0 (i : Fin 128) (p : Fin 64) : k0_pay47 v73 v74 v166 v181 v226 v241 (ix2 i p) = yDiag xc dt al i ⟨0, by omega⟩ p := by
  pointwise [k0_pay47, k0_pay46, k0_pay44, k0_pay45]
  refine Finset.sum_congr rfl fun j _ => diag_term (R.h166 i j) ?_ (R.h181 i ⟨0, by omega⟩) (R.h226 j ⟨0, by omega⟩) ?_
  · exact Finset.sum_congr rfl fun n _ => congrArg₂ (· * ·) (R.c_at ⟨0, by omega⟩ i n _ (by simp <;> omega))
      (R.b_at ⟨0, by omega⟩ j n _ (by simp <;> omega))
  · exact R.x_at ⟨0, by omega⟩ j p _ (by simp <;> omega)

/-- Head 1's causal sum. -/
theorem diag1 (i : Fin 128) (p : Fin 64) : k0_pay48 v73 v74 v166 v181 v226 v241 (ix2 i p) = yDiag xc dt al i ⟨1, by omega⟩ p := by
  pointwise [k0_pay48, k0_pay46, k0_pay44, k0_pay45]
  refine Finset.sum_congr rfl fun j _ => diag_term (R.h166 i j) ?_ (R.h181 i ⟨1, by omega⟩) (R.h226 j ⟨1, by omega⟩) ?_
  · exact Finset.sum_congr rfl fun n _ => congrArg₂ (· * ·) (R.c_at ⟨1, by omega⟩ i n _ (by simp <;> omega))
      (R.b_at ⟨1, by omega⟩ j n _ (by simp <;> omega))
  · exact R.x_at ⟨1, by omega⟩ j p _ (by simp <;> omega)

/-- Head 2's causal sum. -/
theorem diag2 (i : Fin 128) (p : Fin 64) : k0_pay51 (k0_pay49 v73 v74 v166 v181 v226) (k0_pay50 v241) (ix2 i p) = yDiag xc dt al i ⟨2, by omega⟩ p := by
  pointwise [k0_pay51, k0_pay49, k0_pay50, k0_pay46, k0_pay44, k0_pay45]
  refine Finset.sum_congr rfl fun j _ => diag_term (R.h166 i j) ?_ (R.h181 i ⟨2, by omega⟩) (R.h226 j ⟨2, by omega⟩) ?_
  · exact Finset.sum_congr rfl fun n _ => congrArg₂ (· * ·) (R.c_at ⟨2, by omega⟩ i n _ (by simp <;> omega))
      (R.b_at ⟨2, by omega⟩ j n _ (by simp <;> omega))
  · exact R.x_at ⟨2, by omega⟩ j p _ (by simp <;> omega)

/-- Head 3's causal sum. -/
theorem diag3 (i : Fin 128) (p : Fin 64) : k0_pay52 v166 v181 v226 v241 (k0_pay46 v73 v74) (ix2 i p) = yDiag xc dt al i ⟨3, by omega⟩ p := by
  pointwise [k0_pay52, k0_pay46, k0_pay44, k0_pay45]
  refine Finset.sum_congr rfl fun j _ => diag_term (R.h166 i j) ?_ (R.h181 i ⟨3, by omega⟩) (R.h226 j ⟨3, by omega⟩) ?_
  · exact Finset.sum_congr rfl fun n _ => congrArg₂ (· * ·) (R.c_at ⟨3, by omega⟩ i n _ (by simp <;> omega))
      (R.b_at ⟨3, by omega⟩ j n _ (by simp <;> omega))
  · exact R.x_at ⟨3, by omega⟩ j p _ (by simp <;> omega)

/-- Head 4's causal sum. -/
theorem diag4 (i : Fin 128) (p : Fin 64) : k0_pay64 v73 v74 v166 v181 v226 v241 (ix2 i p) = yDiag xc dt al i ⟨4, by omega⟩ p := by
  pointwise [k0_pay64, k0_pay63, k0_pay61, k0_pay62]
  refine Finset.sum_congr rfl fun j _ => diag_term (R.h166 i j) ?_ (R.h181 i ⟨4, by omega⟩) (R.h226 j ⟨4, by omega⟩) ?_
  · exact Finset.sum_congr rfl fun n _ => congrArg₂ (· * ·) (R.c_at ⟨4, by omega⟩ i n _ (by simp <;> omega))
      (R.b_at ⟨4, by omega⟩ j n _ (by simp <;> omega))
  · exact R.x_at ⟨4, by omega⟩ j p _ (by simp <;> omega)

/-- Head 5's causal sum. -/
theorem diag5 (i : Fin 128) (p : Fin 64) : k0_pay65 v73 v74 v166 v181 v226 v241 (ix2 i p) = yDiag xc dt al i ⟨5, by omega⟩ p := by
  pointwise [k0_pay65, k0_pay63, k0_pay61, k0_pay62]
  refine Finset.sum_congr rfl fun j _ => diag_term (R.h166 i j) ?_ (R.h181 i ⟨5, by omega⟩) (R.h226 j ⟨5, by omega⟩) ?_
  · exact Finset.sum_congr rfl fun n _ => congrArg₂ (· * ·) (R.c_at ⟨5, by omega⟩ i n _ (by simp <;> omega))
      (R.b_at ⟨5, by omega⟩ j n _ (by simp <;> omega))
  · exact R.x_at ⟨5, by omega⟩ j p _ (by simp <;> omega)

/-- Head 6's causal sum. -/
theorem diag6 (i : Fin 128) (p : Fin 64) : k0_pay68 v166 v241 (k0_pay63 v73 v74) (k0_pay66 v226) (k0_pay67 v181) (ix2 i p) = yDiag xc dt al i ⟨6, by omega⟩ p := by
  pointwise [k0_pay68, k0_pay66, k0_pay67, k0_pay63, k0_pay61, k0_pay62]
  refine Finset.sum_congr rfl fun j _ => diag_term (R.h166 i j) ?_ (R.h181 i ⟨6, by omega⟩) (R.h226 j ⟨6, by omega⟩) ?_
  · exact Finset.sum_congr rfl fun n _ => congrArg₂ (· * ·) (R.c_at ⟨6, by omega⟩ i n _ (by simp <;> omega))
      (R.b_at ⟨6, by omega⟩ j n _ (by simp <;> omega))
  · exact R.x_at ⟨6, by omega⟩ j p _ (by simp <;> omega)

/-- Head 7's causal sum. -/
theorem diag7 (i : Fin 128) (p : Fin 64) : k0_pay69 v166 v181 v226 v241 (k0_pay63 v73 v74) (ix2 i p) = yDiag xc dt al i ⟨7, by omega⟩ p := by
  pointwise [k0_pay69, k0_pay63, k0_pay61, k0_pay62]
  refine Finset.sum_congr rfl fun j _ => diag_term (R.h166 i j) ?_ (R.h181 i ⟨7, by omega⟩) (R.h226 j ⟨7, by omega⟩) ?_
  · exact Finset.sum_congr rfl fun n _ => congrArg₂ (· * ·) (R.c_at ⟨7, by omega⟩ i n _ (by simp <;> omega))
      (R.b_at ⟨7, by omega⟩ j n _ (by simp <;> omega))
  · exact R.x_at ⟨7, by omega⟩ j p _ (by simp <;> omega)

/-- Head 8's causal sum. -/
theorem diag8 (i : Fin 128) (p : Fin 64) : k0_pay82 v73 v74 v166 v181 v226 v241 (ix2 i p) = yDiag xc dt al i ⟨8, by omega⟩ p := by
  pointwise [k0_pay82, k0_pay81, k0_pay79, k0_pay80]
  refine Finset.sum_congr rfl fun j _ => diag_term (R.h166 i j) ?_ (R.h181 i ⟨8, by omega⟩) (R.h226 j ⟨8, by omega⟩) ?_
  · exact Finset.sum_congr rfl fun n _ => congrArg₂ (· * ·) (R.c_at ⟨8, by omega⟩ i n _ (by simp <;> omega))
      (R.b_at ⟨8, by omega⟩ j n _ (by simp <;> omega))
  · exact R.x_at ⟨8, by omega⟩ j p _ (by simp <;> omega)

/-- Head 9's causal sum. -/
theorem diag9 (i : Fin 128) (p : Fin 64) : k0_pay84 v166 v241 (k0_pay81 v73 v74) (k0_pay83 v166 v181 v226) (ix2 i p) = yDiag xc dt al i ⟨9, by omega⟩ p := by
  pointwise [k0_pay84, k0_pay83, k0_pay81, k0_pay79, k0_pay80]
  refine Finset.sum_congr rfl fun j _ => diag_term (R.h166 i j) ?_ (R.h181 i ⟨9, by omega⟩) (R.h226 j ⟨9, by omega⟩) ?_
  · exact Finset.sum_congr rfl fun n _ => congrArg₂ (· * ·) (R.c_at ⟨9, by omega⟩ i n _ (by simp <;> omega))
      (R.b_at ⟨9, by omega⟩ j n _ (by simp <;> omega))
  · exact R.x_at ⟨9, by omega⟩ j p _ (by simp <;> omega)

/-- Head 10's causal sum. -/
theorem diag10 (i : Fin 128) (p : Fin 64) : k0_pay85 v166 v181 v226 v241 (k0_pay81 v73 v74) (ix2 i p) = yDiag xc dt al i ⟨10, by omega⟩ p := by
  pointwise [k0_pay85, k0_pay81, k0_pay79, k0_pay80]
  refine Finset.sum_congr rfl fun j _ => diag_term (R.h166 i j) ?_ (R.h181 i ⟨10, by omega⟩) (R.h226 j ⟨10, by omega⟩) ?_
  · exact Finset.sum_congr rfl fun n _ => congrArg₂ (· * ·) (R.c_at ⟨10, by omega⟩ i n _ (by simp <;> omega))
      (R.b_at ⟨10, by omega⟩ j n _ (by simp <;> omega))
  · exact R.x_at ⟨10, by omega⟩ j p _ (by simp <;> omega)

/-- Head 11's causal sum. -/
theorem diag11 (i : Fin 128) (p : Fin 64) : k0_pay86 v166 v181 v226 v241 (k0_pay81 v73 v74) (ix2 i p) = yDiag xc dt al i ⟨11, by omega⟩ p := by
  pointwise [k0_pay86, k0_pay81, k0_pay79, k0_pay80]
  refine Finset.sum_congr rfl fun j _ => diag_term (R.h166 i j) ?_ (R.h181 i ⟨11, by omega⟩) (R.h226 j ⟨11, by omega⟩) ?_
  · exact Finset.sum_congr rfl fun n _ => congrArg₂ (· * ·) (R.c_at ⟨11, by omega⟩ i n _ (by simp <;> omega))
      (R.b_at ⟨11, by omega⟩ j n _ (by simp <;> omega))
  · exact R.x_at ⟨11, by omega⟩ j p _ (by simp <;> omega)

/-- Head 12's causal sum. -/
theorem diag12 (i : Fin 128) (p : Fin 64) : k0_pay101 v241 (k0_pay100 v73 v74 v166 v181 v226) (ix2 i p) = yDiag xc dt al i ⟨12, by omega⟩ p := by
  pointwise [k0_pay101, k0_pay100, k0_pay99, k0_pay97, k0_pay98]
  refine Finset.sum_congr rfl fun j _ => diag_term (R.h166 i j) ?_ (R.h181 i ⟨12, by omega⟩) (R.h226 j ⟨12, by omega⟩) ?_
  · exact Finset.sum_congr rfl fun n _ => congrArg₂ (· * ·) (R.c_at ⟨12, by omega⟩ i n _ (by simp <;> omega))
      (R.b_at ⟨12, by omega⟩ j n _ (by simp <;> omega))
  · exact R.x_at ⟨12, by omega⟩ j p _ (by simp <;> omega)

/-- Head 13's causal sum. -/
theorem diag13 (i : Fin 128) (p : Fin 64) : k0_pay102 v166 v181 v226 v241 (k0_pay99 v73 v74) (ix2 i p) = yDiag xc dt al i ⟨13, by omega⟩ p := by
  pointwise [k0_pay102, k0_pay99, k0_pay97, k0_pay98]
  refine Finset.sum_congr rfl fun j _ => diag_term (R.h166 i j) ?_ (R.h181 i ⟨13, by omega⟩) (R.h226 j ⟨13, by omega⟩) ?_
  · exact Finset.sum_congr rfl fun n _ => congrArg₂ (· * ·) (R.c_at ⟨13, by omega⟩ i n _ (by simp <;> omega))
      (R.b_at ⟨13, by omega⟩ j n _ (by simp <;> omega))
  · exact R.x_at ⟨13, by omega⟩ j p _ (by simp <;> omega)

/-- Head 14's causal sum. -/
theorem diag14 (i : Fin 128) (p : Fin 64) : k0_pay103 v166 v181 v226 v241 (k0_pay99 v73 v74) (ix2 i p) = yDiag xc dt al i ⟨14, by omega⟩ p := by
  pointwise [k0_pay103, k0_pay99, k0_pay97, k0_pay98]
  refine Finset.sum_congr rfl fun j _ => diag_term (R.h166 i j) ?_ (R.h181 i ⟨14, by omega⟩) (R.h226 j ⟨14, by omega⟩) ?_
  · exact Finset.sum_congr rfl fun n _ => congrArg₂ (· * ·) (R.c_at ⟨14, by omega⟩ i n _ (by simp <;> omega))
      (R.b_at ⟨14, by omega⟩ j n _ (by simp <;> omega))
  · exact R.x_at ⟨14, by omega⟩ j p _ (by simp <;> omega)

/-- Head 15's causal sum. -/
theorem diag15 (i : Fin 128) (p : Fin 64) : k0_pay104 v166 v181 v226 v241 (k0_pay99 v73 v74) (ix2 i p) = yDiag xc dt al i ⟨15, by omega⟩ p := by
  pointwise [k0_pay104, k0_pay99, k0_pay97, k0_pay98]
  refine Finset.sum_congr rfl fun j _ => diag_term (R.h166 i j) ?_ (R.h181 i ⟨15, by omega⟩) (R.h226 j ⟨15, by omega⟩) ?_
  · exact Finset.sum_congr rfl fun n _ => congrArg₂ (· * ·) (R.c_at ⟨15, by omega⟩ i n _ (by simp <;> omega))
      (R.b_at ⟨15, by omega⟩ j n _ (by simp <;> omega))
  · exact R.x_at ⟨15, by omega⟩ j p _ (by simp <;> omega)

/-- Head 0's output before the skip. -/
theorem head0 {H : Fin 16 → Fin 64 → Fin 128 → EReal} {hg : Vec Ideal S4x64x128 .f32}
    (hH : ∀ (r : Fin 4) (p : Fin 64) (n : Fin 128), hg (ix3 r p n) = H ⟨0 + r.val, by omega⟩ p n) (i : Fin 128) (p : Fin 64) :
    k0_pay57 v269 (k0_pay47 v73 v74 v166 v181 v226 v241) (k0_pay56 (k0_pay44 v74) hg) (ix2 i p)
      = yDiag xc dt al i ⟨0, by omega⟩ p + yState xc dt al H i ⟨0, by omega⟩ p := by
  pointwise [k0_pay57, k0_pay56, k0_pay54, k0_pay53, k0_pay44]
  rw [diag0 R]
  refine congrArg₂ (· + ·) rfl (congrArg₂ (· * ·) ?_ (R.g_at ⟨0, by omega⟩ i p _ (by simp <;> omega)))
  exact Finset.sum_congr rfl fun n _ => congrArg₂ (· * ·) (R.c_at ⟨0, by omega⟩ i n _ (by simp <;> omega))
    (old_at hH 0 p n _ _ (by dsimp only <;> omega) (by dsimp only <;> omega))

/-- Head 1's output before the skip. -/
theorem head1 {H : Fin 16 → Fin 64 → Fin 128 → EReal} {hg : Vec Ideal S4x64x128 .f32}
    (hH : ∀ (r : Fin 4) (p : Fin 64) (n : Fin 128), hg (ix3 r p n) = H ⟨0 + r.val, by omega⟩ p n) (i : Fin 128) (p : Fin 64) :
    k0_pay58 v269 (k0_pay48 v73 v74 v166 v181 v226 v241) (k0_pay54 (k0_pay44 v74) hg) (ix2 i p)
      = yDiag xc dt al i ⟨1, by omega⟩ p + yState xc dt al H i ⟨1, by omega⟩ p := by
  pointwise [k0_pay58, k0_pay54, k0_pay53, k0_pay44]
  rw [diag1 R]
  refine congrArg₂ (· + ·) rfl (congrArg₂ (· * ·) ?_ (R.g_at ⟨1, by omega⟩ i p _ (by simp <;> omega)))
  exact Finset.sum_congr rfl fun n _ => congrArg₂ (· * ·) (R.c_at ⟨1, by omega⟩ i n _ (by simp <;> omega))
    (old_at hH 1 p n _ _ (by dsimp only <;> omega) (by dsimp only <;> omega))

/-- Head 2's output before the skip. -/
theorem head2 {H : Fin 16 → Fin 64 → Fin 128 → EReal} {hg : Vec Ideal S4x64x128 .f32}
    (hH : ∀ (r : Fin 4) (p : Fin 64) (n : Fin 128), hg (ix3 r p n) = H ⟨0 + r.val, by omega⟩ p n) (i : Fin 128) (p : Fin 64) :
    k0_pay59 v269 (k0_pay51 (k0_pay49 v73 v74 v166 v181 v226) (k0_pay50 v241)) (k0_pay54 (k0_pay44 v74) hg) (ix2 i p)
      = yDiag xc dt al i ⟨2, by omega⟩ p + yState xc dt al H i ⟨2, by omega⟩ p := by
  pointwise [k0_pay59, k0_pay54, k0_pay53, k0_pay44]
  rw [diag2 R]
  refine congrArg₂ (· + ·) rfl (congrArg₂ (· * ·) ?_ (R.g_at ⟨2, by omega⟩ i p _ (by simp <;> omega)))
  exact Finset.sum_congr rfl fun n _ => congrArg₂ (· * ·) (R.c_at ⟨2, by omega⟩ i n _ (by simp <;> omega))
    (old_at hH 2 p n _ _ (by dsimp only <;> omega) (by dsimp only <;> omega))

/-- Head 3's output before the skip. -/
theorem head3 {H : Fin 16 → Fin 64 → Fin 128 → EReal} {hg : Vec Ideal S4x64x128 .f32}
    (hH : ∀ (r : Fin 4) (p : Fin 64) (n : Fin 128), hg (ix3 r p n) = H ⟨0 + r.val, by omega⟩ p n) (i : Fin 128) (p : Fin 64) :
    k0_pay60 v269 (k0_pay52 v166 v181 v226 v241 (k0_pay46 v73 v74)) (k0_pay54 (k0_pay44 v74) hg) (ix2 i p)
      = yDiag xc dt al i ⟨3, by omega⟩ p + yState xc dt al H i ⟨3, by omega⟩ p := by
  pointwise [k0_pay60, k0_pay54, k0_pay53, k0_pay44]
  rw [diag3 R]
  refine congrArg₂ (· + ·) rfl (congrArg₂ (· * ·) ?_ (R.g_at ⟨3, by omega⟩ i p _ (by simp <;> omega)))
  exact Finset.sum_congr rfl fun n _ => congrArg₂ (· * ·) (R.c_at ⟨3, by omega⟩ i n _ (by simp <;> omega))
    (old_at hH 3 p n _ _ (by dsimp only <;> omega) (by dsimp only <;> omega))

/-- Head 4's output before the skip. -/
theorem head4 {H : Fin 16 → Fin 64 → Fin 128 → EReal} {hg : Vec Ideal S4x64x128 .f32}
    (hH : ∀ (r : Fin 4) (p : Fin 64) (n : Fin 128), hg (ix3 r p n) = H ⟨4 + r.val, by omega⟩ p n) (i : Fin 128) (p : Fin 64) :
    k0_pay75 v269 (k0_pay64 v73 v74 v166 v181 v226 v241) (k0_pay72 (k0_pay61 v74) hg) (ix2 i p)
      = yDiag xc dt al i ⟨4, by omega⟩ p + yState xc dt al H i ⟨4, by omega⟩ p := by
  pointwise [k0_pay75, k0_pay72, k0_pay71, k0_pay61]
  rw [diag4 R]
  refine congrArg₂ (· + ·) rfl (congrArg₂ (· * ·) ?_ (R.g_at ⟨4, by omega⟩ i p _ (by simp <;> omega)))
  exact Finset.sum_congr rfl fun n _ => congrArg₂ (· * ·) (R.c_at ⟨4, by omega⟩ i n _ (by simp <;> omega))
    (old_at hH 0 p n _ _ (by dsimp only <;> omega) (by dsimp only <;> omega))

/-- Head 5's output before the skip. -/
theorem head5 {H : Fin 16 → Fin 64 → Fin 128 → EReal} {hg : Vec Ideal S4x64x128 .f32}
    (hH : ∀ (r : Fin 4) (p : Fin 64) (n : Fin 128), hg (ix3 r p n) = H ⟨4 + r.val, by omega⟩ p n) (i : Fin 128) (p : Fin 64) :
    k0_pay76 v269 (k0_pay65 v73 v74 v166 v181 v226 v241) (k0_pay72 (k0_pay61 v74) hg) (ix2 i p)
      = yDiag xc dt al i ⟨5, by omega⟩ p + yState xc dt al H i ⟨5, by omega⟩ p := by
  pointwise [k0_pay76, k0_pay72, k0_pay71, k0_pay61]
  rw [diag5 R]
  refine congrArg₂ (· + ·) rfl (congrArg₂ (· * ·) ?_ (R.g_at ⟨5, by omega⟩ i p _ (by simp <;> omega)))
  exact Finset.sum_congr rfl fun n _ => congrArg₂ (· * ·) (R.c_at ⟨5, by omega⟩ i n _ (by simp <;> omega))
    (old_at hH 1 p n _ _ (by dsimp only <;> omega) (by dsimp only <;> omega))

/-- Head 6's output before the skip. -/
theorem head6 {H : Fin 16 → Fin 64 → Fin 128 → EReal} {hg : Vec Ideal S4x64x128 .f32}
    (hH : ∀ (r : Fin 4) (p : Fin 64) (n : Fin 128), hg (ix3 r p n) = H ⟨4 + r.val, by omega⟩ p n) (i : Fin 128) (p : Fin 64) :
    k0_pay77 v269 (k0_pay68 v166 v241 (k0_pay63 v73 v74) (k0_pay66 v226) (k0_pay67 v181)) (k0_pay72 (k0_pay61 v74) hg) (ix2 i p)
      = yDiag xc dt al i ⟨6, by omega⟩ p + yState xc dt al H i ⟨6, by omega⟩ p := by
  pointwise [k0_pay77, k0_pay72, k0_pay71, k0_pay61]
  rw [diag6 R]
  refine congrArg₂ (· + ·) rfl (congrArg₂ (· * ·) ?_ (R.g_at ⟨6, by omega⟩ i p _ (by simp <;> omega)))
  exact Finset.sum_congr rfl fun n _ => congrArg₂ (· * ·) (R.c_at ⟨6, by omega⟩ i n _ (by simp <;> omega))
    (old_at hH 2 p n _ _ (by dsimp only <;> omega) (by dsimp only <;> omega))

/-- Head 7's output before the skip. -/
theorem head7 {H : Fin 16 → Fin 64 → Fin 128 → EReal} {hg : Vec Ideal S4x64x128 .f32}
    (hH : ∀ (r : Fin 4) (p : Fin 64) (n : Fin 128), hg (ix3 r p n) = H ⟨4 + r.val, by omega⟩ p n) (i : Fin 128) (p : Fin 64) :
    k0_pay78 v269 (k0_pay69 v166 v181 v226 v241 (k0_pay63 v73 v74)) (k0_pay72 (k0_pay61 v74) hg) (ix2 i p)
      = yDiag xc dt al i ⟨7, by omega⟩ p + yState xc dt al H i ⟨7, by omega⟩ p := by
  pointwise [k0_pay78, k0_pay72, k0_pay71, k0_pay61]
  rw [diag7 R]
  refine congrArg₂ (· + ·) rfl (congrArg₂ (· * ·) ?_ (R.g_at ⟨7, by omega⟩ i p _ (by simp <;> omega)))
  exact Finset.sum_congr rfl fun n _ => congrArg₂ (· * ·) (R.c_at ⟨7, by omega⟩ i n _ (by simp <;> omega))
    (old_at hH 3 p n _ _ (by dsimp only <;> omega) (by dsimp only <;> omega))

/-- Head 8's output before the skip. -/
theorem head8 {H : Fin 16 → Fin 64 → Fin 128 → EReal} {hg : Vec Ideal S4x64x128 .f32}
    (hH : ∀ (r : Fin 4) (p : Fin 64) (n : Fin 128), hg (ix3 r p n) = H ⟨8 + r.val, by omega⟩ p n) (i : Fin 128) (p : Fin 64) :
    k0_pay93 v269 (k0_pay82 v73 v74 v166 v181 v226 v241) (k0_pay89 (k0_pay79 v74) hg) (ix2 i p)
      = yDiag xc dt al i ⟨8, by omega⟩ p + yState xc dt al H i ⟨8, by omega⟩ p := by
  pointwise [k0_pay93, k0_pay89, k0_pay88, k0_pay79]
  rw [diag8 R]
  refine congrArg₂ (· + ·) rfl (congrArg₂ (· * ·) ?_ (R.g_at ⟨8, by omega⟩ i p _ (by simp <;> omega)))
  exact Finset.sum_congr rfl fun n _ => congrArg₂ (· * ·) (R.c_at ⟨8, by omega⟩ i n _ (by simp <;> omega))
    (old_at hH 0 p n _ _ (by dsimp only <;> omega) (by dsimp only <;> omega))

/-- Head 9's output before the skip. -/
theorem head9 {H : Fin 16 → Fin 64 → Fin 128 → EReal} {hg : Vec Ideal S4x64x128 .f32}
    (hH : ∀ (r : Fin 4) (p : Fin 64) (n : Fin 128), hg (ix3 r p n) = H ⟨8 + r.val, by omega⟩ p n) (i : Fin 128) (p : Fin 64) :
    k0_pay94 v269 (k0_pay84 v166 v241 (k0_pay81 v73 v74) (k0_pay83 v166 v181 v226)) (k0_pay89 (k0_pay79 v74) hg) (ix2 i p)
      = yDiag xc dt al i ⟨9, by omega⟩ p + yState xc dt al H i ⟨9, by omega⟩ p := by
  pointwise [k0_pay94, k0_pay89, k0_pay88, k0_pay79]
  rw [diag9 R]
  refine congrArg₂ (· + ·) rfl (congrArg₂ (· * ·) ?_ (R.g_at ⟨9, by omega⟩ i p _ (by simp <;> omega)))
  exact Finset.sum_congr rfl fun n _ => congrArg₂ (· * ·) (R.c_at ⟨9, by omega⟩ i n _ (by simp <;> omega))
    (old_at hH 1 p n _ _ (by dsimp only <;> omega) (by dsimp only <;> omega))

/-- Head 10's output before the skip. -/
theorem head10 {H : Fin 16 → Fin 64 → Fin 128 → EReal} {hg : Vec Ideal S4x64x128 .f32}
    (hH : ∀ (r : Fin 4) (p : Fin 64) (n : Fin 128), hg (ix3 r p n) = H ⟨8 + r.val, by omega⟩ p n) (i : Fin 128) (p : Fin 64) :
    k0_pay95 v269 (k0_pay85 v166 v181 v226 v241 (k0_pay81 v73 v74)) (k0_pay89 (k0_pay79 v74) hg) (ix2 i p)
      = yDiag xc dt al i ⟨10, by omega⟩ p + yState xc dt al H i ⟨10, by omega⟩ p := by
  pointwise [k0_pay95, k0_pay89, k0_pay88, k0_pay79]
  rw [diag10 R]
  refine congrArg₂ (· + ·) rfl (congrArg₂ (· * ·) ?_ (R.g_at ⟨10, by omega⟩ i p _ (by simp <;> omega)))
  exact Finset.sum_congr rfl fun n _ => congrArg₂ (· * ·) (R.c_at ⟨10, by omega⟩ i n _ (by simp <;> omega))
    (old_at hH 2 p n _ _ (by dsimp only <;> omega) (by dsimp only <;> omega))

/-- Head 11's output before the skip. -/
theorem head11 {H : Fin 16 → Fin 64 → Fin 128 → EReal} {hg : Vec Ideal S4x64x128 .f32}
    (hH : ∀ (r : Fin 4) (p : Fin 64) (n : Fin 128), hg (ix3 r p n) = H ⟨8 + r.val, by omega⟩ p n) (i : Fin 128) (p : Fin 64) :
    k0_pay96 v269 (k0_pay86 v166 v181 v226 v241 (k0_pay81 v73 v74)) (k0_pay89 (k0_pay79 v74) hg) (ix2 i p)
      = yDiag xc dt al i ⟨11, by omega⟩ p + yState xc dt al H i ⟨11, by omega⟩ p := by
  pointwise [k0_pay96, k0_pay89, k0_pay88, k0_pay79]
  rw [diag11 R]
  refine congrArg₂ (· + ·) rfl (congrArg₂ (· * ·) ?_ (R.g_at ⟨11, by omega⟩ i p _ (by simp <;> omega)))
  exact Finset.sum_congr rfl fun n _ => congrArg₂ (· * ·) (R.c_at ⟨11, by omega⟩ i n _ (by simp <;> omega))
    (old_at hH 3 p n _ _ (by dsimp only <;> omega) (by dsimp only <;> omega))

/-- Head 12's output before the skip. -/
theorem head12 {H : Fin 16 → Fin 64 → Fin 128 → EReal} {hg : Vec Ideal S4x64x128 .f32}
    (hH : ∀ (r : Fin 4) (p : Fin 64) (n : Fin 128), hg (ix3 r p n) = H ⟨12 + r.val, by omega⟩ p n) (i : Fin 128) (p : Fin 64) :
    k0_pay109 v269 (k0_pay97 v74) (k0_pay101 v241 (k0_pay100 v73 v74 v166 v181 v226)) hg (ix2 i p)
      = yDiag xc dt al i ⟨12, by omega⟩ p + yState xc dt al H i ⟨12, by omega⟩ p := by
  pointwise [k0_pay109, k0_pay107, k0_pay106, k0_pay97]
  rw [diag12 R]
  refine congrArg₂ (· + ·) rfl (congrArg₂ (· * ·) ?_ (R.g_at ⟨12, by omega⟩ i p _ (by simp <;> omega)))
  exact Finset.sum_congr rfl fun n _ => congrArg₂ (· * ·) (R.c_at ⟨12, by omega⟩ i n _ (by simp <;> omega))
    (old_at hH 0 p n _ _ (by dsimp only <;> omega) (by dsimp only <;> omega))

/-- Head 13's output before the skip. -/
theorem head13 {H : Fin 16 → Fin 64 → Fin 128 → EReal} {hg : Vec Ideal S4x64x128 .f32}
    (hH : ∀ (r : Fin 4) (p : Fin 64) (n : Fin 128), hg (ix3 r p n) = H ⟨12 + r.val, by omega⟩ p n) (i : Fin 128) (p : Fin 64) :
    k0_pay110 v269 (k0_pay97 v74) (k0_pay102 v166 v181 v226 v241 (k0_pay99 v73 v74)) hg (ix2 i p)
      = yDiag xc dt al i ⟨13, by omega⟩ p + yState xc dt al H i ⟨13, by omega⟩ p := by
  pointwise [k0_pay110, k0_pay107, k0_pay106, k0_pay97]
  rw [diag13 R]
  refine congrArg₂ (· + ·) rfl (congrArg₂ (· * ·) ?_ (R.g_at ⟨13, by omega⟩ i p _ (by simp <;> omega)))
  exact Finset.sum_congr rfl fun n _ => congrArg₂ (· * ·) (R.c_at ⟨13, by omega⟩ i n _ (by simp <;> omega))
    (old_at hH 1 p n _ _ (by dsimp only <;> omega) (by dsimp only <;> omega))

/-- Head 14's output before the skip. -/
theorem head14 {H : Fin 16 → Fin 64 → Fin 128 → EReal} {hg : Vec Ideal S4x64x128 .f32}
    (hH : ∀ (r : Fin 4) (p : Fin 64) (n : Fin 128), hg (ix3 r p n) = H ⟨12 + r.val, by omega⟩ p n) (i : Fin 128) (p : Fin 64) :
    k0_pay111 v269 (k0_pay97 v74) (k0_pay103 v166 v181 v226 v241 (k0_pay99 v73 v74)) hg (ix2 i p)
      = yDiag xc dt al i ⟨14, by omega⟩ p + yState xc dt al H i ⟨14, by omega⟩ p := by
  pointwise [k0_pay111, k0_pay107, k0_pay106, k0_pay97]
  rw [diag14 R]
  refine congrArg₂ (· + ·) rfl (congrArg₂ (· * ·) ?_ (R.g_at ⟨14, by omega⟩ i p _ (by simp <;> omega)))
  exact Finset.sum_congr rfl fun n _ => congrArg₂ (· * ·) (R.c_at ⟨14, by omega⟩ i n _ (by simp <;> omega))
    (old_at hH 2 p n _ _ (by dsimp only <;> omega) (by dsimp only <;> omega))

/-- Head 15's output before the skip. -/
theorem head15 {H : Fin 16 → Fin 64 → Fin 128 → EReal} {hg : Vec Ideal S4x64x128 .f32}
    (hH : ∀ (r : Fin 4) (p : Fin 64) (n : Fin 128), hg (ix3 r p n) = H ⟨12 + r.val, by omega⟩ p n) (i : Fin 128) (p : Fin 64) :
    k0_pay112 v269 (k0_pay97 v74) (k0_pay104 v166 v181 v226 v241 (k0_pay99 v73 v74)) hg (ix2 i p)
      = yDiag xc dt al i ⟨15, by omega⟩ p + yState xc dt al H i ⟨15, by omega⟩ p := by
  pointwise [k0_pay112, k0_pay107, k0_pay106, k0_pay97]
  rw [diag15 R]
  refine congrArg₂ (· + ·) rfl (congrArg₂ (· * ·) ?_ (R.g_at ⟨15, by omega⟩ i p _ (by simp <;> omega)))
  exact Finset.sum_congr rfl fun n _ => congrArg₂ (· * ·) (R.c_at ⟨15, by omega⟩ i n _ (by simp <;> omega))
    (old_at hH 3 p n _ _ (by dsimp only <;> omega) (by dsimp only <;> omega))

/-- Group 0's state after the chunk. -/
theorem next0 {H : Fin 16 → Fin 64 → Fin 128 → EReal} {hg : Vec Ideal S4x64x128 .f32}
    (hH : ∀ (r : Fin 4) (p : Fin 64) (n : Fin 128), hg (ix3 r p n) = H ⟨0 + r.val, by omega⟩ p n) (r : Fin 4) (p : Fin 64) (n : Fin 128) :
    k0_pay55 v225 v256 (k0_pay45 v73) hg (ix3 r p n) = stateNext xc dt al H ⟨0 + r.val, by omega⟩ p n := by
  fin_cases r
  · pointwise [k0_pay55, k0_pay53, k0_pay45]
    refine congrArg₂ (· + ·) (congrArg₂ (· * ·) (old_at hH 0 p n _ _ (by dsimp only <;> omega) (by dsimp only <;> omega)) ?_)
      (Finset.sum_congr rfl fun j _ => congrArg₂ (· * ·) (R.e_at ⟨0, by omega⟩ j p _ (by simp <;> omega))
        (R.b_at ⟨0, by omega⟩ j n _ (by simp <;> omega)))
    have e := congrArg Ideal.exp (R.h225 0 ⟨0, by omega⟩)
    first
      | exact e
      | split_ifs <;> first | omega | exact e
  · pointwise [k0_pay55, k0_pay53, k0_pay45]
    refine congrArg₂ (· + ·) (congrArg₂ (· * ·) (old_at hH 1 p n _ _ (by dsimp only <;> omega) (by dsimp only <;> omega)) ?_)
      (Finset.sum_congr rfl fun j _ => congrArg₂ (· * ·) (R.e_at ⟨1, by omega⟩ j p _ (by simp <;> omega))
        (R.b_at ⟨1, by omega⟩ j n _ (by simp <;> omega)))
    have e := congrArg Ideal.exp (R.h225 0 ⟨1, by omega⟩)
    first
      | exact e
      | split_ifs <;> first | omega | exact e
  · pointwise [k0_pay55, k0_pay53, k0_pay45]
    refine congrArg₂ (· + ·) (congrArg₂ (· * ·) (old_at hH 2 p n _ _ (by dsimp only <;> omega) (by dsimp only <;> omega)) ?_)
      (Finset.sum_congr rfl fun j _ => congrArg₂ (· * ·) (R.e_at ⟨2, by omega⟩ j p _ (by simp <;> omega))
        (R.b_at ⟨2, by omega⟩ j n _ (by simp <;> omega)))
    have e := congrArg Ideal.exp (R.h225 0 ⟨2, by omega⟩)
    first
      | exact e
      | split_ifs <;> first | omega | exact e
  · pointwise [k0_pay55, k0_pay53, k0_pay45]
    refine congrArg₂ (· + ·) (congrArg₂ (· * ·) (old_at hH 3 p n _ _ (by dsimp only <;> omega) (by dsimp only <;> omega)) ?_)
      (Finset.sum_congr rfl fun j _ => congrArg₂ (· * ·) (R.e_at ⟨3, by omega⟩ j p _ (by simp <;> omega))
        (R.b_at ⟨3, by omega⟩ j n _ (by simp <;> omega)))
    have e := congrArg Ideal.exp (R.h225 0 ⟨3, by omega⟩)
    first
      | exact e
      | split_ifs <;> first | omega | exact e

/-- Group 1's state after the chunk. -/
theorem next1 {H : Fin 16 → Fin 64 → Fin 128 → EReal} {hg : Vec Ideal S4x64x128 .f32}
    (hH : ∀ (r : Fin 4) (p : Fin 64) (n : Fin 128), hg (ix3 r p n) = H ⟨4 + r.val, by omega⟩ p n) (r : Fin 4) (p : Fin 64) (n : Fin 128) :
    k0_pay74 (k0_pay62 v73) (k0_pay70 v256) (k0_pay73 v225 hg) (ix3 r p n) = stateNext xc dt al H ⟨4 + r.val, by omega⟩ p n := by
  fin_cases r
  · pointwise [k0_pay74, k0_pay73, k0_pay71, k0_pay70, k0_pay62]
    refine congrArg₂ (· + ·) (congrArg₂ (· * ·) (old_at hH 0 p n _ _ (by dsimp only <;> omega) (by dsimp only <;> omega)) ?_)
      (Finset.sum_congr rfl fun j _ => congrArg₂ (· * ·) (R.e_at ⟨4, by omega⟩ j p _ (by simp <;> omega))
        (R.b_at ⟨4, by omega⟩ j n _ (by simp <;> omega)))
    have e := congrArg Ideal.exp (R.h225 0 ⟨4, by omega⟩)
    first
      | exact e
      | split_ifs <;> first | omega | exact e
  · pointwise [k0_pay74, k0_pay73, k0_pay71, k0_pay70, k0_pay62]
    refine congrArg₂ (· + ·) (congrArg₂ (· * ·) (old_at hH 1 p n _ _ (by dsimp only <;> omega) (by dsimp only <;> omega)) ?_)
      (Finset.sum_congr rfl fun j _ => congrArg₂ (· * ·) (R.e_at ⟨5, by omega⟩ j p _ (by simp <;> omega))
        (R.b_at ⟨5, by omega⟩ j n _ (by simp <;> omega)))
    have e := congrArg Ideal.exp (R.h225 0 ⟨5, by omega⟩)
    first
      | exact e
      | split_ifs <;> first | omega | exact e
  · pointwise [k0_pay74, k0_pay73, k0_pay71, k0_pay70, k0_pay62]
    refine congrArg₂ (· + ·) (congrArg₂ (· * ·) (old_at hH 2 p n _ _ (by dsimp only <;> omega) (by dsimp only <;> omega)) ?_)
      (Finset.sum_congr rfl fun j _ => congrArg₂ (· * ·) (R.e_at ⟨6, by omega⟩ j p _ (by simp <;> omega))
        (R.b_at ⟨6, by omega⟩ j n _ (by simp <;> omega)))
    have e := congrArg Ideal.exp (R.h225 0 ⟨6, by omega⟩)
    first
      | exact e
      | split_ifs <;> first | omega | exact e
  · pointwise [k0_pay74, k0_pay73, k0_pay71, k0_pay70, k0_pay62]
    refine congrArg₂ (· + ·) (congrArg₂ (· * ·) (old_at hH 3 p n _ _ (by dsimp only <;> omega) (by dsimp only <;> omega)) ?_)
      (Finset.sum_congr rfl fun j _ => congrArg₂ (· * ·) (R.e_at ⟨7, by omega⟩ j p _ (by simp <;> omega))
        (R.b_at ⟨7, by omega⟩ j n _ (by simp <;> omega)))
    have e := congrArg Ideal.exp (R.h225 0 ⟨7, by omega⟩)
    first
      | exact e
      | split_ifs <;> first | omega | exact e

/-- Group 2's state after the chunk. -/
theorem next2 {H : Fin 16 → Fin 64 → Fin 128 → EReal} {hg : Vec Ideal S4x64x128 .f32}
    (hH : ∀ (r : Fin 4) (p : Fin 64) (n : Fin 128), hg (ix3 r p n) = H ⟨8 + r.val, by omega⟩ p n) (r : Fin 4) (p : Fin 64) (n : Fin 128) :
    k0_pay92 v225 (k0_pay80 v73) (k0_pay87 v256) (k0_pay88 hg) (k0_pay90 v225) (k0_pay91 v225) (ix3 r p n) = stateNext xc dt al H ⟨8 + r.val, by omega⟩ p n := by
  fin_cases r
  · pointwise [k0_pay92, k0_pay91, k0_pay90, k0_pay88, k0_pay87, k0_pay80]
    refine congrArg₂ (· + ·) (congrArg₂ (· * ·) (old_at hH 0 p n _ _ (by dsimp only <;> omega) (by dsimp only <;> omega)) ?_)
      (Finset.sum_congr rfl fun j _ => congrArg₂ (· * ·) (R.e_at ⟨8, by omega⟩ j p _ (by simp <;> omega))
        (R.b_at ⟨8, by omega⟩ j n _ (by simp <;> omega)))
    have e := congrArg Ideal.exp (R.h225 0 ⟨8, by omega⟩)
    first
      | exact e
      | split_ifs <;> first | omega | exact e
  · pointwise [k0_pay92, k0_pay91, k0_pay90, k0_pay88, k0_pay87, k0_pay80]
    refine congrArg₂ (· + ·) (congrArg₂ (· * ·) (old_at hH 1 p n _ _ (by dsimp only <;> omega) (by dsimp only <;> omega)) ?_)
      (Finset.sum_congr rfl fun j _ => congrArg₂ (· * ·) (R.e_at ⟨9, by omega⟩ j p _ (by simp <;> omega))
        (R.b_at ⟨9, by omega⟩ j n _ (by simp <;> omega)))
    have e := congrArg Ideal.exp (R.h225 0 ⟨9, by omega⟩)
    first
      | exact e
      | split_ifs <;> first | omega | exact e
  · pointwise [k0_pay92, k0_pay91, k0_pay90, k0_pay88, k0_pay87, k0_pay80]
    refine congrArg₂ (· + ·) (congrArg₂ (· * ·) (old_at hH 2 p n _ _ (by dsimp only <;> omega) (by dsimp only <;> omega)) ?_)
      (Finset.sum_congr rfl fun j _ => congrArg₂ (· * ·) (R.e_at ⟨10, by omega⟩ j p _ (by simp <;> omega))
        (R.b_at ⟨10, by omega⟩ j n _ (by simp <;> omega)))
    have e := congrArg Ideal.exp (R.h225 0 ⟨10, by omega⟩)
    first
      | exact e
      | split_ifs <;> first | omega | exact e
  · pointwise [k0_pay92, k0_pay91, k0_pay90, k0_pay88, k0_pay87, k0_pay80]
    refine congrArg₂ (· + ·) (congrArg₂ (· * ·) (old_at hH 3 p n _ _ (by dsimp only <;> omega) (by dsimp only <;> omega)) ?_)
      (Finset.sum_congr rfl fun j _ => congrArg₂ (· * ·) (R.e_at ⟨11, by omega⟩ j p _ (by simp <;> omega))
        (R.b_at ⟨11, by omega⟩ j n _ (by simp <;> omega)))
    have e := congrArg Ideal.exp (R.h225 0 ⟨11, by omega⟩)
    first
      | exact e
      | split_ifs <;> first | omega | exact e

/-- Group 3's state after the chunk. -/
theorem next3 {H : Fin 16 → Fin 64 → Fin 128 → EReal} {hg : Vec Ideal S4x64x128 .f32}
    (hH : ∀ (r : Fin 4) (p : Fin 64) (n : Fin 128), hg (ix3 r p n) = H ⟨12 + r.val, by omega⟩ p n) (r : Fin 4) (p : Fin 64) (n : Fin 128) :
    k0_pay108 v225 (k0_pay98 v73) (k0_pay105 v256) hg (ix3 r p n) = stateNext xc dt al H ⟨12 + r.val, by omega⟩ p n := by
  fin_cases r
  · pointwise [k0_pay108, k0_pay106, k0_pay105, k0_pay98]
    refine congrArg₂ (· + ·) (congrArg₂ (· * ·) (old_at hH 0 p n _ _ (by dsimp only <;> omega) (by dsimp only <;> omega)) ?_)
      (Finset.sum_congr rfl fun j _ => congrArg₂ (· * ·) (R.e_at ⟨12, by omega⟩ j p _ (by simp <;> omega))
        (R.b_at ⟨12, by omega⟩ j n _ (by simp <;> omega)))
    have e := congrArg Ideal.exp (R.h225 0 ⟨12, by omega⟩)
    first
      | exact e
      | split_ifs <;> first | omega | exact e
  · pointwise [k0_pay108, k0_pay106, k0_pay105, k0_pay98]
    refine congrArg₂ (· + ·) (congrArg₂ (· * ·) (old_at hH 1 p n _ _ (by dsimp only <;> omega) (by dsimp only <;> omega)) ?_)
      (Finset.sum_congr rfl fun j _ => congrArg₂ (· * ·) (R.e_at ⟨13, by omega⟩ j p _ (by simp <;> omega))
        (R.b_at ⟨13, by omega⟩ j n _ (by simp <;> omega)))
    have e := congrArg Ideal.exp (R.h225 0 ⟨13, by omega⟩)
    first
      | exact e
      | split_ifs <;> first | omega | exact e
  · pointwise [k0_pay108, k0_pay106, k0_pay105, k0_pay98]
    refine congrArg₂ (· + ·) (congrArg₂ (· * ·) (old_at hH 2 p n _ _ (by dsimp only <;> omega) (by dsimp only <;> omega)) ?_)
      (Finset.sum_congr rfl fun j _ => congrArg₂ (· * ·) (R.e_at ⟨14, by omega⟩ j p _ (by simp <;> omega))
        (R.b_at ⟨14, by omega⟩ j n _ (by simp <;> omega)))
    have e := congrArg Ideal.exp (R.h225 0 ⟨14, by omega⟩)
    first
      | exact e
      | split_ifs <;> first | omega | exact e
  · pointwise [k0_pay108, k0_pay106, k0_pay105, k0_pay98]
    refine congrArg₂ (· + ·) (congrArg₂ (· * ·) (old_at hH 3 p n _ _ (by dsimp only <;> omega) (by dsimp only <;> omega)) ?_)
      (Finset.sum_congr rfl fun j _ => congrArg₂ (· * ·) (R.e_at ⟨15, by omega⟩ j p _ (by simp <;> omega))
        (R.b_at ⟨15, by omega⟩ j n _ (by simp <;> omega)))
    have e := congrArg Ideal.exp (R.h225 0 ⟨15, by omega⟩)
    first
      | exact e
      | split_ifs <;> first | omega | exact e

end Heads

end Cert.Proof.Ssd

end
-- ==== Proof.SsdWords.lean ====
/- The kernel's two position words: the causal mask and the selector of the last position. -/
module

public import proofs.«01_k».proof.Proof.SsdMath
public import proofs.«01_k».proof.Proof.Gen.SsdIdeal.Skeleton

@[expose] public section

set_option maxRecDepth 16384

noncomputable section

open Idealize.ShloMosaic Cert.SsdIdeal Cert.SsdIdeal.Gen

namespace Cert.Proof.Ssd

/-- The rows and columns of a 128 by 128 array, as words. -/
def kRow : IVec S128x128 32 := iota .tc S128x128 32 [0] iota_S128x128_d0_w32
def kCol : IVec S128x128 32 := iota .tc S128x128 32 [1] iota_S128x128_d1_w32
/-- The causal mask. -/
def kMask : IVec S128x128 1 := k0_pay22 kRow kCol 128#32 k0_pay20 k0_pay21

theorem mask_at (i j : Fin 128) : kMask (ix2 i j) = BitVec.ofBool (decide (j ≤ i)) := by
  pointwise [kMask, kRow, kCol, k0_pay22, k0_pay20, k0_pay21]
  revert i j; decide +kernel

/-- A condition as a word as a number. -/
theorem sitofp_ofBool (q : Prop) [Decidable q] :
    FloatOps.sitofp (F := Ideal) .f32 (BitVec.setWidth 32 (BitVec.ofBool (decide q))) = if q then 1 else 0 := by
  by_cases h : q
  · simp only [h, decide_true, if_true]
    show (((BitVec.setWidth 32 (BitVec.ofBool true)).toInt : ℝ) : EReal) = 1
    rw [show (BitVec.setWidth 32 (BitVec.ofBool true)).toInt = 1 from by decide]; simp
  · simp only [h, decide_false, if_false]
    show (((BitVec.setWidth 32 (BitVec.ofBool false)).toInt : ℝ) : EReal) = 0
    rw [show (BitVec.setWidth 32 (BitVec.ofBool false)).toInt = 0 from by decide]; simp

/-- The selector of the chunk's last position. -/
theorem last_at (i j : Fin 128) : k0_pay28 (F := Ideal) kRow kCol (ix2 i j) = if j = 127 then 1 else 0 := by
  pointwise [k0_pay28, kRow, kCol]
  rw [← sitofp_ofBool]
  refine congrArg (fun w => FloatOps.sitofp (F := Ideal) .f32 (BitVec.setWidth 32 w)) ?_
  revert i j; decide +kernel

end Cert.Proof.Ssd

end
-- ==== Proof.SsdSteps.lean ====
/- The kernel's time steps and accumulated log decays over its input blocks, read at an index. -/
module

public import proofs.«01_k».proof.Proof.SsdMath
public import proofs.«01_k».proof.Proof.SsdWords

@[expose] public section

set_option maxRecDepth 16384

noncomputable section

open Idealize.ShloMosaic Cert.SsdIdeal Cert.SsdIdeal.Gen

namespace Cert.Proof.Ssd

theorem head_col : ∀ h : Fin 16, IntOp.andi (IntOp.cmpi .sge (BitVec.ofNat 32 (48 + h.val)) 48#32)
    (IntOp.cmpi .slt (BitVec.ofNat 32 (48 + h.val)) 64#32) = 1#1 := by
  decide +kernel

theorem head_mask (h : Fin 16) : k0_pay17 k0_pay15 k0_pay16 (ix2 0 ⟨48 + h.val, by omega⟩) = 1#1 := by
  pointwise [k0_pay17, k0_pay15, k0_pay16]
  exact head_col h

section Steps

variable (x2 : Vec Ideal S1x128x128 .f32) (x5 x6 : Vec Ideal S1x128 .f32)

/-- The time steps and the rates the blocks give. -/
def dtK (j : Fin 128) (h : Fin 16) : EReal :=
  softplus (x2 (ix3 0 j ⟨48 + h.val, by omega⟩) + x5 (ix2 0 ⟨48 + h.val, by omega⟩))
def alK (h : Fin 16) : EReal := x6 (ix2 0 ⟨48 + h.val, by omega⟩)

/-- The time steps and the log decays as the body computes them. -/
def kDt : FVec Ideal S128x128 .f32 := k0_pay18 k0_pay15 k0_pay16 x2 x5
def kA : FVec Ideal S128x128 .f32 := k0_pay19 k0_pay15 k0_pay16 x2 x5 x6

theorem dt_at (j : Fin 128) (h : Fin 16) :
    kDt x2 x5 (ix2 j ⟨48 + h.val, by omega⟩) = dtK x2 x5 j h := by
  rw [kDt]
  pointwise [k0_pay18, k0_pay17, k0_pay15, k0_pay16]
  simp only [head_col]
  simp [Scalar.select, dtK, softplus]
  rfl

theorem decay_at (j : Fin 128) (h : Fin 16) :
    kA x2 x5 x6 (ix2 j ⟨48 + h.val, by omega⟩) = logDecay (dtK x2 x5) (alK x6) j h := by
  have e := dt_at x2 x5 j h
  rw [kA]
  rw [kDt] at e
  pointwise [k0_pay19]
  rw [e, head_mask]
  simp [Scalar.select, alK, logDecay]

/-- The masks and the accumulated log decays, with the three pieces they travel in, as the body computes them. -/
def kTri : FVec Ideal S128x128 .bf16 := k0_pay23 kRow kCol 128#32 k0_pay20 k0_pay21
def kAcum : FVec Ideal S128x128 .f32 :=
  k0_pay27 kTri (k0_pay24 (kA x2 x5 x6)) (k0_pay25 (kA x2 x5 x6)) (k0_pay26 (kA x2 x5 x6))
def kP1 : FVec Ideal S128x128 .bf16 :=
  k0_pay29 kTri (k0_pay24 (kA x2 x5 x6)) (k0_pay25 (kA x2 x5 x6)) (k0_pay26 (kA x2 x5 x6))
def kP2 : FVec Ideal S128x128 .bf16 :=
  k0_pay31 kTri (k0_pay24 (kA x2 x5 x6)) (k0_pay25 (kA x2 x5 x6)) (k0_pay26 (kA x2 x5 x6))
def kP3 : FVec Ideal S128x128 .bf16 :=
  k0_pay32 kTri (k0_pay24 (kA x2 x5 x6)) (k0_pay25 (kA x2 x5 x6)) (k0_pay26 (kA x2 x5 x6))
abbrev kZero : FVec Ideal S128x128 .f32 := constant S128x128 .f32 0x00000000#32
def kLast : FVec Ideal S128x128 .f32 := k0_pay33 (k0_pay28 kRow kCol) (kP1 x2 x5 x6) (kP2 x2 x5 x6) (kP3 x2 x5 x6) kZero
def kAcumT : FVec Ideal S128x128 .f32 := k0_pay34 (kAcum x2 x5 x6)
def kXw (v72 : FVec Ideal S128x1024 .f32) (x9 : Vec Ideal S128x1024 .bf16) : FVec Ideal S128x1024 .f32 :=
  k0_pay36 v72 (kDt x2 x5) x9
def kXe (v72 : FVec Ideal S128x1024 .f32) (x9 : Vec Ideal S128x1024 .bf16) : FVec Ideal S128x1024 .f32 :=
  k0_pay37 v72 (kDt x2 x5) (kAcum x2 x5 x6) (k0_pay28 kRow kCol) (kP1 x2 x5 x6) (kP2 x2 x5 x6) (kP3 x2 x5 x6) kZero x9
def kGrow (x9 : Vec Ideal S128x1024 .bf16) : FVec Ideal S128x1024 .f32 :=
  k0_pay43 (k0_pay41 (kAcum x2 x5 x6) x9) (k0_pay42 (kAcum x2 x5 x6) x9)

theorem acum_at (i : Fin 128) (h : Fin 16) :
    kAcum x2 x5 x6 (ix2 i ⟨48 + h.val, by omega⟩) = acum (dtK x2 x5) (alK x6) i h := by
  have hw : ∀ j : Fin 128, FloatOps.sitofp (F := Ideal) .f32 (BitVec.setWidth 32 (k0_pay22 kRow kCol 128#32 k0_pay20 k0_pay21 (ix2 i j))) = if j ≤ i then 1 else 0 :=
    fun j => by
    have e := mask_at i j
    rw [kMask] at e
    rw [e, sitofp_ofBool]
  have hd : ∀ j h, 0 ≤ dtK x2 x5 j h := fun j h => softplus_nonneg _
  rw [kAcum, kTri]
  pointwise [k0_pay27, k0_pay23, k0_pay24, k0_pay25, k0_pay26]
  rw [sum_pieces _ _ (fun j => by rw [hw]; split <;> simp) (fun j => by
    rw [decay_at]; exact ne_top_of_nonpos (logDecay_nonpos hd j h))]
  refine Finset.sum_congr rfl fun j _ => ?_
  rw [hw, decay_at]
  split <;> simp

theorem acum_ne_top (i : Fin 128) (h : Fin 16) : acum (dtK x2 x5) (alK x6) i h ≠ ⊤ :=
  ne_top_of_nonpos (acum_nonpos (fun j h => softplus_nonneg _) i h)

theorem alast_at (i : Fin 128) (h : Fin 16) :
    kLast x2 x5 x6 (ix2 i ⟨48 + h.val, by omega⟩) = acum (dtK x2 x5) (alK x6) 127 h := by
  rw [kLast, kP1, kP2, kP3]
  have hf : k0_pay27 (F := Ideal) kTri (k0_pay24 (kA x2 x5 x6)) (k0_pay25 (kA x2 x5 x6)) (k0_pay26 (kA x2 x5 x6)) = kAcum x2 x5 x6 := rfl
  pointwise [k0_pay33, k0_pay29, k0_pay31, k0_pay32, k0_pay30]
  simp only [hf]
  rw [sum_pieces _ _ (fun j => by rw [last_at]; split <;> simp) (fun j => by
    rw [acum_at]; exact acum_ne_top x2 x5 x6 j h)]
  rw [Finset.sum_eq_single (127 : Fin 128) (fun j _ hj => by rw [last_at, if_neg hj, zero_mul]) (fun h => absurd (Finset.mem_univ _) h)]
  rw [last_at, if_pos rfl, one_mul, acum_at]

theorem acumT_at (i : Fin 128) (h : Fin 16) :
    kAcumT x2 x5 x6 (ix2 ⟨48 + h.val, by omega⟩ i) = acum (dtK x2 x5) (alK x6) i h := by
  rw [← acum_at, kAcumT]
  pointwise [k0_pay34]

/-- What the head-to-column matrix holds. -/
def IsExpand (x9 : Vec Ideal S128x1024 .bf16) : Prop :=
  ∀ (k : Fin 128) (c : Fin 1024), x9 (ix2 k c) = if k.val = 48 + (headOf c).val then (1 : EReal) else 0

variable (v72 : FVec Ideal S128x1024 .f32) {x9 : Vec Ideal S128x1024 .bf16} (he : IsExpand x9)

include he

/-- Three pieces of an array against the head-to-column matrix: the array's value at the column's head. -/
theorem expand_sum (a : Fin 128 → EReal) (c : Fin 1024) (ha : a ⟨48 + (headOf c).val, by omega⟩ ≠ ⊤) :
    (∑ k, a k * x9 (ix2 k c) + ∑ k, (a k - a k) * x9 (ix2 k c)) + ∑ k, ((a k - a k) - (a k - a k)) * x9 (ix2 k c)
      = a ⟨48 + (headOf c).val, by omega⟩ := by
  rw [sum_pieces_right (fun k => x9 (ix2 k c)) a (fun k => by rw [he]; split <;> simp) (fun k hk => by
    rw [he] at hk
    by_cases e : k.val = 48 + (headOf c).val
    · rw [show k = ⟨48 + (headOf c).val, by omega⟩ from Fin.ext e]; exact ha
    · simp [e] at hk)]
  rw [Finset.sum_eq_single (⟨48 + (headOf c).val, by omega⟩ : Fin 128)
    (fun k _ hk => by rw [he, if_neg (fun e => hk (Fin.ext e)), mul_zero]) (fun h => absurd (Finset.mem_univ _) h)]
  rw [he, if_pos rfl, mul_one]

theorem xw_at (hdt : ∀ j h, dtK x2 x5 j h ≠ ⊤) (j : Fin 128) (c : Fin 1024) :
    kXw x2 x5 v72 x9 (ix2 j c)
      = v72 (ix2 j c) * dtK x2 x5 j (headOf c) := by
  rw [kXw]
  pointwise [k0_pay36, k0_pay35]
  rw [expand_sum he (fun k => kDt x2 x5 (ix2 j k)) c (by rw [dt_at]; exact hdt _ _), dt_at]

theorem xe_at (hdt : ∀ j h, dtK x2 x5 j h ≠ ⊤) (j : Fin 128) (c : Fin 1024) :
    kXe x2 x5 x6 v72 x9 (ix2 j c)
      = v72 (ix2 j c) * dtK x2 x5 j (headOf c)
        * Ideal.exp (acum (dtK x2 x5) (alK x6) 127 (headOf c) - acum (dtK x2 x5) (alK x6) j (headOf c)) := by
  rw [kXe]
  have hf : k0_pay36 (F := Ideal) v72 (kDt x2 x5) x9 = kXw x2 x5 v72 x9 := rfl
  have hl : k0_pay33 (F := Ideal) (k0_pay28 kRow kCol) (kP1 x2 x5 x6) (kP2 x2 x5 x6) (kP3 x2 x5 x6) kZero = kLast x2 x5 x6 := rfl
  pointwise [k0_pay37, k0_pay35]
  simp only [hf, hl]
  rw [expand_sum he (fun k => Ideal.exp (kLast x2 x5 x6 (ix2 j k) - kAcum x2 x5 x6 (ix2 j k))) c (by
    rw [alast_at, acum_at]; exact exp_ne_top (toEnd_ne_top (fun j h => softplus_nonneg _) j _)), alast_at, acum_at]
  rw [xw_at x2 x5 v72 he hdt]

theorem grow_at (i : Fin 128) (c : Fin 1024) :
    kGrow x2 x5 x6 x9 (ix2 i c) = Ideal.exp (acum (dtK x2 x5) (alK x6) i (headOf c)) := by
  rw [kGrow]
  pointwise [k0_pay43, k0_pay42, k0_pay41, k0_pay40, k0_pay39, k0_pay38, k0_pay35]
  rw [expand_sum he (fun k => kAcum x2 x5 x6 (ix2 i k)) c (by rw [acum_at]; exact acum_ne_top x2 x5 x6 i _), acum_at]

end Steps

end Cert.Proof.Ssd

end
-- ==== Proof.SsdNorm.lean ====
/- The gate and the group normalisation at the end of the kernel's body, read at an index. -/
module

public import proofs.«01_k».proof.Proof.SsdMath
public import proofs.«01_k».proof.Proof.Gen.SsdIdeal.Skeleton
public import Idealize.ShloMosaic.Lib.Pipeline.Value

@[expose] public section

set_option maxRecDepth 16384

noncomputable section

open Idealize.ShloMosaic Cert.SsdIdeal Cert.SsdIdeal.Gen

namespace Cert.Proof.Ssd

/-- Sixteen heads' columns side by side, read at a head's column. -/
theorem heads_concat (f : Fin 16 → FVec Ideal S128x64 .f32) (h : Fin 16) (i : Fin 128) (p : Fin 64)
    (hc : Shape.Concatenates ((List.ofFn fun n : Fin 16 => (⟨S128x64, f n⟩ : (s : Shape) × (s.Idx → EReal))).map (·.1)) S128x1024 1) :
    concatenate S128x1024 1 (List.ofFn fun n : Fin 16 => (⟨S128x64, f n⟩ : (s : Shape) × (s.Idx → EReal))) hc (ix2 i (col h p)) = f h (ix2 i p) := by
  refine concatenate_ofFn_apply (t := S128x1024) (s₁ := S128x64) 1 f hc rfl 64 rfl (ix2 i (col h p)) h ?_ (ix2 i p) ?_ ?_
  · show (64 * h.val + p.val) / 64 = h.val
    omega
  · show p.val = (64 * h.val + p.val) % 64
    omega
  · intro b hb
    match b, hb with
    | ⟨0, _⟩, _ => rfl
    | ⟨1, _⟩, hb => exact absurd rfl hb

section Norm

variable {v72 : FVec Ideal S128x1024 .f32} {y0 y1 y2 y3 y4 y5 y6 y7 y8 y9 y10 y11 y12 y13 y14 y15 : FVec Ideal S128x64 .f32}
  {d ng : Vec Ideal S1x1024 .f32} {z : Vec Ideal S1x128x1024 .f32}

/-- The gated values from the sixteen heads' outputs. -/
theorem gated_at {Y : Fin 16 → Fin 128 → Fin 64 → EReal}
    (hY : ∀ h i p, (![y0, y1, y2, y3, y4, y5, y6, y7, y8, y9, y10, y11, y12, y13, y14, y15] : Fin 16 → FVec Ideal S128x64 .f32) h (ix2 i p) = Y h i p)
    (i : Fin 128) (h : Fin 16) (p : Fin 64) :
    k0_pay114 (F := Ideal) v72 y0 y1 y2 y3 y4 y5 y6 y7 y8 y9 y10 y11 y12 y13 y14 y15 d z (ix2 i (col h p))
      = (Y h i p + v72 (ix2 i (col h p)) * d (ix2 0 (col h p))) * silu (z (ix3 0 i (col h p))) := by
  have e : concatenate S128x1024 1 [⟨S128x64, y0⟩, ⟨S128x64, y1⟩, ⟨S128x64, y2⟩, ⟨S128x64, y3⟩, ⟨S128x64, y4⟩, ⟨S128x64, y5⟩, ⟨S128x64, y6⟩, ⟨S128x64, y7⟩, ⟨S128x64, y8⟩, ⟨S128x64, y9⟩, ⟨S128x64, y10⟩, ⟨S128x64, y11⟩, ⟨S128x64, y12⟩, ⟨S128x64, y13⟩, ⟨S128x64, y14⟩, ⟨S128x64, y15⟩] concatenates_S128x64_S128x64_S128x64_S128x64_S128x64_S128x64_S128x64_S128x64_S128x64_S128x64_S128x64_S128x64_S128x64_S128x64_S128x64_S128x64_S128x1024_d1 (ix2 i (col h p)) = Y h i p :=
    (heads_concat ![y0, y1, y2, y3, y4, y5, y6, y7, y8, y9, y10, y11, y12, y13, y14, y15] h i p concatenates_S128x64_S128x64_S128x64_S128x64_S128x64_S128x64_S128x64_S128x64_S128x64_S128x64_S128x64_S128x64_S128x64_S128x64_S128x64_S128x64_S128x1024_d1).trans (hY h i p)
  rw [← e]
  generalize col h p = c
  change mulf (addf (concatenate S128x1024 1 [⟨S128x64, y0⟩, ⟨S128x64, y1⟩, ⟨S128x64, y2⟩, ⟨S128x64, y3⟩, ⟨S128x64, y4⟩, ⟨S128x64, y5⟩, ⟨S128x64, y6⟩, ⟨S128x64, y7⟩, ⟨S128x64, y8⟩, ⟨S128x64, y9⟩, ⟨S128x64, y10⟩, ⟨S128x64, y11⟩, ⟨S128x64, y12⟩, ⟨S128x64, y13⟩, ⟨S128x64, y14⟩, ⟨S128x64, y15⟩] concatenates_S128x64_S128x64_S128x64_S128x64_S128x64_S128x64_S128x64_S128x64_S128x64_S128x64_S128x64_S128x64_S128x64_S128x64_S128x64_S128x64_S128x1024_d1) (mulf v72 (broadcastTo S128x1024 (shapeCast S1x1024 d
      shapeCasts_S1x1024_S1x1024) broadcasts_S1x1024_S128x1024))) (mulf (shapeCast S128x1024 z shapeCasts_S1x128x1024_S128x1024)
      (logistic (shapeCast S128x1024 z shapeCasts_S1x128x1024_S128x1024))) (ix2 i c) = _
  generalize concatenate S128x1024 1 [⟨S128x64, y0⟩, ⟨S128x64, y1⟩, ⟨S128x64, y2⟩, ⟨S128x64, y3⟩, ⟨S128x64, y4⟩, ⟨S128x64, y5⟩, ⟨S128x64, y6⟩, ⟨S128x64, y7⟩, ⟨S128x64, y8⟩, ⟨S128x64, y9⟩, ⟨S128x64, y10⟩, ⟨S128x64, y11⟩, ⟨S128x64, y12⟩, ⟨S128x64, y13⟩, ⟨S128x64, y14⟩, ⟨S128x64, y15⟩] concatenates_S128x64_S128x64_S128x64_S128x64_S128x64_S128x64_S128x64_S128x64_S128x64_S128x64_S128x64_S128x64_S128x64_S128x64_S128x64_S128x64_S128x1024_d1 = V
  pointwise []
  rfl

/-- The stored block, from the gated values: each group's values over the root of their mean square, times the gain. -/
theorem out_of_gated {G : Fin 128 → Fin 16 → Fin 64 → EReal}
    (hG : ∀ i h p, k0_pay114 (F := Ideal) v72 y0 y1 y2 y3 y4 y5 y6 y7 y8 y9 y10 y11 y12 y13 y14 y15 d z (ix2 i (col h p)) = G i h p) (i : Fin 128) (h : Fin 16) (p : Fin 64) :
    k0_pay1 (F := Ideal) (k0_pay115 v72 y0 y1 y2 y3 y4 y5 y6 y7 y8 y9 y10 y11 y12 y13 y14 y15 d z) (k0_pay116 v72 y0 y1 y2 y3 y4 y5 y6 y7 y8 y9 y10 y11 y12 y13 y14 y15 d z) (k0_pay117 v72 y0 y1 y2 y3 y4 y5 y6 y7 y8 y9 y10 y11 y12 y13 y14 y15 d z) (k0_pay118 v72 y0 y1 y2 y3 y4 y5 y6 y7 y8 y9 y10 y11 y12 y13 y14 y15 d z) (k0_pay119 v72 y0 y1 y2 y3 y4 y5 y6 y7 y8 y9 y10 y11 y12 y13 y14 y15 d z) ng (ix3 0 i (col h p))
      = G i h p * Ideal.rsqrt (Ideal.div (∑ k : Fin 256, G i (headIn ⟨h.val / 4, by omega⟩ k) (laneIn k) * G i (headIn ⟨h.val / 4, by omega⟩ k) (laneIn k))
          (Ideal.ofBits .f32 0x43800000#32) + Ideal.ofBits .f32 0x358637BD#32) * ng (ix2 0 (col h p)) := by
  have hg : ∀ (g : Fin 4) (k : Fin 256) (c : Fin 1024), c.val = 256 * g.val + k.val →
      k0_pay114 (F := Ideal) v72 y0 y1 y2 y3 y4 y5 y6 y7 y8 y9 y10 y11 y12 y13 y14 y15 d z (ix2 i c) = G i (headIn g k) (laneIn k) := fun g k c e => by
    rw [← hG]
    exact congrArg _ (congrArg (ix2 i) (Fin.ext (by simp only [col, headIn, laneIn]; omega)))
  pointwise [k0_pay1, k0_pay115, k0_pay116, k0_pay117, k0_pay118, k0_pay119]
  generalize hc : col h p = c
  have hcv : c.val = 64 * h.val + p.val := by rw [← hc]; rfl
  refine congrArg₂ (· * ·) ?_ rfl
  have key : ∀ (g : Fin 4) (hgv : h.val / 4 = g.val) (c' : Fin 1024) (e : c'.val = c.val) (u : Fin 256 → Fin 1024) (hu : ∀ k, (u k).val = 256 * g.val + k.val) ,
      k0_pay114 (F := Ideal) v72 y0 y1 y2 y3 y4 y5 y6 y7 y8 y9 y10 y11 y12 y13 y14 y15 d z (ix2 i c') * Ideal.rsqrt (Ideal.div (∑ k : Fin 256, k0_pay114 (F := Ideal) v72 y0 y1 y2 y3 y4 y5 y6 y7 y8 y9 y10 y11 y12 y13 y14 y15 d z (ix2 i (u k)) * k0_pay114 (F := Ideal) v72 y0 y1 y2 y3 y4 y5 y6 y7 y8 y9 y10 y11 y12 y13 y14 y15 d z (ix2 i (u k)))
          (Ideal.ofBits .f32 0x43800000#32) + Ideal.ofBits .f32 0x358637BD#32)
      = G i h p * Ideal.rsqrt (Ideal.div (∑ k : Fin 256, G i (headIn ⟨h.val / 4, by omega⟩ k) (laneIn k) * G i (headIn ⟨h.val / 4, by omega⟩ k) (laneIn k))
          (Ideal.ofBits .f32 0x43800000#32) + Ideal.ofBits .f32 0x358637BD#32) := by
    intro g hgv c' e u hu
    rw [show (⟨h.val / 4, by omega⟩ : Fin 4) = g from Fin.ext hgv, ← hG i h p, hc, show c' = c from Fin.ext e]
    simp only [hg g _ _ (hu _)]
  by_cases h1 : c.val < 256
  · rw [dif_pos h1]
    exact key 0 (by simp only [Fin.isValue, Fin.val_zero]; omega) _ rfl _ (fun k => by simp)
  rw [dif_neg h1]
  by_cases h2 : c.val - 256 < 256
  · rw [dif_pos h2]
    exact key 1 (by simp only [Fin.isValue, Fin.val_one]; omega) _ (by simp only; omega) _ (fun k => by simp)
  rw [dif_neg h2]
  by_cases h3 : c.val - 256 - 256 < 256
  · rw [dif_pos h3]
    exact key 2 (by simp only [Fin.isValue, Fin.val_two]; omega) _ (by simp only; omega) _ (fun k => by simp)
  rw [dif_neg h3]
  exact key 3 (by show _ = 3; omega) _ (by simp only; omega) _ (fun k => by simp)

end Norm

end Cert.Proof.Ssd

end
-- ==== Proof.SsdOut.lean ====
/- The kernel's body as a function of its input blocks and of what it carries: the stored output block and the next state,
   read at an index. -/
module

public import proofs.«01_k».proof.Proof.SsdHeads
public import proofs.«01_k».proof.Proof.SsdConv
public import proofs.«01_k».proof.Proof.SsdSteps
public import proofs.«01_k».proof.Proof.SsdNorm

@[expose] public section

set_option maxRecDepth 16384

noncomputable section

open Idealize.ShloMosaic Cert.SsdIdeal Cert.SsdIdeal.Gen

namespace Cert.Proof.Ssd

section Body

variable (x0 : Vec Ideal S1x128x1024 .f32) (x1 : Vec Ideal S1x128x2048 .f32) (x2 : Vec Ideal S1x128x128 .f32) (x4 : Vec Ideal S1x2048 .f32)
  (w3 w2 w1 w0 : Vec Ideal S1x2048 .f32) (x5 x6 : Vec Ideal S1x128 .f32) (x7 x8 : Vec Ideal S1x1024 .f32) (x9 : Vec Ideal S128x1024 .bf16)
  (xs0 : Vec Ideal S128x2048 .f32)

/-- The arrays every head reads hold what the heads' readings assume. -/
theorem reads (he : IsExpand x9) (hdt : ∀ j h, dtK x2 x5 j h ≠ ⊤) :
    Reads (xcK x1 x4 w3 w2 w1 w0 xs0) (dtK x2 x5) (alK x6) (kX x1 x4 w3 w2 w1 w0 xs0) (kB x1 x4 w3 w2 w1 w0 xs0)
      (kC x1 x4 w3 w2 w1 w0 xs0) kMask (kAcum x2 x5 x6) (kLast x2 x5 x6) (kAcumT x2 x5 x6)
      (kXw x2 x5 (kX x1 x4 w3 w2 w1 w0 xs0) x9) (kXe x2 x5 x6 (kX x1 x4 w3 w2 w1 w0 xs0) x9) (kGrow x2 x5 x6 x9) where
  h72 := x_at x1 x4 w3 w2 w1 w0 xs0
  h73 := b_at x1 x4 w3 w2 w1 w0 xs0
  h74 := c_at x1 x4 w3 w2 w1 w0 xs0
  h166 := mask_at
  h181 := acum_at x2 x5 x6
  h225 := alast_at x2 x5 x6
  h226 := acumT_at x2 x5 x6
  h241 := fun j c => by rw [xw_at x2 x5 (kX x1 x4 w3 w2 w1 w0 xs0) he hdt, x_at]
  h256 := fun j c => by rw [xe_at x2 x5 x6 (kX x1 x4 w3 w2 w1 w0 xs0) he hdt, x_at]
  h269 := grow_at x2 x5 x6 he

/-! The heads' outputs and the groups' next states, over each group's loaded state. -/

def kY0 (h0 : Vec Ideal S4x64x128 .f32) : FVec Ideal S128x64 .f32 := k0_pay57 (kGrow x2 x5 x6 x9) (k0_pay47 (kB x1 x4 w3 w2 w1 w0 xs0) (kC x1 x4 w3 w2 w1 w0 xs0) kMask (kAcum x2 x5 x6) (kAcumT x2 x5 x6) (kXw x2 x5 (kX x1 x4 w3 w2 w1 w0 xs0) x9)) (k0_pay56 (k0_pay44 (kC x1 x4 w3 w2 w1 w0 xs0)) h0)
def kY1 (h0 : Vec Ideal S4x64x128 .f32) : FVec Ideal S128x64 .f32 := k0_pay58 (kGrow x2 x5 x6 x9) (k0_pay48 (kB x1 x4 w3 w2 w1 w0 xs0) (kC x1 x4 w3 w2 w1 w0 xs0) kMask (kAcum x2 x5 x6) (kAcumT x2 x5 x6) (kXw x2 x5 (kX x1 x4 w3 w2 w1 w0 xs0) x9)) (k0_pay54 (k0_pay44 (kC x1 x4 w3 w2 w1 w0 xs0)) h0)
def kY2 (h0 : Vec Ideal S4x64x128 .f32) : FVec Ideal S128x64 .f32 := k0_pay59 (kGrow x2 x5 x6 x9) (k0_pay51 (k0_pay49 (kB x1 x4 w3 w2 w1 w0 xs0) (kC x1 x4 w3 w2 w1 w0 xs0) kMask (kAcum x2 x5 x6) (kAcumT x2 x5 x6)) (k0_pay50 (kXw x2 x5 (kX x1 x4 w3 w2 w1 w0 xs0) x9))) (k0_pay54 (k0_pay44 (kC x1 x4 w3 w2 w1 w0 xs0)) h0)
def kY3 (h0 : Vec Ideal S4x64x128 .f32) : FVec Ideal S128x64 .f32 := k0_pay60 (kGrow x2 x5 x6 x9) (k0_pay52 kMask (kAcum x2 x5 x6) (kAcumT x2 x5 x6) (kXw x2 x5 (kX x1 x4 w3 w2 w1 w0 xs0) x9) (k0_pay46 (kB x1 x4 w3 w2 w1 w0 xs0) (kC x1 x4 w3 w2 w1 w0 xs0))) (k0_pay54 (k0_pay44 (kC x1 x4 w3 w2 w1 w0 xs0)) h0)
def kY4 (h1 : Vec Ideal S4x64x128 .f32) : FVec Ideal S128x64 .f32 := k0_pay75 (kGrow x2 x5 x6 x9) (k0_pay64 (kB x1 x4 w3 w2 w1 w0 xs0) (kC x1 x4 w3 w2 w1 w0 xs0) kMask (kAcum x2 x5 x6) (kAcumT x2 x5 x6) (kXw x2 x5 (kX x1 x4 w3 w2 w1 w0 xs0) x9)) (k0_pay72 (k0_pay61 (kC x1 x4 w3 w2 w1 w0 xs0)) h1)
def kY5 (h1 : Vec Ideal S4x64x128 .f32) : FVec Ideal S128x64 .f32 := k0_pay76 (kGrow x2 x5 x6 x9) (k0_pay65 (kB x1 x4 w3 w2 w1 w0 xs0) (kC x1 x4 w3 w2 w1 w0 xs0) kMask (kAcum x2 x5 x6) (kAcumT x2 x5 x6) (kXw x2 x5 (kX x1 x4 w3 w2 w1 w0 xs0) x9)) (k0_pay72 (k0_pay61 (kC x1 x4 w3 w2 w1 w0 xs0)) h1)
def kY6 (h1 : Vec Ideal S4x64x128 .f32) : FVec Ideal S128x64 .f32 := k0_pay77 (kGrow x2 x5 x6 x9) (k0_pay68 kMask (kXw x2 x5 (kX x1 x4 w3 w2 w1 w0 xs0) x9) (k0_pay63 (kB x1 x4 w3 w2 w1 w0 xs0) (kC x1 x4 w3 w2 w1 w0 xs0)) (k0_pay66 (kAcumT x2 x5 x6)) (k0_pay67 (kAcum x2 x5 x6))) (k0_pay72 (k0_pay61 (kC x1 x4 w3 w2 w1 w0 xs0)) h1)
def kY7 (h1 : Vec Ideal S4x64x128 .f32) : FVec Ideal S128x64 .f32 := k0_pay78 (kGrow x2 x5 x6 x9) (k0_pay69 kMask (kAcum x2 x5 x6) (kAcumT x2 x5 x6) (kXw x2 x5 (kX x1 x4 w3 w2 w1 w0 xs0) x9) (k0_pay63 (kB x1 x4 w3 w2 w1 w0 xs0) (kC x1 x4 w3 w2 w1 w0 xs0))) (k0_pay72 (k0_pay61 (kC x1 x4 w3 w2 w1 w0 xs0)) h1)
def kY8 (h2 : Vec Ideal S4x64x128 .f32) : FVec Ideal S128x64 .f32 := k0_pay93 (kGrow x2 x5 x6 x9) (k0_pay82 (kB x1 x4 w3 w2 w1 w0 xs0) (kC x1 x4 w3 w2 w1 w0 xs0) kMask (kAcum x2 x5 x6) (kAcumT x2 x5 x6) (kXw x2 x5 (kX x1 x4 w3 w2 w1 w0 xs0) x9)) (k0_pay89 (k0_pay79 (kC x1 x4 w3 w2 w1 w0 xs0)) h2)
def kY9 (h2 : Vec Ideal S4x64x128 .f32) : FVec Ideal S128x64 .f32 := k0_pay94 (kGrow x2 x5 x6 x9) (k0_pay84 kMask (kXw x2 x5 (kX x1 x4 w3 w2 w1 w0 xs0) x9) (k0_pay81 (kB x1 x4 w3 w2 w1 w0 xs0) (kC x1 x4 w3 w2 w1 w0 xs0)) (k0_pay83 kMask (kAcum x2 x5 x6) (kAcumT x2 x5 x6))) (k0_pay89 (k0_pay79 (kC x1 x4 w3 w2 w1 w0 xs0)) h2)
def kY10 (h2 : Vec Ideal S4x64x128 .f32) : FVec Ideal S128x64 .f32 := k0_pay95 (kGrow x2 x5 x6 x9) (k0_pay85 kMask (kAcum x2 x5 x6) (kAcumT x2 x5 x6) (kXw x2 x5 (kX x1 x4 w3 w2 w1 w0 xs0) x9) (k0_pay81 (kB x1 x4 w3 w2 w1 w0 xs0) (kC x1 x4 w3 w2 w1 w0 xs0))) (k0_pay89 (k0_pay79 (kC x1 x4 w3 w2 w1 w0 xs0)) h2)
def kY11 (h2 : Vec Ideal S4x64x128 .f32) : FVec Ideal S128x64 .f32 := k0_pay96 (kGrow x2 x5 x6 x9) (k0_pay86 kMask (kAcum x2 x5 x6) (kAcumT x2 x5 x6) (kXw x2 x5 (kX x1 x4 w3 w2 w1 w0 xs0) x9) (k0_pay81 (kB x1 x4 w3 w2 w1 w0 xs0) (kC x1 x4 w3 w2 w1 w0 xs0))) (k0_pay89 (k0_pay79 (kC x1 x4 w3 w2 w1 w0 xs0)) h2)
def kY12 (h3 : Vec Ideal S4x64x128 .f32) : FVec Ideal S128x64 .f32 := k0_pay109 (kGrow x2 x5 x6 x9) (k0_pay97 (kC x1 x4 w3 w2 w1 w0 xs0)) (k0_pay101 (kXw x2 x5 (kX x1 x4 w3 w2 w1 w0 xs0) x9) (k0_pay100 (kB x1 x4 w3 w2 w1 w0 xs0) (kC x1 x4 w3 w2 w1 w0 xs0) kMask (kAcum x2 x5 x6) (kAcumT x2 x5 x6))) h3
def kY13 (h3 : Vec Ideal S4x64x128 .f32) : FVec Ideal S128x64 .f32 := k0_pay110 (kGrow x2 x5 x6 x9) (k0_pay97 (kC x1 x4 w3 w2 w1 w0 xs0)) (k0_pay102 kMask (kAcum x2 x5 x6) (kAcumT x2 x5 x6) (kXw x2 x5 (kX x1 x4 w3 w2 w1 w0 xs0) x9) (k0_pay99 (kB x1 x4 w3 w2 w1 w0 xs0) (kC x1 x4 w3 w2 w1 w0 xs0))) h3
def kY14 (h3 : Vec Ideal S4x64x128 .f32) : FVec Ideal S128x64 .f32 := k0_pay111 (kGrow x2 x5 x6 x9) (k0_pay97 (kC x1 x4 w3 w2 w1 w0 xs0)) (k0_pay103 kMask (kAcum x2 x5 x6) (kAcumT x2 x5 x6) (kXw x2 x5 (kX x1 x4 w3 w2 w1 w0 xs0) x9) (k0_pay99 (kB x1 x4 w3 w2 w1 w0 xs0) (kC x1 x4 w3 w2 w1 w0 xs0))) h3
def kY15 (h3 : Vec Ideal S4x64x128 .f32) : FVec Ideal S128x64 .f32 := k0_pay112 (kGrow x2 x5 x6 x9) (k0_pay97 (kC x1 x4 w3 w2 w1 w0 xs0)) (k0_pay104 kMask (kAcum x2 x5 x6) (kAcumT x2 x5 x6) (kXw x2 x5 (kX x1 x4 w3 w2 w1 w0 xs0) x9) (k0_pay99 (kB x1 x4 w3 w2 w1 w0 xs0) (kC x1 x4 w3 w2 w1 w0 xs0))) h3
def kN0 (h0 : Vec Ideal S4x64x128 .f32) : FVec Ideal S4x64x128 .f32 := k0_pay55 (kLast x2 x5 x6) (kXe x2 x5 x6 (kX x1 x4 w3 w2 w1 w0 xs0) x9) (k0_pay45 (kB x1 x4 w3 w2 w1 w0 xs0)) h0
def kN1 (h1 : Vec Ideal S4x64x128 .f32) : FVec Ideal S4x64x128 .f32 := k0_pay74 (k0_pay62 (kB x1 x4 w3 w2 w1 w0 xs0)) (k0_pay70 (kXe x2 x5 x6 (kX x1 x4 w3 w2 w1 w0 xs0) x9)) (k0_pay73 (kLast x2 x5 x6) h1)
def kN2 (h2 : Vec Ideal S4x64x128 .f32) : FVec Ideal S4x64x128 .f32 := k0_pay92 (kLast x2 x5 x6) (k0_pay80 (kB x1 x4 w3 w2 w1 w0 xs0)) (k0_pay87 (kXe x2 x5 x6 (kX x1 x4 w3 w2 w1 w0 xs0) x9)) (k0_pay88 h2) (k0_pay90 (kLast x2 x5 x6)) (k0_pay91 (kLast x2 x5 x6))
def kN3 (h3 : Vec Ideal S4x64x128 .f32) : FVec Ideal S4x64x128 .f32 := k0_pay108 (kLast x2 x5 x6) (k0_pay98 (kB x1 x4 w3 w2 w1 w0 xs0)) (k0_pay105 (kXe x2 x5 x6 (kX x1 x4 w3 w2 w1 w0 xs0) x9)) h3

/-- The stored output block. -/
def kOut (h0 h1 h2 h3 : Vec Ideal S4x64x128 .f32) : FVec Ideal S1x128x1024 .bf16 :=
  k0_pay1 (k0_pay115 (kX x1 x4 w3 w2 w1 w0 xs0) (kY0 x1 x2 x4 w3 w2 w1 w0 x5 x6 x9 xs0 h0) (kY1 x1 x2 x4 w3 w2 w1 w0 x5 x6 x9 xs0 h0) (kY2 x1 x2 x4 w3 w2 w1 w0 x5 x6 x9 xs0 h0) (kY3 x1 x2 x4 w3 w2 w1 w0 x5 x6 x9 xs0 h0) (kY4 x1 x2 x4 w3 w2 w1 w0 x5 x6 x9 xs0 h1) (kY5 x1 x2 x4 w3 w2 w1 w0 x5 x6 x9 xs0 h1) (kY6 x1 x2 x4 w3 w2 w1 w0 x5 x6 x9 xs0 h1) (kY7 x1 x2 x4 w3 w2 w1 w0 x5 x6 x9 xs0 h1) (kY8 x1 x2 x4 w3 w2 w1 w0 x5 x6 x9 xs0 h2) (kY9 x1 x2 x4 w3 w2 w1 w0 x5 x6 x9 xs0 h2) (kY10 x1 x2 x4 w3 w2 w1 w0 x5 x6 x9 xs0 h2) (kY11 x1 x2 x4 w3 w2 w1 w0 x5 x6 x9 xs0 h2) (kY12 x1 x2 x4 w3 w2 w1 w0 x5 x6 x9 xs0 h3) (kY13 x1 x2 x4 w3 w2 w1 w0 x5 x6 x9 xs0 h3) (kY14 x1 x2 x4 w3 w2 w1 w0 x5 x6 x9 xs0 h3) (kY15 x1 x2 x4 w3 w2 w1 w0 x5 x6 x9 xs0 h3) x7 x0) (k0_pay116 (kX x1 x4 w3 w2 w1 w0 xs0) (kY0 x1 x2 x4 w3 w2 w1 w0 x5 x6 x9 xs0 h0) (kY1 x1 x2 x4 w3 w2 w1 w0 x5 x6 x9 xs0 h0) (kY2 x1 x2 x4 w3 w2 w1 w0 x5 x6 x9 xs0 h0) (kY3 x1 x2 x4 w3 w2 w1 w0 x5 x6 x9 xs0 h0) (kY4 x1 x2 x4 w3 w2 w1 w0 x5 x6 x9 xs0 h1) (kY5 x1 x2 x4 w3 w2 w1 w0 x5 x6 x9 xs0 h1) (kY6 x1 x2 x4 w3 w2 w1 w0 x5 x6 x9 xs0 h1) (kY7 x1 x2 x4 w3 w2 w1 w0 x5 x6 x9 xs0 h1) (kY8 x1 x2 x4 w3 w2 w1 w0 x5 x6 x9 xs0 h2) (kY9 x1 x2 x4 w3 w2 w1 w0 x5 x6 x9 xs0 h2) (kY10 x1 x2 x4 w3 w2 w1 w0 x5 x6 x9 xs0 h2) (kY11 x1 x2 x4 w3 w2 w1 w0 x5 x6 x9 xs0 h2) (kY12 x1 x2 x4 w3 w2 w1 w0 x5 x6 x9 xs0 h3) (kY13 x1 x2 x4 w3 w2 w1 w0 x5 x6 x9 xs0 h3) (kY14 x1 x2 x4 w3 w2 w1 w0 x5 x6 x9 xs0 h3) (kY15 x1 x2 x4 w3 w2 w1 w0 x5 x6 x9 xs0 h3) x7 x0) (k0_pay117 (kX x1 x4 w3 w2 w1 w0 xs0) (kY0 x1 x2 x4 w3 w2 w1 w0 x5 x6 x9 xs0 h0) (kY1 x1 x2 x4 w3 w2 w1 w0 x5 x6 x9 xs0 h0) (kY2 x1 x2 x4 w3 w2 w1 w0 x5 x6 x9 xs0 h0) (kY3 x1 x2 x4 w3 w2 w1 w0 x5 x6 x9 xs0 h0) (kY4 x1 x2 x4 w3 w2 w1 w0 x5 x6 x9 xs0 h1) (kY5 x1 x2 x4 w3 w2 w1 w0 x5 x6 x9 xs0 h1) (kY6 x1 x2 x4 w3 w2 w1 w0 x5 x6 x9 xs0 h1) (kY7 x1 x2 x4 w3 w2 w1 w0 x5 x6 x9 xs0 h1) (kY8 x1 x2 x4 w3 w2 w1 w0 x5 x6 x9 xs0 h2) (kY9 x1 x2 x4 w3 w2 w1 w0 x5 x6 x9 xs0 h2) (kY10 x1 x2 x4 w3 w2 w1 w0 x5 x6 x9 xs0 h2) (kY11 x1 x2 x4 w3 w2 w1 w0 x5 x6 x9 xs0 h2) (kY12 x1 x2 x4 w3 w2 w1 w0 x5 x6 x9 xs0 h3) (kY13 x1 x2 x4 w3 w2 w1 w0 x5 x6 x9 xs0 h3) (kY14 x1 x2 x4 w3 w2 w1 w0 x5 x6 x9 xs0 h3) (kY15 x1 x2 x4 w3 w2 w1 w0 x5 x6 x9 xs0 h3) x7 x0) (k0_pay118 (kX x1 x4 w3 w2 w1 w0 xs0) (kY0 x1 x2 x4 w3 w2 w1 w0 x5 x6 x9 xs0 h0) (kY1 x1 x2 x4 w3 w2 w1 w0 x5 x6 x9 xs0 h0) (kY2 x1 x2 x4 w3 w2 w1 w0 x5 x6 x9 xs0 h0) (kY3 x1 x2 x4 w3 w2 w1 w0 x5 x6 x9 xs0 h0) (kY4 x1 x2 x4 w3 w2 w1 w0 x5 x6 x9 xs0 h1) (kY5 x1 x2 x4 w3 w2 w1 w0 x5 x6 x9 xs0 h1) (kY6 x1 x2 x4 w3 w2 w1 w0 x5 x6 x9 xs0 h1) (kY7 x1 x2 x4 w3 w2 w1 w0 x5 x6 x9 xs0 h1) (kY8 x1 x2 x4 w3 w2 w1 w0 x5 x6 x9 xs0 h2) (kY9 x1 x2 x4 w3 w2 w1 w0 x5 x6 x9 xs0 h2) (kY10 x1 x2 x4 w3 w2 w1 w0 x5 x6 x9 xs0 h2) (kY11 x1 x2 x4 w3 w2 w1 w0 x5 x6 x9 xs0 h2) (kY12 x1 x2 x4 w3 w2 w1 w0 x5 x6 x9 xs0 h3) (kY13 x1 x2 x4 w3 w2 w1 w0 x5 x6 x9 xs0 h3) (kY14 x1 x2 x4 w3 w2 w1 w0 x5 x6 x9 xs0 h3) (kY15 x1 x2 x4 w3 w2 w1 w0 x5 x6 x9 xs0 h3) x7 x0) (k0_pay119 (kX x1 x4 w3 w2 w1 w0 xs0) (kY0 x1 x2 x4 w3 w2 w1 w0 x5 x6 x9 xs0 h0) (kY1 x1 x2 x4 w3 w2 w1 w0 x5 x6 x9 xs0 h0) (kY2 x1 x2 x4 w3 w2 w1 w0 x5 x6 x9 xs0 h0) (kY3 x1 x2 x4 w3 w2 w1 w0 x5 x6 x9 xs0 h0) (kY4 x1 x2 x4 w3 w2 w1 w0 x5 x6 x9 xs0 h1) (kY5 x1 x2 x4 w3 w2 w1 w0 x5 x6 x9 xs0 h1) (kY6 x1 x2 x4 w3 w2 w1 w0 x5 x6 x9 xs0 h1) (kY7 x1 x2 x4 w3 w2 w1 w0 x5 x6 x9 xs0 h1) (kY8 x1 x2 x4 w3 w2 w1 w0 x5 x6 x9 xs0 h2) (kY9 x1 x2 x4 w3 w2 w1 w0 x5 x6 x9 xs0 h2) (kY10 x1 x2 x4 w3 w2 w1 w0 x5 x6 x9 xs0 h2) (kY11 x1 x2 x4 w3 w2 w1 w0 x5 x6 x9 xs0 h2) (kY12 x1 x2 x4 w3 w2 w1 w0 x5 x6 x9 xs0 h3) (kY13 x1 x2 x4 w3 w2 w1 w0 x5 x6 x9 xs0 h3) (kY14 x1 x2 x4 w3 w2 w1 w0 x5 x6 x9 xs0 h3) (kY15 x1 x2 x4 w3 w2 w1 w0 x5 x6 x9 xs0 h3) x7 x0) x8

variable {x0 x1 x2 x4 w3 w2 w1 w0 x5 x6 x7 x8 x9 xs0}
variable (he : IsExpand x9) (hdt : ∀ j h, dtK x2 x5 j h ≠ ⊤) {H : Fin 16 → Fin 64 → Fin 128 → EReal} {h0 h1 h2 h3 : Vec Ideal S4x64x128 .f32}

include he hdt

theorem kN0_at (hH0 : ∀ (r : Fin 4) (p : Fin 64) (n : Fin 128), h0 (ix3 r p n) = H ⟨0 + r.val, by omega⟩ p n) (r : Fin 4) (p : Fin 64) (n : Fin 128) :
    kN0 x1 x2 x4 w3 w2 w1 w0 x5 x6 x9 xs0 h0 (ix3 r p n) = stateNext (xcK x1 x4 w3 w2 w1 w0 xs0) (dtK x2 x5) (alK x6) H ⟨0 + r.val, by omega⟩ p n :=
  next0 (reads x1 x2 x4 w3 w2 w1 w0 x5 x6 x9 xs0 he hdt) hH0 r p n
theorem kN1_at (hH1 : ∀ (r : Fin 4) (p : Fin 64) (n : Fin 128), h1 (ix3 r p n) = H ⟨4 + r.val, by omega⟩ p n) (r : Fin 4) (p : Fin 64) (n : Fin 128) :
    kN1 x1 x2 x4 w3 w2 w1 w0 x5 x6 x9 xs0 h1 (ix3 r p n) = stateNext (xcK x1 x4 w3 w2 w1 w0 xs0) (dtK x2 x5) (alK x6) H ⟨4 + r.val, by omega⟩ p n :=
  next1 (reads x1 x2 x4 w3 w2 w1 w0 x5 x6 x9 xs0 he hdt) hH1 r p n
theorem kN2_at (hH2 : ∀ (r : Fin 4) (p : Fin 64) (n : Fin 128), h2 (ix3 r p n) = H ⟨8 + r.val, by omega⟩ p n) (r : Fin 4) (p : Fin 64) (n : Fin 128) :
    kN2 x1 x2 x4 w3 w2 w1 w0 x5 x6 x9 xs0 h2 (ix3 r p n) = stateNext (xcK x1 x4 w3 w2 w1 w0 xs0) (dtK x2 x5) (alK x6) H ⟨8 + r.val, by omega⟩ p n :=
  next2 (reads x1 x2 x4 w3 w2 w1 w0 x5 x6 x9 xs0 he hdt) hH2 r p n
theorem kN3_at (hH3 : ∀ (r : Fin 4) (p : Fin 64) (n : Fin 128), h3 (ix3 r p n) = H ⟨12 + r.val, by omega⟩ p n) (r : Fin 4) (p : Fin 64) (n : Fin 128) :
    kN3 x1 x2 x4 w3 w2 w1 w0 x5 x6 x9 xs0 h3 (ix3 r p n) = stateNext (xcK x1 x4 w3 w2 w1 w0 xs0) (dtK x2 x5) (alK x6) H ⟨12 + r.val, by omega⟩ p n :=
  next3 (reads x1 x2 x4 w3 w2 w1 w0 x5 x6 x9 xs0 he hdt) hH3 r p n

/-- The stored block at a position, head and lane is the chunk's output. -/
theorem kOut_at (hH0 : ∀ (r : Fin 4) (p : Fin 64) (n : Fin 128), h0 (ix3 r p n) = H ⟨0 + r.val, by omega⟩ p n) (hH1 : ∀ (r : Fin 4) (p : Fin 64) (n : Fin 128), h1 (ix3 r p n) = H ⟨4 + r.val, by omega⟩ p n) (hH2 : ∀ (r : Fin 4) (p : Fin 64) (n : Fin 128), h2 (ix3 r p n) = H ⟨8 + r.val, by omega⟩ p n) (hH3 : ∀ (r : Fin 4) (p : Fin 64) (n : Fin 128), h3 (ix3 r p n) = H ⟨12 + r.val, by omega⟩ p n) {dsk : Fin 16 → EReal} (hd : ∀ h p, x7 (ix2 0 (col h p)) = dsk h) (i : Fin 128) (h : Fin 16) (p : Fin 64) :
    kOut x0 x1 x2 x4 w3 w2 w1 w0 x5 x6 x7 x8 x9 xs0 h0 h1 h2 h3 (ix3 0 i (col h p))
      = yOut (xcK x1 x4 w3 w2 w1 w0 xs0) (dtK x2 x5) (alK x6) H (fun i c => x0 (ix3 0 i c)) dsk (fun c => x8 (ix2 0 c)) i h p := by
  have R := reads x1 x2 x4 w3 w2 w1 w0 x5 x6 x9 xs0 he hdt
  refine (out_of_gated (G := gated (xcK x1 x4 w3 w2 w1 w0 xs0) (dtK x2 x5) (alK x6) H (fun i c => x0 (ix3 0 i c)) dsk) ?_ i h p).trans rfl
  intro i h p
  refine (gated_at (Y := fun h i p => yDiag (xcK x1 x4 w3 w2 w1 w0 xs0) (dtK x2 x5) (alK x6) i h p
    + yState (xcK x1 x4 w3 w2 w1 w0 xs0) (dtK x2 x5) (alK x6) H i h p) ?_ i h p).trans ?_
  · intro h i p
    fin_cases h
    · exact head0 R hH0 i p
    · exact head1 R hH0 i p
    · exact head2 R hH0 i p
    · exact head3 R hH0 i p
    · exact head4 R hH1 i p
    · exact head5 R hH1 i p
    · exact head6 R hH1 i p
    · exact head7 R hH1 i p
    · exact head8 R hH2 i p
    · exact head9 R hH2 i p
    · exact head10 R hH2 i p
    · exact head11 R hH2 i p
    · exact head12 R hH3 i p
    · exact head13 R hH3 i p
    · exact head14 R hH3 i p
    · exact head15 R hH3 i p
  · rw [R.h72, hd]
    rfl

end Body

end Cert.Proof.Ssd

end
-- ==== Proof.SsdBody.lean ====
module
public import proofs.«01_k».proof.Proof.SsdOut
public import proofs.«01_k».proof.Proof.Gen.SsdIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.SsdIdeal Cert.SsdIdeal.Gen Cert.SsdIdeal.Value
open Idealize.ShloMosaic.Pipeline (Dat)
namespace Cert.Proof.Ssd
/-- Row 0 of the taps. -/
def row0 (x3 : Vec Ideal S8x2048 .f32) : Vec Ideal S1x2048 .f32 := View.ld x3 (Rect.unit ![0, 0] ![1, 2048] inb_S8x2048_S1x2048_0_0)
theorem row0_at (x3 : Vec Ideal S8x2048 .f32) (c : Fin 2048) : row0 x3 (ix2 0 c) = x3 (ix2 0 c) := by
  unfold row0
  exact View.ld_unit_apply_of _ _ _ _ _ _ (by intro a; fin_cases a <;> simp)
/-- Row 1 of the taps. -/
def row1 (x3 : Vec Ideal S8x2048 .f32) : Vec Ideal S1x2048 .f32 := View.ld x3 (Rect.unit ![1, 0] ![1, 2048] inb_S8x2048_S1x2048_1_0)
theorem row1_at (x3 : Vec Ideal S8x2048 .f32) (c : Fin 2048) : row1 x3 (ix2 0 c) = x3 (ix2 1 c) := by
  unfold row1
  exact View.ld_unit_apply_of _ _ _ _ _ _ (by intro a; fin_cases a <;> simp)
/-- Row 2 of the taps. -/
def row2 (x3 : Vec Ideal S8x2048 .f32) : Vec Ideal S1x2048 .f32 := View.ld x3 (Rect.unit ![2, 0] ![1, 2048] inb_S8x2048_S1x2048_2_0)
theorem row2_at (x3 : Vec Ideal S8x2048 .f32) (c : Fin 2048) : row2 x3 (ix2 0 c) = x3 (ix2 2 c) := by
  unfold row2
  exact View.ld_unit_apply_of _ _ _ _ _ _ (by intro a; fin_cases a <;> simp)
/-- Row 3 of the taps. -/
def row3 (x3 : Vec Ideal S8x2048 .f32) : Vec Ideal S1x2048 .f32 := View.ld x3 (Rect.unit ![3, 0] ![1, 2048] inb_S8x2048_S1x2048_3_0)
theorem row3_at (x3 : Vec Ideal S8x2048 .f32) (c : Fin 2048) : row3 x3 (ix2 0 c) = x3 (ix2 3 c) := by
  unfold row3
  exact View.ld_unit_apply_of _ _ _ _ _ _ (by intro a; fin_cases a <;> simp)
/-- Heads 0 to 3 of the state. -/
def heads0 (x : Vec Ideal S16x64x128 .f32) : Vec Ideal S4x64x128 .f32 := View.ld x (Rect.unit ![0, 0, 0] ![4, 64, 128] inb_S16x64x128_S4x64x128_0_0_0)
theorem heads0_at (x : Vec Ideal S16x64x128 .f32) (r : Fin 4) (p : Fin 64) (n : Fin 128) : heads0 x (ix3 r p n) = x (ix3 ⟨0 + r.val, by omega⟩ p n) := by
  unfold heads0
  exact View.ld_unit_apply_of _ _ _ _ _ _ (by intro a; fin_cases a <;> simp)
/-- Heads 4 to 7 of the state. -/
def heads4 (x : Vec Ideal S16x64x128 .f32) : Vec Ideal S4x64x128 .f32 := View.ld x (Rect.unit ![4, 0, 0] ![4, 64, 128] inb_S16x64x128_S4x64x128_4_0_0)
theorem heads4_at (x : Vec Ideal S16x64x128 .f32) (r : Fin 4) (p : Fin 64) (n : Fin 128) : heads4 x (ix3 r p n) = x (ix3 ⟨4 + r.val, by omega⟩ p n) := by
  unfold heads4
  exact View.ld_unit_apply_of _ _ _ _ _ _ (by intro a; fin_cases a <;> simp)
/-- Heads 8 to 11 of the state. -/
def heads8 (x : Vec Ideal S16x64x128 .f32) : Vec Ideal S4x64x128 .f32 := View.ld x (Rect.unit ![8, 0, 0] ![4, 64, 128] inb_S16x64x128_S4x64x128_8_0_0)
theorem heads8_at (x : Vec Ideal S16x64x128 .f32) (r : Fin 4) (p : Fin 64) (n : Fin 128) : heads8 x (ix3 r p n) = x (ix3 ⟨8 + r.val, by omega⟩ p n) := by
  unfold heads8
  exact View.ld_unit_apply_of _ _ _ _ _ _ (by intro a; fin_cases a <;> simp)
/-- Heads 12 to 15 of the state. -/
def heads12 (x : Vec Ideal S16x64x128 .f32) : Vec Ideal S4x64x128 .f32 := View.ld x (Rect.unit ![12, 0, 0] ![4, 64, 128] inb_S16x64x128_S4x64x128_12_0_0)
theorem heads12_at (x : Vec Ideal S16x64x128 .f32) (r : Fin 4) (p : Fin 64) (n : Fin 128) : heads12 x (ix3 r p n) = x (ix3 ⟨12 + r.val, by omega⟩ p n) := by
  unfold heads12
  exact View.ld_unit_apply_of _ _ _ _ _ _ (by intro a; fin_cases a <;> simp)
/-- A piece behind others that cover the index does not matter. -/
theorem canon_append {S : Shape} {e : EltTy} (L M : List (View.Piece (Elt Ideal) S e)) (y : S.Idx) (h : ∃ p ∈ L, y ∈ p.1.set) : View.canon (L ++ M) y = View.canon L y := by
  induction L with
  | nil => simp at h
  | cons p L ih =>
    by_cases hp : y ∈ p.1.set
    · rw [List.cons_append, View.canon_cons, View.canon_cons]
      obtain ⟨x, rfl⟩ := p.1.exists_idx_of_mem hp
      exact (p.1.overlay_emb _ _ x).trans (p.1.overlay_emb _ _ x).symm
    · rw [List.cons_append, View.canon_cons_of_not_mem _ _ hp, View.canon_cons_of_not_mem _ _ hp]
      refine ih ?_
      obtain ⟨q, hq, hy⟩ := h
      rcases List.mem_cons.mp hq with rfl | hq
      · exact absurd hy hp
      · exact ⟨q, hq, hy⟩
/-- The state scratch after a chunk, group by group. -/
def kNext (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x9 : Vec Ideal S128x1024 .bf16) (xs0 : Vec Ideal S128x2048 .f32) (xs1 : Vec Ideal S16x64x128 .f32) : Vec Ideal S16x64x128 .f32 :=
  View.canon [⟨Rect.unit ![12, 0, 0] ![4, 64, 128] inb_S16x64x128_S4x64x128_12_0_0, kN3 x1 x2 x4 (row3 x3) (row2 x3) (row1 x3) (row0 x3) x5 x6 x9 xs0 (heads12 xs1)⟩, ⟨Rect.unit ![8, 0, 0] ![4, 64, 128] inb_S16x64x128_S4x64x128_8_0_0, kN2 x1 x2 x4 (row3 x3) (row2 x3) (row1 x3) (row0 x3) x5 x6 x9 xs0 (heads8 xs1)⟩, ⟨Rect.unit ![4, 0, 0] ![4, 64, 128] inb_S16x64x128_S4x64x128_4_0_0, kN1 x1 x2 x4 (row3 x3) (row2 x3) (row1 x3) (row0 x3) x5 x6 x9 xs0 (heads4 xs1)⟩, ⟨Rect.unit ![0, 0, 0] ![4, 64, 128] inb_S16x64x128_S4x64x128_0_0_0, kN0 x1 x2 x4 (row3 x3) (row2 x3) (row1 x3) (row0 x3) x5 x6 x9 xs0 (heads0 xs1)⟩]
theorem kNext_at {x1 : Vec Ideal S1x128x2048 .f32} {x2 : Vec Ideal S1x128x128 .f32} {x3 : Vec Ideal S8x2048 .f32} {x4 : Vec Ideal S1x2048 .f32} {x5 : Vec Ideal S1x128 .f32} {x6 : Vec Ideal S1x128 .f32} {x9 : Vec Ideal S128x1024 .bf16} {xs0 : Vec Ideal S128x2048 .f32} {xs1 : Vec Ideal S16x64x128 .f32}
    (he : IsExpand x9) (hdt : ∀ j h, dtK x2 x5 j h ≠ ⊤) (h : Fin 16) (p : Fin 64) (n : Fin 128) :
    kNext x1 x2 x3 x4 x5 x6 x9 xs0 xs1 (ix3 h p n) = stateNext (xcK x1 x4 (row3 x3) (row2 x3) (row1 x3) (row0 x3) xs0) (dtK x2 x5) (alK x6) (fun h p n => xs1 (ix3 h p n)) h p n := by
  unfold kNext
  canon_tiles x hx
  · obtain ⟨r, q, m, rfl⟩ : ∃ r q m, x = ix3 r q m := ⟨x 0, x 1, x 2, by funext a; fin_cases a <;> rfl⟩
    refine (kN3_at he hdt (H := fun h p n => xs1 (ix3 h p n)) (fun r p n => heads12_at xs1 r p n) r q m).trans ?_
    have e1 : (⟨12 + r.val, by omega⟩ : Fin 16) = h := Fin.ext (by simp at *; omega)
    have e2 : q = p := Fin.ext (by simp at *; omega)
    have e3 : m = n := Fin.ext (by simp at *; omega)
    rw [e1, e2, e3]
  · obtain ⟨r, q, m, rfl⟩ : ∃ r q m, x = ix3 r q m := ⟨x 0, x 1, x 2, by funext a; fin_cases a <;> rfl⟩
    refine (kN2_at he hdt (H := fun h p n => xs1 (ix3 h p n)) (fun r p n => heads8_at xs1 r p n) r q m).trans ?_
    have e1 : (⟨8 + r.val, by omega⟩ : Fin 16) = h := Fin.ext (by simp at *; omega)
    have e2 : q = p := Fin.ext (by simp at *; omega)
    have e3 : m = n := Fin.ext (by simp at *; omega)
    rw [e1, e2, e3]
  · obtain ⟨r, q, m, rfl⟩ : ∃ r q m, x = ix3 r q m := ⟨x 0, x 1, x 2, by funext a; fin_cases a <;> rfl⟩
    refine (kN1_at he hdt (H := fun h p n => xs1 (ix3 h p n)) (fun r p n => heads4_at xs1 r p n) r q m).trans ?_
    have e1 : (⟨4 + r.val, by omega⟩ : Fin 16) = h := Fin.ext (by simp at *; omega)
    have e2 : q = p := Fin.ext (by simp at *; omega)
    have e3 : m = n := Fin.ext (by simp at *; omega)
    rw [e1, e2, e3]
  · obtain ⟨r, q, m, rfl⟩ : ∃ r q m, x = ix3 r q m := ⟨x 0, x 1, x 2, by funext a; fin_cases a <;> rfl⟩
    refine (kN0_at he hdt (H := fun h p n => xs1 (ix3 h p n)) (fun r p n => heads0_at xs1 r p n) r q m).trans ?_
    have e1 : (⟨0 + r.val, by omega⟩ : Fin 16) = h := Fin.ext (by simp at *; omega)
    have e2 : q = p := Fin.ext (by simp at *; omega)
    have e3 : m = n := Fin.ext (by simp at *; omega)
    rw [e1, e2, e3]
theorem t_out0_A_10 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (h0) (h1) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 = kOut x0 x1 x2 x4 (row3 x3) (row2 x3) (row1 x3) (row0 x3) x5 x6 x7 x8 x9 (k0_pay3 (F := Ideal)) (heads0 (k0_pay4 (F := Ideal))) (heads4 (k0_pay4 (F := Ideal))) (heads8 (k0_pay4 (F := Ideal))) (heads12 (k0_pay4 (F := Ideal))) := by
  frame_open
  try simp (disch := decide) only [↓ View.readCov_skip, ↓ View.readCov_cons_toLoadRect, ↓ View.readCov_fill]
  frame_out
  try simp only [read_unread_whole]
  rfl
theorem t_sout0_A_1 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (h0) (h1) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 = kNext x1 x2 x3 x4 x5 x6 x9 (k0_pay3 (F := Ideal)) (k0_pay4 (F := Ideal)) := by
  frame_open
  try simp (disch := decide) only [↓ View.readCov_skip, ↓ View.readCov_cons_toLoadRect, ↓ View.readCov_fill]
  frame_out
  try simp only [read_unread_whole]
  refine Eq.trans (b := View.canon [⟨Rect.unit ![12, 0, 0] ![4, 64, 128] inb_S16x64x128_S4x64x128_12_0_0, kN3 x1 x2 x4 (row3 x3) (row2 x3) (row1 x3) (row0 x3) x5 x6 x9 (k0_pay3 (F := Ideal)) (heads12 (k0_pay4 (F := Ideal)))⟩, ⟨Rect.unit ![8, 0, 0] ![4, 64, 128] inb_S16x64x128_S4x64x128_8_0_0, kN2 x1 x2 x4 (row3 x3) (row2 x3) (row1 x3) (row0 x3) x5 x6 x9 (k0_pay3 (F := Ideal)) (heads8 (k0_pay4 (F := Ideal)))⟩, ⟨Rect.unit ![4, 0, 0] ![4, 64, 128] inb_S16x64x128_S4x64x128_4_0_0, kN1 x1 x2 x4 (row3 x3) (row2 x3) (row1 x3) (row0 x3) x5 x6 x9 (k0_pay3 (F := Ideal)) (heads4 (k0_pay4 (F := Ideal)))⟩, ⟨Rect.unit ![0, 0, 0] ![4, 64, 128] inb_S16x64x128_S4x64x128_0_0_0, kN0 x1 x2 x4 (row3 x3) (row2 x3) (row1 x3) (row0 x3) x5 x6 x9 (k0_pay3 (F := Ideal)) (heads0 (k0_pay4 (F := Ideal)))⟩, ⟨Rect.unit ![0, 0, 0] ![16, 64, 128] inb_S16x64x128_S16x64x128_0_0_0, (k0_pay4 (F := Ideal))⟩]) ?_ ?_
  · generalize (k0_pay4 (F := Ideal)) = zH
    generalize (k0_pay3 (F := Ideal)) = zP
    rfl
  funext y
  exact canon_append (S := S16x64x128) (e := .f32) [⟨Rect.unit ![12, 0, 0] ![4, 64, 128] inb_S16x64x128_S4x64x128_12_0_0, kN3 x1 x2 x4 (row3 x3) (row2 x3) (row1 x3) (row0 x3) x5 x6 x9 (k0_pay3 (F := Ideal)) (heads12 (k0_pay4 (F := Ideal)))⟩, ⟨Rect.unit ![8, 0, 0] ![4, 64, 128] inb_S16x64x128_S4x64x128_8_0_0, kN2 x1 x2 x4 (row3 x3) (row2 x3) (row1 x3) (row0 x3) x5 x6 x9 (k0_pay3 (F := Ideal)) (heads8 (k0_pay4 (F := Ideal)))⟩, ⟨Rect.unit ![4, 0, 0] ![4, 64, 128] inb_S16x64x128_S4x64x128_4_0_0, kN1 x1 x2 x4 (row3 x3) (row2 x3) (row1 x3) (row0 x3) x5 x6 x9 (k0_pay3 (F := Ideal)) (heads4 (k0_pay4 (F := Ideal)))⟩, ⟨Rect.unit ![0, 0, 0] ![4, 64, 128] inb_S16x64x128_S4x64x128_0_0_0, kN0 x1 x2 x4 (row3 x3) (row2 x3) (row1 x3) (row0 x3) x5 x6 x9 (k0_pay3 (F := Ideal)) (heads0 (k0_pay4 (F := Ideal)))⟩] [⟨Rect.unit ![0, 0, 0] ![16, 64, 128] inb_S16x64x128_S16x64x128_0_0_0, (k0_pay4 (F := Ideal))⟩] y (View.cover_of_tiled_head _ _ _ (by rfl) y)
theorem t_sout0_A_0 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (h0) (h1) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 = k0_pay10 (k0_pay2 x1) := by
  frame_out
theorem t_out0_B_10 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = kOut x0 x1 x2 x4 (row3 x3) (row2 x3) (row1 x3) (row0 x3) x5 x6 x7 x8 x9 xs0 (heads0 xs1) (heads4 xs1) (heads8 xs1) (heads12 xs1) := by
  frame_open
  try simp (disch := decide) only [↓ View.readCov_skip, ↓ View.readCov_cons_toLoadRect, ↓ View.readCov_fill]
  frame_out
  try simp only [read_unread_whole]
  rfl
theorem t_sout0_B_1 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = kNext x1 x2 x3 x4 x5 x6 x9 xs0 xs1 := by
  frame_open
  try simp (disch := decide) only [↓ View.readCov_skip, ↓ View.readCov_cons_toLoadRect, ↓ View.readCov_fill]
  frame_out
  try simp only [read_unread_whole]
  rfl
theorem t_sout0_B_0 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = k0_pay10 (k0_pay2 x1) := by
  frame_out
theorem t_out0_C_10 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = kOut x0 x1 x2 x4 (row3 x3) (row2 x3) (row1 x3) (row0 x3) x5 x6 x7 x8 x9 xs0 (heads0 xs1) (heads4 xs1) (heads8 xs1) (heads12 xs1) := by
  frame_open
  try simp (disch := decide) only [↓ View.readCov_skip, ↓ View.readCov_cons_toLoadRect, ↓ View.readCov_fill]
  frame_out
  try simp only [read_unread_whole]
  rfl
theorem t_sout0_C_1 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = kNext x1 x2 x3 x4 x5 x6 x9 xs0 xs1 := by
  frame_open
  try simp (disch := decide) only [↓ View.readCov_skip, ↓ View.readCov_cons_toLoadRect, ↓ View.readCov_fill]
  frame_out
  try simp only [read_unread_whole]
  rfl
theorem t_sout0_C_0 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = k0_pay10 (k0_pay2 x1) := by
  frame_out
theorem t_out0_C_11 (c : Dev nD) (t : Fin cfg0.N) (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) (xs0 : Vec Ideal S128x2048 .f32) (xs1 : Vec Ideal S16x64x128 .f32) (h0) (h1) :
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 x0 x1 x2 x3 x4 x5 x6 x7 x8 x9 xs0 xs1 = k0_pay113 (kNext x1 x2 x3 x4 x5 x6 x9 xs0 xs1) := by
  frame_open
  try simp (disch := decide) only [↓ View.readCov_skip, ↓ View.readCov_cons_toLoadRect, ↓ View.readCov_fill]
  frame_out
  try simp only [read_unread_whole]
  refine congrArg k0_pay113 ?_
  rw [View.readCov_eq_canon']
  refine Eq.trans ?_ (show (fun j => kNext x1 x2 x3 x4 x5 x6 x9 xs0 xs1 j) = _ from rfl)
  funext j
  exact congrArg _ (by funext a; fin_cases a <;> exact Fin.ext (by simp [Rect.unit, LoadRect.idx, Rect.toLoadRect]))
theorem prev_at (x1 : Vec Ideal S1x128x2048 .f32) (j : Fin 128) (c : Fin 2048) : k0_pay10 (k0_pay2 x1) (ix2 j c) = x1 (ix3 0 j c) := by
  pointwise [k0_pay10, k0_pay2]
theorem hout_at (v : Vec Ideal S16x64x128 .f32) (h : Fin 16) (p : Fin 64) (n : Fin 128) : k0_pay113 (F := Ideal) v (ix4 0 h p n) = v (ix3 h p n) := by
  pointwise [k0_pay113]
theorem zeroPrev_at (j : Fin 128) (c : Fin 2048) : k0_pay3 (F := Ideal) (ix2 j c) = (0 : EReal) := by
  pointwise [k0_pay3]
theorem zeroState_at (h : Fin 16) (p : Fin 64) (n : Fin 128) : k0_pay4 (F := Ideal) (ix3 h p n) = (0 : EReal) := by
  pointwise [k0_pay4]
end Cert.Proof.Ssd
end
-- ==== Proof.SsdRun.lean ====
/- The kernel's pass over the chunks: what the two carried buffers and the stored blocks hold after each grid point. -/
module

public import proofs.«01_k».proof.Proof.SsdBody
public import proofs.«01_k».proof.Proof.SsdSeq

@[expose] public section

set_option backward.proofsInPublic true
set_option maxRecDepth 16384
set_option maxHeartbeats 4000000

noncomputable section

open Idealize.ShloMosaic Idealize.ShloMosaic.TcCoe Idealize.SL.Sem Cert.SsdIdeal Cert.SsdIdeal.Gen Cert.SsdIdeal.Value

namespace Cert.Proof.Ssd

section Point

variable {p3 : Fin 4 → Fin 2048 → Fin 6144 → EReal} {cw : Fin 4 → Fin 2048 → EReal} {cb : Fin 2048 → EReal}
  {dtb al dsk : Fin 16 → EReal} {ng : Fin 1024 → EReal} {b : Fin 4} {k : Fin 16}
  {x0 : Vec Ideal S1x128x1024 .f32} {x1 : Vec Ideal S1x128x2048 .f32} {x2 : Vec Ideal S1x128x128 .f32} {x3 : Vec Ideal S8x2048 .f32} {x4 : Vec Ideal S1x2048 .f32} {x5 : Vec Ideal S1x128 .f32} {x6 : Vec Ideal S1x128 .f32} {x7 : Vec Ideal S1x1024 .f32} {x8 : Vec Ideal S1x1024 .f32} {x9 : Vec Ideal S128x1024 .bf16} {xs0 : Vec Ideal S128x2048 .f32} {xs1 : Vec Ideal S16x64x128 .f32}

/-- The blocks of chunk `k` of batch `b`. -/
structure Blocks (p3 : Fin 4 → Fin 2048 → Fin 6144 → EReal) (cw : Fin 4 → Fin 2048 → EReal) (cb : Fin 2048 → EReal)
    (dtb al dsk : Fin 16 → EReal) (ng : Fin 1024 → EReal) (b : Fin 4) (k : Fin 16)
    (x0 : Vec Ideal S1x128x1024 .f32) (x1 : Vec Ideal S1x128x2048 .f32) (x2 : Vec Ideal S1x128x128 .f32) (x3 : Vec Ideal S8x2048 .f32) (x4 : Vec Ideal S1x2048 .f32) (x5 : Vec Ideal S1x128 .f32) (x6 : Vec Ideal S1x128 .f32) (x7 : Vec Ideal S1x1024 .f32) (x8 : Vec Ideal S1x1024 .f32) (x9 : Vec Ideal S128x1024 .bf16) : Prop where
  z : ∀ j c, x0 (ix3 (0 : Fin 1) j c) = p3 b (pos k j) ⟨1024 + c.val, by omega⟩
  x : ∀ j c, x1 (ix3 (0 : Fin 1) j c) = p3 b (pos k j) ⟨2048 + c.val, by omega⟩
  dt : ∀ j c, x2 (ix3 (0 : Fin 1) j c) = p3 b (pos k j) ⟨5632 + c.val, by omega⟩
  w : ∀ (r : Fin 4) c, x3 (ix2 (⟨r.val, by omega⟩ : Fin 8) c) = cw r c
  cb : ∀ c, x4 (ix2 (0 : Fin 1) c) = cb c
  dtb : ∀ h : Fin 16, x5 (ix2 (0 : Fin 1) (⟨48 + h.val, by omega⟩ : Fin 128)) = dtb h
  al : ∀ h : Fin 16, x6 (ix2 (0 : Fin 1) (⟨48 + h.val, by omega⟩ : Fin 128)) = al h
  dsk : ∀ h p, x7 (ix2 (0 : Fin 1) (col h p)) = dsk h
  ng : ∀ c, x8 (ix2 (0 : Fin 1) c) = ng c
  e : IsExpand x9

/-- What is carried into chunk `k`: the chunk before, and the state. -/
structure Carried (p3 : Fin 4 → Fin 2048 → Fin 6144 → EReal) (cw : Fin 4 → Fin 2048 → EReal) (cb : Fin 2048 → EReal)
    (dtb al : Fin 16 → EReal) (b : Fin 4) (k : ℕ) (xs0 : Vec Ideal S128x2048 .f32) (xs1 : Vec Ideal S16x64x128 .f32) : Prop where
  p0 : k = 0 → ∀ j c, xs0 (ix2 j c) = 0
  p : ∀ hk : 0 < k, ∀ hk' : k - 1 < 16, ∀ j c, xs0 (ix2 j c) = p3 b (pos ⟨k - 1, hk'⟩ j) ⟨2048 + c.val, by omega⟩
  h : ∀ h p n, xs1 (ix3 h p n) = seqH p3 cw cb dtb al b k h p n

variable (B : Blocks p3 cw cb dtb al dsk ng b k x0 x1 x2 x3 x4 x5 x6 x7 x8 x9)
  (C : Carried p3 cw cb dtb al b k.val xs0 xs1)
  (hfin : ∀ b t (h : Fin 16), p3 b t ⟨5680 + h.val, by omega⟩ ≠ ⊤) (hfin' : ∀ h, dtb h ≠ ⊤)
include B

theorem point_dt : dtK x2 x5 = seqDt p3 dtb b k := by
  funext j h
  unfold dtK seqDt
  rw [B.dt, B.dtb]
  refine congrArg (fun c => softplus (p3 b (pos k j) c + dtb h)) (Fin.ext ?_)
  dsimp only
  omega

theorem point_al : alK x6 = al := funext fun h => B.al h

include hfin hfin' in
theorem point_fin (j : Fin 128) (h : Fin 16) : dtK x2 x5 j h ≠ ⊤ := by
  rw [point_dt B]
  exact softplus_ne_top (EReal.add_ne_top (hfin _ _ _) (hfin' _))

include C in
theorem point_xc : xcK x1 x4 (row3 x3) (row2 x3) (row1 x3) (row0 x3) xs0 = seqXc p3 cw cb b k := by
  funext j c
  unfold xcK conv seqXc seqConv
  have hl := fun d hd => lag_seq p3 b k (fun j c => x1 (ix3 0 j c)) (fun j c => xs0 (ix2 j c)) B.x C.p0 (fun hk j c => C.p hk (by omega) j c) d hd j c
  rw [hl 1 (by omega), hl 2 (by omega), hl 3 (by omega)]
  have h0 : back p3 b 0 (pos k j) c = x1 (ix3 0 j c) := by
    rw [B.x]; unfold back; rw [if_pos (Nat.zero_le _)]; rfl
  rw [h0]
  have w0 : row0 x3 (ix2 0 c) = cw 0 c := (row0_at _ c).trans (B.w 0 c)
  have w1 : row1 x3 (ix2 0 c) = cw 1 c := (row1_at _ c).trans (B.w 1 c)
  have w2 : row2 x3 (ix2 0 c) = cw 2 c := (row2_at _ c).trans (B.w 2 c)
  have w3 : row3 x3 (ix2 0 c) = cw 3 c := (row3_at _ c).trans (B.w 3 c)
  rw [← w0, ← w1, ← w2, ← w3, ← B.cb c]
  rfl

include C hfin hfin'

theorem point_next (h : Fin 16) (p : Fin 64) (n : Fin 128) :
    kNext x1 x2 x3 x4 x5 x6 x9 xs0 xs1 (ix3 h p n) = seqH p3 cw cb dtb al b (k.val + 1) h p n := by
  rw [kNext_at B.e (point_fin B hfin hfin') h p n, point_xc B C, point_dt B, point_al B]
  have e : (fun h p n => xs1 (ix3 h p n)) = seqH p3 cw cb dtb al b k.val := by
    funext h p n; exact C.h h p n
  rw [e]
  simp only [seqH, ofNat_val]

theorem point_out (i : Fin 128) (h : Fin 16) (p : Fin 64) :
    kOut x0 x1 x2 x4 (row3 x3) (row2 x3) (row1 x3) (row0 x3) x5 x6 x7 x8 x9 xs0 (heads0 xs1) (heads4 xs1) (heads8 xs1) (heads12 xs1) (ix3 0 i (col h p))
      = seqY p3 cw cb dtb al dsk ng b k i h p := by
  refine (kOut_at (H := seqH p3 cw cb dtb al b k.val) (dsk := dsk) B.e (point_fin B hfin hfin')
    (fun r p n => (heads0_at xs1 r p n).trans ((C.h _ p n).trans (congrArg (fun h => seqH p3 cw cb dtb al b k.val h p n) (Fin.ext (by dsimp only <;> omega)))))
    (fun r p n => (heads4_at xs1 r p n).trans (C.h _ p n)) (fun r p n => (heads8_at xs1 r p n).trans (C.h _ p n)) (fun r p n => (heads12_at xs1 r p n).trans (C.h _ p n))
    B.dsk i h p).trans ?_
  rw [point_xc B C, point_dt B, point_al B]
  have ez : (fun i c => x0 (ix3 0 i c)) = seqZ p3 b k := by funext i c; exact B.z i c
  have eg : (fun c => x8 (ix2 0 c)) = ng := by funext c; exact B.ng c
  rw [ez, eg]
  rfl

end Point

end Cert.Proof.Ssd
-- ==== Proof.SsdBlocks.lean ====
/- The blocks the kernel's body reads at a grid point, as entries of the arguments. -/
module

public import proofs.«01_k».proof.Proof.SsdBody
public import proofs.«01_k».proof.Proof.SsdSeq
public import proofs.«01_k».proof.Proof.Gen.SsdIdeal.Value
public import Idealize.ShloMosaic.Lib.Claim
public import Idealize.ShloMosaic.Lib.KernelVsHost
public import Idealize.ShloMosaic.Lib.ValueLayout

@[expose] public section

set_option maxRecDepth 16384
set_option maxHeartbeats 4000000

noncomputable section

open Idealize.ShloMosaic Idealize.ShloMosaic.TcCoe Idealize.SL.Sem Cert.SsdIdeal Cert.SsdIdeal.Gen Cert.SsdIdeal.Value

namespace Cert.Proof.Ssd

variable (m : (ℓ : Loc nD τ sig) → Buf (Elt Ideal) ℓ) (q : Dev nD)
variable (p3 : Fin 4 → Fin 2048 → Fin 6144 → EReal) (cw : Fin 4 → Fin 2048 → EReal) (cb : Fin 2048 → EReal)
  (dtb al dsk : Fin 16 → EReal) (ng : Fin 1024 → EReal)

/-- The kernel's arguments as functions. -/
structure KerArgs : Prop where
  a0 : ∀ b t c, m ((q.tc : Thread nD τ).loc main_arg0) (ix3 b t c) = p3 b t c
  a1 : ∀ k c, m ((q.tc : Thread nD τ).loc main_arg1) (ix3 (0 : Fin 1) k c) = cw k c
  a2 : ∀ c, m ((q.tc : Thread nD τ).loc main_arg2) (ix2 (0 : Fin 1) c) = cb c
  a3 : ∀ h, m ((q.tc : Thread nD τ).loc main_arg3) (ix2 (0 : Fin 1) h) = dtb h
  a4 : ∀ h, m ((q.tc : Thread nD τ).loc main_arg4) (ix2 (0 : Fin 1) h) = al h
  a5 : ∀ h, m ((q.tc : Thread nD τ).loc main_arg5) (ix2 (0 : Fin 1) h) = dsk h
  a6 : ∀ c, m ((q.tc : Thread nD τ).loc main_arg6) (ix2 (0 : Fin 1) c) = ng c

variable {m q p3 cw cb dtb al dsk ng} (A : KerArgs m q p3 cw cb dtb al dsk ng)
include A

/-! ## The host arrays the windows run over -/

omit A in
theorem host_e : (V m q main_v6 : FVec Ideal S128x1024 .bf16) = (uitofp .bf16 (cmpi .eq (iotaInDim S128x1024 32 0) (addi (broadcastInDim S128x1024 ![] bcast_S_S128x1024 (constantI S_ 32 48#32))
    (select (andi (cmpi .ne (signi (iotaInDim S128x1024 32 1)) (broadcastInDim S128x1024 ![] bcast_S_S128x1024 (signi (constantI S_ 32 64#32))))
        (cmpi .ne (Host.remsi (iotaInDim S128x1024 32 1) (broadcastInDim S128x1024 ![] bcast_S_S128x1024 (constantI S_ 32 64#32))) (broadcastInDim S128x1024 ![] bcast_S_S128x1024 (constantI S_ 32 0#32))))
      (subi (Host.divsi (iotaInDim S128x1024 32 1) (broadcastInDim S128x1024 ![] bcast_S_S128x1024 (constantI S_ 32 64#32))) (broadcastInDim S128x1024 ![] bcast_S_S128x1024 (constantI S_ 32 1#32)))
      (Host.divsi (iotaInDim S128x1024 32 1) (broadcastInDim S128x1024 ![] bcast_S_S128x1024 (constantI S_ 32 64#32)))))) : FVec Ideal S128x1024 .bf16) := by
  unfold V
  simp only [List.flatten_cons, List.flatten_nil, List.append_nil, List.cons_append, List.nil_append]
  after_results
  rfl

omit A in
theorem head_word : ∀ c : Fin 1024, IntOp.addi (48#32)
          (Scalar.select
            (IntOp.andi
              (IntOp.cmpi CmpIPredicate.ne
                (if BitVec.ofNat 32 c.val = 0 then (0 : BitVec 32) else if (BitVec.ofNat 32 c.val).msb = true then -1 else 1)
                (if 64#32 = 0 then (0 : BitVec 32) else if (64#32).msb = true then -1 else 1))
              (IntOp.cmpi CmpIPredicate.ne (IntOp.remsi ArithUnit.host (BitVec.ofNat 32 c.val) 64#32) 0#32))
            (IntOp.subi (IntOp.divsi ArithUnit.host (BitVec.ofNat 32 c.val) 64#32) 1#32)
            (IntOp.divsi ArithUnit.host (BitVec.ofNat 32 c.val) 64#32)) = BitVec.ofNat 32 (48 + c.val / 64) := by
  decide +kernel

omit A in
theorem eq_word (a b : ℕ) (ha : a < 2 ^ 32) (hb : b < 2 ^ 32) : IntOp.cmpi .eq (BitVec.ofNat 32 a) (BitVec.ofNat 32 b) = if a = b then 1#1 else 0#1 := by
  show BitVec.ofBool (BitVec.ofNat 32 a == BitVec.ofNat 32 b) = _
  by_cases h : a = b
  · subst h
    rw [if_pos rfl, beq_self_eq_true]
    rfl
  · rw [if_neg h]
    have : ¬ BitVec.ofNat 32 a = BitVec.ofNat 32 b := fun e => h (by
      have := congrArg BitVec.toNat e
      rwa [BitVec.toNat_ofNat, BitVec.toNat_ofNat, Nat.mod_eq_of_lt ha, Nat.mod_eq_of_lt hb] at this)
    rw [beq_eq_false_iff_ne.mpr this]
    rfl

omit A in
theorem e_at (k : Fin 128) (c : Fin 1024) : (V m q main_v6 : FVec Ideal S128x1024 .bf16) (ix2 k c) = if k.val = 48 + (headOf c).val then (1 : EReal) else 0 := by
  rw [host_e]
  pointwise []
  refine (congrArg (fun w => (FloatOps.uitofp (F := Ideal) FTy.bf16 (IntOp.cmpi .eq (BitVec.ofNat 32 k.val) w) : Ideal .bf16)) (head_word c)).trans ?_
  rw [eq_word _ _ (by omega) (by omega)]
  show (FloatOps.uitofp (F := Ideal) FTy.bf16 (if k.val = 48 + c.val / 64 then 1#1 else 0#1) : EReal) = if k.val = 48 + c.val / 64 then (1 : EReal) else 0
  by_cases h : k.val = 48 + c.val / 64
  · rw [if_pos h, if_pos h]
    show ((((1#1 : BitVec 1).toNat : ℕ) : ℝ) : EReal) = 1
    simp
  · rw [if_neg h, if_neg h]
    show ((((0#1 : BitVec 1).toNat : ℕ) : ℝ) : EReal) = 0
    simp

omit A in
theorem host_cw : (V m q main_v8 : FVec Ideal S8x2048 .f32) = pad S8x2048 ![0, 0] ![4, 0] ![0, 0] (shapeCast S4x2048 (m ((q.tc : Thread nD τ).loc main_arg1)) shapeCasts_S1x4x2048_S4x2048 : FVec Ideal S4x2048 .f32) (sitofp .f32 (constantI S_ 32 0#32)) pads_S4x2048_S8x2048_040_000 h_S_ := by
  unfold V
  simp only [List.flatten_cons, List.flatten_nil, List.append_nil, List.cons_append, List.nil_append]
  after_results
  rfl

omit A in
theorem taps_at (X : FVec Ideal S1x4x2048 .f32) (r : Fin 4) (c : Fin 2048) : (shapeCast S4x2048 X shapeCasts_S1x4x2048_S4x2048 : FVec Ideal S4x2048 .f32) (ix2 r c) = X (ix3 (0 : Fin 1) r c) :=
  ValueIdx.shapeCast_1ab_ab_apply (a := 4) (b := 2048) X shapeCasts_S1x4x2048_S4x2048 r c

theorem cw_at (r : Fin 4) (c : Fin 2048) : (V m q main_v8 : FVec Ideal S8x2048 .f32) (ix2 (⟨r.val, by omega⟩ : Fin 8) c) = cw r c := by
  have hk : ∀ a : Fin S4x2048.rank, ((ix2 (⟨r.val, by omega⟩ : Fin 8) c : S8x2048.Idx) (a.cast pads_S4x2048_S8x2048_040_000.1)).val = (![0, 0] : Fin 2 → ℕ) a + ((ix2 r c : S4x2048.Idx) a).val * ((![0, 0] : Fin 2 → ℕ) a + 1) := by
    intro a
    match a with
    | ⟨0, _⟩ => show r.val = 0 + r.val * (0 + 1); omega
    | ⟨1, _⟩ => show c.val = 0 + c.val * (0 + 1); omega
  refine (congrFun host_cw _).trans ?_
  refine (pad_apply_of_inside ![0, 0] ![4, 0] ![0, 0] _ _ pads_S4x2048_S8x2048_040_000 h_S_ (ix2 (⟨r.val, by omega⟩ : Fin 8) c) (ix2 r c) hk).trans ?_
  refine (?_ : _ = m ((q.tc : Thread nD τ).loc main_arg1) (ix3 (0 : Fin 1) r c)).trans (A.a1 r c)
  exact taps_at _ r c

omit A in
theorem host_dtb : (V m q main_v14 : FVec Ideal S1x128 .f32) = shapeCast S1x128 (pad S128 ![0] ![64] ![0] (pad S64 ![48] ![0] ![0] (shapeCast S16 (m ((q.tc : Thread nD τ).loc main_arg3)) shapeCasts_S1x16_S16 : FVec Ideal S16 .f32) (sitofp .f32 (constantI S_ 32 0#32)) pads_S16_S64_4800 h_S_) (sitofp .f32 (constantI S_ 32 0#32)) pads_S64_S128_0640 h_S_) shapeCasts_S128_S1x128 := by
  unfold V
  simp only [List.flatten_cons, List.flatten_nil, List.append_nil, List.cons_append, List.nil_append]
  after_results
  rfl

omit A in
theorem host_al : (V m q main_v18 : FVec Ideal S1x128 .f32) = shapeCast S1x128 (pad S128 ![0] ![64] ![0] (pad S64 ![48] ![0] ![0] (shapeCast S16 (m ((q.tc : Thread nD τ).loc main_arg4)) shapeCasts_S1x16_S16 : FVec Ideal S16 .f32) (sitofp .f32 (constantI S_ 32 0#32)) pads_S16_S64_4800 h_S_) (sitofp .f32 (constantI S_ 32 0#32)) pads_S64_S128_0640 h_S_) shapeCasts_S128_S1x128 := by
  unfold V
  simp only [List.flatten_cons, List.flatten_nil, List.append_nil, List.cons_append, List.nil_append]
  after_results
  rfl

theorem dtb_at (h : Fin 16) : (V m q main_v14 : FVec Ideal S1x128 .f32) (ix2 (0 : Fin 1) (⟨48 + h.val, by omega⟩ : Fin 128)) = dtb h := by
  rw [host_dtb]
  pointwise []
  rw [dif_pos (show 48 + h.val < 64 by omega)]
  exact A.a3 h

theorem al_at (h : Fin 16) : (V m q main_v18 : FVec Ideal S1x128 .f32) (ix2 (0 : Fin 1) (⟨48 + h.val, by omega⟩ : Fin 128)) = al h := by
  rw [host_al]
  pointwise []
  rw [dif_pos (show 48 + h.val < 64 by omega)]
  exact A.a4 h

omit A in
theorem host_dsk : (V m q main_v22 : FVec Ideal S1x1024 .f32) = shapeCast S1x1024 (shapeCast S1024 (broadcastInDim S16x64 ![0] bcast_S16_S16x64_0 (shapeCast S16 (m ((q.tc : Thread nD τ).loc main_arg5)) shapeCasts_S1x16_S16 : FVec Ideal S16 .f32)) shapeCasts_S16x64_S1024) shapeCasts_S1024_S1x1024 := by
  unfold V
  simp only [List.flatten_cons, List.flatten_nil, List.append_nil, List.cons_append, List.nil_append]
  after_results
  rfl

theorem dsk_at (h : Fin 16) (p : Fin 64) : (V m q main_v22 : FVec Ideal S1x1024 .f32) (ix2 (0 : Fin 1) (col h p)) = dsk h := by
  rw [host_dsk]
  pointwise []
  refine (A.a5 _).trans (congrArg dsk (Fin.ext ?_))
  simp only [col]
  omega

omit A in
theorem host_cb : (V m q main_v10 : FVec Ideal S1x2048 .f32) = shapeCast S1x2048 (shapeCast S2048 (m ((q.tc : Thread nD τ).loc main_arg2)) shapeCasts_S1x2048_S2048 : FVec Ideal S2048 .f32) shapeCasts_S2048_S1x2048 := by
  unfold V
  simp only [List.flatten_cons, List.flatten_nil, List.append_nil, List.cons_append, List.nil_append]
  after_results
  rfl
omit A in
theorem host_ng : (V m q main_v24 : FVec Ideal S1x1024 .f32) = shapeCast S1x1024 (shapeCast S1024 (m ((q.tc : Thread nD τ).loc main_arg6)) shapeCasts_S1x1024_S1024 : FVec Ideal S1024 .f32) shapeCasts_S1024_S1x1024 := by
  unfold V
  simp only [List.flatten_cons, List.flatten_nil, List.append_nil, List.cons_append, List.nil_append]
  after_results
  rfl
theorem cb_at (c : Fin 2048) : (V m q main_v10 : FVec Ideal S1x2048 .f32) (ix2 (0 : Fin 1) c) = cb c := by
  rw [host_cb]
  pointwise []
  exact A.a2 c
theorem ng_at (c : Fin 1024) : (V m q main_v24 : FVec Ideal S1x1024 .f32) (ix2 (0 : Fin 1) c) = ng c := by
  rw [host_ng]
  pointwise []
  exact A.a6 c

/-! ## The blocks -/

omit A in
theorem idx_w : ∀ t : Fin cfg0.N, (win0_0.index t 0 = t.val / 16 ∧ win0_0.index t 1 = t.val % 16 ∧ win0_0.index t 2 = 1)
    ∧ (win0_1.index t 0 = t.val / 16 ∧ win0_1.index t 1 = t.val % 16 ∧ win0_1.index t 2 = 1)
    ∧ (win0_2.index t 0 = t.val / 16 ∧ win0_2.index t 1 = t.val % 16 ∧ win0_2.index t 2 = 44) :=
  (by decide +kernel : ∀ t : Fin grid0.N, _)

omit A in
theorem idx_c : ∀ t : Fin cfg0.N, (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0) :=
  (by decide +kernel : ∀ t : Fin grid0.N, _)

theorem blk_z (t : Fin cfg0.N) (b : Fin 4) (k : Fin 16) (ht : t.val = 16 * b.val + k.val) (j : Fin 128) (c : Fin 1024) :
    iblk m q 0 t (ix3 (0 : Fin 1) j c) = p3 b (pos k j) ⟨1024 + c.val, by omega⟩ := by
  rw [← A.a0]
  blk_ext [iblk, V, idx_w t]
  all_goals (simp only [pos]; omega)

theorem blk_x (t : Fin cfg0.N) (b : Fin 4) (k : Fin 16) (ht : t.val = 16 * b.val + k.val) (j : Fin 128) (c : Fin 2048) :
    iblk m q 1 t (ix3 (0 : Fin 1) j c) = p3 b (pos k j) ⟨2048 + c.val, by omega⟩ := by
  rw [← A.a0]
  blk_ext [iblk, V, idx_w t]
  all_goals (simp only [pos]; omega)

theorem blk_dt (t : Fin cfg0.N) (b : Fin 4) (k : Fin 16) (ht : t.val = 16 * b.val + k.val) (j : Fin 128) (c : Fin 128) :
    iblk m q 2 t (ix3 (0 : Fin 1) j c) = p3 b (pos k j) ⟨5632 + c.val, by omega⟩ := by
  rw [← A.a0]
  blk_ext [iblk, V, idx_w t]
  all_goals (simp only [pos]; omega)

omit A in
theorem blk_cw (t : Fin cfg0.N) (r : Fin 8) (c : Fin 2048) : (iblk m q 3 t : Vec Ideal S8x2048 .f32) (ix2 r c) = V m q main_v8 (ix2 r c) := by
  blk_ext [iblk, idx_c t]

omit A in
theorem blk_cb (t : Fin cfg0.N) (r : Fin 1) (c : Fin 2048) : (iblk m q 4 t : Vec Ideal S1x2048 .f32) (ix2 r c) = V m q main_v10 (ix2 r c) := by
  blk_ext [iblk, idx_c t]

omit A in
theorem blk_dtb (t : Fin cfg0.N) (r : Fin 1) (c : Fin 128) : (iblk m q 5 t : Vec Ideal S1x128 .f32) (ix2 r c) = V m q main_v14 (ix2 r c) := by
  blk_ext [iblk, idx_c t]

omit A in
theorem blk_al (t : Fin cfg0.N) (r : Fin 1) (c : Fin 128) : (iblk m q 6 t : Vec Ideal S1x128 .f32) (ix2 r c) = V m q main_v18 (ix2 r c) := by
  blk_ext [iblk, idx_c t]

omit A in
theorem blk_dsk (t : Fin cfg0.N) (r : Fin 1) (c : Fin 1024) : (iblk m q 7 t : Vec Ideal S1x1024 .f32) (ix2 r c) = V m q main_v22 (ix2 r c) := by
  blk_ext [iblk, idx_c t]

omit A in
theorem blk_ng (t : Fin cfg0.N) (r : Fin 1) (c : Fin 1024) : (iblk m q 8 t : Vec Ideal S1x1024 .f32) (ix2 r c) = V m q main_v24 (ix2 r c) := by
  blk_ext [iblk, idx_c t]

omit A in
theorem blk_e (t : Fin cfg0.N) (r : Fin 128) (c : Fin 1024) : (iblk m q 9 t : Vec Ideal S128x1024 .bf16) (ix2 r c) = V m q main_v6 (ix2 r c) := by
  blk_ext [iblk, idx_c t]

end Cert.Proof.Ssd
-- ==== Proof.SsdGrid.lean ====
/- The kernel's grid: what every grid point leaves, and what the two arrays hold at the end. -/
module

public import proofs.«01_k».proof.Proof.SsdRun
public import proofs.«01_k».proof.Proof.SsdBlocks

@[expose] public section

set_option backward.proofsInPublic true
set_option maxRecDepth 16384
set_option maxHeartbeats 4000000

noncomputable section

open Idealize.ShloMosaic Idealize.ShloMosaic.TcCoe Idealize.SL.Sem Cert.SsdIdeal Cert.SsdIdeal.Gen Cert.SsdIdeal.Value

namespace Cert.Proof.Ssd

variable {m : (ℓ : Loc nD τ sig) → Buf (Elt Ideal) ℓ} {q : Dev nD}
  {p3 : Fin 4 → Fin 2048 → Fin 6144 → EReal} {cw : Fin 4 → Fin 2048 → EReal} {cb : Fin 2048 → EReal}
  {dtb al dsk : Fin 16 → EReal} {ng : Fin 1024 → EReal}

theorem blocks (A : KerArgs m q p3 cw cb dtb al dsk ng) (t : Fin cfg0.N) (b : Fin 4) (k : Fin 16) (ht : t.val = 16 * b.val + k.val) :
    Blocks p3 cw cb dtb al dsk ng b k (iblk m q 0 t) (iblk m q 1 t) (iblk m q 2 t) (iblk m q 3 t) (iblk m q 4 t) (iblk m q 5 t) (iblk m q 6 t) (iblk m q 7 t) (iblk m q 8 t) (iblk m q 9 t) where
  z := blk_z A t b k ht
  x := blk_x A t b k ht
  dt := blk_dt A t b k ht
  w r c := (blk_cw t _ c).trans (cw_at A r c)
  cb c := (blk_cb t 0 c).trans (cb_at A c)
  dtb h := (blk_dtb t 0 _).trans (dtb_at A h)
  al h := (blk_al t 0 _).trans (al_at A h)
  dsk h p := (blk_dsk t 0 _).trans (dsk_at A h p)
  ng c := (blk_ng t 0 c).trans (ng_at A c)
  e k c := (blk_e t k c).trans (e_at k c)

/-- What the point of chunk `k` of batch `b` leaves. -/
structure After (p3 : Fin 4 → Fin 2048 → Fin 6144 → EReal) (cw : Fin 4 → Fin 2048 → EReal) (cb : Fin 2048 → EReal)
    (dtb al dsk : Fin 16 → EReal) (ng : Fin 1024 → EReal) (b : Fin 4) (k : Fin 16)
    (s : Vec Ideal S1x128x1024 .bf16 × Vec Ideal S1x16x64x128 .f32 × Vec Ideal S128x2048 .f32 × Vec Ideal S16x64x128 .f32) : Prop where
  y : ∀ i h p, s.1 (ix3 (0 : Fin 1) i (col h p)) = seqY p3 cw cb dtb al dsk ng b k i h p
  hout : k.val = 15 → ∀ h p n, s.2.1 (ix4 (0 : Fin 1) h p n) = seqH p3 cw cb dtb al b 16 h p n
  prev : ∀ j c, s.2.2.1 (ix2 j c) = p3 b (pos k j) ⟨2048 + c.val, by omega⟩
  st : ∀ h p n, s.2.2.2 (ix3 h p n) = seqH p3 cw cb dtb al b (k.val + 1) h p n

variable (A : KerArgs m q p3 cw cb dtb al dsk ng)
  (hfin : ∀ b t (h : Fin 16), p3 b t ⟨5680 + h.val, by omega⟩ ≠ ⊤) (hfin' : ∀ h, dtb h ≠ ⊤)
include A hfin hfin'

omit A in
/-- A point that leaves the trip's values over what was carried in leaves what its chunk says. -/
theorem After.of {b : Fin 4} {k : Fin 16}
    {x0 : Vec Ideal S1x128x1024 .f32} {x1 : Vec Ideal S1x128x2048 .f32} {x2 : Vec Ideal S1x128x128 .f32} {x3 : Vec Ideal S8x2048 .f32} {x4 : Vec Ideal S1x2048 .f32} {x5 : Vec Ideal S1x128 .f32} {x6 : Vec Ideal S1x128 .f32} {x7 : Vec Ideal S1x1024 .f32} {x8 : Vec Ideal S1x1024 .f32} {x9 : Vec Ideal S128x1024 .bf16} {xs0 : Vec Ideal S128x2048 .f32} {xs1 : Vec Ideal S16x64x128 .f32}
    (B : Blocks p3 cw cb dtb al dsk ng b k x0 x1 x2 x3 x4 x5 x6 x7 x8 x9) (C : Carried p3 cw cb dtb al b k.val xs0 xs1)
    {s : Vec Ideal S1x128x1024 .bf16 × Vec Ideal S1x16x64x128 .f32 × Vec Ideal S128x2048 .f32 × Vec Ideal S16x64x128 .f32}
    (e0 : s.1 = kOut x0 x1 x2 x4 (row3 x3) (row2 x3) (row1 x3) (row0 x3) x5 x6 x7 x8 x9 xs0 (heads0 xs1) (heads4 xs1) (heads8 xs1) (heads12 xs1))
    (e1 : k.val = 15 → s.2.1 = k0_pay113 (kNext x1 x2 x3 x4 x5 x6 x9 xs0 xs1))
    (e2 : s.2.2.1 = k0_pay10 (k0_pay2 x1)) (e3 : s.2.2.2 = kNext x1 x2 x3 x4 x5 x6 x9 xs0 xs1) :
    After p3 cw cb dtb al dsk ng b k s where
  y i h p := (congrFun e0 _).trans (point_out B C hfin hfin' i h p)
  hout e h p n := by
    refine (congrFun (e1 e) _).trans ((hout_at _ h p n).trans ((point_next B C hfin hfin' h p n).trans ?_))
    rw [e]
  prev j c := (congrFun e2 _).trans ((prev_at _ j c).trans (B.x j c))
  st h p n := (congrFun e3 _).trans (point_next B C hfin hfin' h p n)

theorem step_first (t : Fin cfg0.N) (b : Fin 4) (k : Fin 16) (ht : t.val = 16 * b.val + k.val) (hk : k.val = 0) (acc : Vec Ideal S1x128x1024 .bf16 × Vec Ideal S1x16x64x128 .f32 × Vec Ideal S128x2048 .f32 × Vec Ideal S16x64x128 .f32) :
    After p3 cw cb dtb al dsk ng b k (stAt0 m q t.val t.isLt acc) := by
  have B := blocks A t b k ht
  have C : Carried p3 cw cb dtb al b k.val (k0_pay3 (F := Ideal)) (k0_pay4 (F := Ideal)) :=
    ⟨fun _ j c => zeroPrev_at j c, fun h => absurd hk (Nat.pos_iff_ne_zero.mp h), fun h p n => by rw [hk]; exact zeroState_at h p n⟩
  have h0 : t.val % 16 = 0 := by omega
  have h1 : ¬ t.val % 16 = 15 := by omega
  have e := stAt0_A m q t acc h0 h1
  exact After.of hfin hfin' B C (by rw [e]; dsimp only; exact t_out0_A_10 q t (iblk m q 0 t) (iblk m q 1 t) (iblk m q 2 t) (iblk m q 3 t) (iblk m q 4 t) (iblk m q 5 t) (iblk m q 6 t) (iblk m q 7 t) (iblk m q 8 t) (iblk m q 9 t) ((hcond0_0 t).mpr h0) (fun h => h1 ((hcond0_1 t).mp h)))
    (fun h => absurd (hk.symm.trans h) (by decide))
    (by rw [e]; dsimp only; exact t_sout0_A_0 q t (iblk m q 0 t) (iblk m q 1 t) (iblk m q 2 t) (iblk m q 3 t) (iblk m q 4 t) (iblk m q 5 t) (iblk m q 6 t) (iblk m q 7 t) (iblk m q 8 t) (iblk m q 9 t) ((hcond0_0 t).mpr h0) (fun h => h1 ((hcond0_1 t).mp h)))
    (by rw [e]; dsimp only; exact t_sout0_A_1 q t (iblk m q 0 t) (iblk m q 1 t) (iblk m q 2 t) (iblk m q 3 t) (iblk m q 4 t) (iblk m q 5 t) (iblk m q 6 t) (iblk m q 7 t) (iblk m q 8 t) (iblk m q 9 t) ((hcond0_0 t).mpr h0) (fun h => h1 ((hcond0_1 t).mp h)))

theorem step_later (t : Fin cfg0.N) (b : Fin 4) (k k' : Fin 16) (ht : t.val = 16 * b.val + k.val) (hk : k.val = k'.val + 1) (acc : Vec Ideal S1x128x1024 .bf16 × Vec Ideal S1x16x64x128 .f32 × Vec Ideal S128x2048 .f32 × Vec Ideal S16x64x128 .f32)
    (H : After p3 cw cb dtb al dsk ng b k' acc) :
    After p3 cw cb dtb al dsk ng b k (stAt0 m q t.val t.isLt acc) := by
  have B := blocks A t b k ht
  have C : Carried p3 cw cb dtb al b k.val acc.2.2.1 acc.2.2.2 := by
    refine ⟨fun h => by omega, fun h hk' j c => ?_, fun h p n => ?_⟩
    · have e : (⟨k.val - 1, hk'⟩ : Fin 16) = k' := Fin.ext (by dsimp only; omega)
      rw [e]; exact H.prev j c
    · rw [hk]; exact H.st h p n
  have h0 : ¬ t.val % 16 = 0 := by omega
  by_cases h1 : t.val % 16 = 15
  · have e := stAt0_C m q t acc h0 h1
    exact After.of hfin hfin' B C (by rw [e]; dsimp only; exact t_out0_C_10 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) ((hcond0_1 t).mpr h1))
      (fun _ => by rw [e]; dsimp only; exact t_out0_C_11 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) ((hcond0_1 t).mpr h1))
      (by rw [e]; dsimp only; exact t_sout0_C_0 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) ((hcond0_1 t).mpr h1))
      (by rw [e]; dsimp only; exact t_sout0_C_1 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) ((hcond0_1 t).mpr h1))
  · have e := stAt0_B m q t acc h0 h1
    exact After.of hfin hfin' B C (by rw [e]; dsimp only; exact t_out0_B_10 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) (fun h => h1 ((hcond0_1 t).mp h)))
      (fun h => absurd h (by omega))
      (by rw [e]; dsimp only; exact t_sout0_B_0 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) (fun h => h1 ((hcond0_1 t).mp h)))
      (by rw [e]; dsimp only; exact t_sout0_B_1 q t (iblk m q 0 t) (iblk m q 1 t) (iblk m q 2 t) (iblk m q 3 t) (iblk m q 4 t) (iblk m q 5 t) (iblk m q 6 t) (iblk m q 7 t) (iblk m q 8 t) (iblk m q 9 t) acc.2.2.1 acc.2.2.2 (fun h => h0 ((hcond0_0 t).mp h)) (fun h => h1 ((hcond0_1 t).mp h)))

/-- Every point leaves what its chunk says. -/
theorem after_all (n : ℕ) : ∀ (hn : n < cfg0.N) (b : Fin 4) (k : Fin 16), n = 16 * b.val + k.val →
    After p3 cw cb dtb al dsk ng b k (outsAt0 m q n hn) := by
  induction n with
  | zero =>
    intro hn b k h
    rw [outsAt0_zero]
    exact step_first A hfin hfin' ⟨0, hn⟩ b k h (by omega) _
  | succ n ih =>
    intro hn b k h
    rw [outsAt0_succ]
    by_cases hk : k.val = 0
    · exact step_first A hfin hfin' ⟨n + 1, hn⟩ b k h hk _
    · exact step_later A hfin hfin' ⟨n + 1, hn⟩ b k ⟨k.val - 1, by omega⟩ h (by dsimp only; omega) _
        (ih _ b ⟨k.val - 1, by omega⟩ (by dsimp only; omega))

theorem ker_rows (b : Fin 4) (k : Fin 16) (i : Fin 128) (h : Fin 16) (p : Fin 64) :
    G10 m q (ix3 b (pos k i) (col h p)) = seqY p3 cw cb dtb al dsk ng b k i h p := by
  have hN : 16 * b.val + k.val < cfg0.N := lt_of_lt_of_eq (by omega) N_0.symm
  have hp : pt10Of (ix3 b (pos k i) (col h p)) = 16 * b.val + k.val := by
    show 16 * (b.val / 1 - 0) + 1 * ((128 * k.val + i.val) / 128 - 0) + 1 * ((64 * h.val + p.val) / 1024 - 0) = _
    omega
  have hl : loc10Of (ix3 b (pos k i) (col h p)) = ix3 (0 : Fin 1) i (col h p) := by
    funext a
    match a with
    | ⟨0, _⟩ => exact Fin.ext (Nat.mod_one _)
    | ⟨1, _⟩ => exact Fin.ext (by show (128 * k.val + i.val) % 128 = i.val; omega)
    | ⟨2, _⟩ => exact Fin.ext (by show (64 * h.val + p.val) % 1024 = 64 * h.val + p.val; omega)
  have key : ∀ (n : ℕ) (hn : n < cfg0.N), n = 16 * b.val + k.val → (outsAt0 m q n hn).1 (loc10Of (ix3 b (pos k i) (col h p))) = seqY p3 cw cb dtb al dsk ng b k i h p := by
    intro n hn e
    rw [hl]
    exact (after_all A hfin hfin' n hn b k e).y i h p
  unfold G10
  rw [dif_pos (by rw [hp]; exact hN)]
  refine Eq.trans ?_ (key (pt10Of (ix3 b (pos k i) (col h p))) (by rw [hp]; exact hN) hp)
  rw [outsAt0_sweep]

theorem ker_state (b : Fin 4) (h : Fin 16) (p : Fin 64) (n : Fin 128) :
    G11 m q (ix4 b h p n) = seqH p3 cw cb dtb al b 16 h p n := by
  have hN : 16 * b.val + 15 < cfg0.N := lt_of_lt_of_eq (by omega) N_0.symm
  have hp : pt11Of (ix4 b h p n) = 16 * b.val + 15 := by
    show 16 * (1 * (b.val / 1 - 0) + 1 * (h.val / 16 - 0) + 1 * (p.val / 64 - 0) + 1 * (n.val / 128 - 0)) + 15 = _
    omega
  have hl : loc11Of (ix4 b h p n) = ix4 (0 : Fin 1) h p n := by
    funext a
    match a with
    | ⟨0, _⟩ => exact Fin.ext (Nat.mod_one _)
    | ⟨1, _⟩ => exact Fin.ext (Nat.mod_eq_of_lt h.isLt)
    | ⟨2, _⟩ => exact Fin.ext (Nat.mod_eq_of_lt p.isLt)
    | ⟨3, _⟩ => exact Fin.ext (Nat.mod_eq_of_lt n.isLt)
  have key : ∀ (k : ℕ) (hn : k < cfg0.N), k = 16 * b.val + 15 → (outsAt0 m q k hn).2.1 (loc11Of (ix4 b h p n)) = seqH p3 cw cb dtb al b 16 h p n := by
    intro k hn e
    rw [hl]
    exact (after_all A hfin hfin' k hn b ⟨15, by omega⟩ e).hout rfl h p n
  unfold G11
  rw [dif_pos (by rw [hp]; exact hN)]
  refine Eq.trans ?_ (key (pt11Of (ix4 b h p n)) (by rw [hp]; exact hN) hp)
  rw [outsAt0_sweep]

end Cert.Proof.Ssd
-- ==== Proof.SsdPre.lean ====
/- What the precondition says: the step sizes' two summands are below infinity. -/
module

public import proofs.«01_k».proof.Pre_dt_below_inf
public import proofs.«01_k».proof.Proof.SsdSeq
public import Idealize.ShloMosaic.Lib.ReduceAll
public import Idealize.ShloMosaic.Lib.Claim
public import Idealize.ShloMosaic.Lib.KernelVsHost
public import Idealize.ShloMosaic.Lib.Pointwise.Select

@[expose] public section

set_option backward.proofsInPublic true
set_option maxRecDepth 16384

noncomputable section

open Idealize.ShloMosaic Idealize.ShloMosaic.TcCoe Idealize.SL.Sem

namespace Cert.Proof.Ssd

instance preFacts : Cert.Pre_dt_below_inf.Facts where
  slices_S4x2048x6144_S4x2048x16_0_0_5680 := by decide
  bcast_S_S4x2048x16 := by decide
  reducesTo_S4x2048x16_S_d0_1_2 := by decide
  h_S_ := by decide
  bcast_S_S1x16 := by decide
  reducesTo_S1x16_S_d0_1 := by decide

instance : Subsingleton Cert.Pre_dt_below_inf.S_.Idx := ⟨fun a b => funext fun i => i.elim0⟩

theorem ne_top_of_olt (x y : EReal) (h : FloatOps.cmpf (F := Ideal) (φ := FTy.f32) .olt x y = 1#1) : x ≠ ⊤ := by
  rw [Ideal.cmpf_def, Ideal.cmp_olt] at h
  by_cases hx : x < y
  · exact ne_top_of_lt hx
  · rw [decide_eq_false hx] at h
    exact absurd h (by decide)

theorem pre_fin (a0 : FVec Ideal Cert.Pre_dt_below_inf.S4x2048x6144 .f32) (a1 : FVec Ideal Cert.Pre_dt_below_inf.S1x4x2048 .f32) (a2 : FVec Ideal Cert.Pre_dt_below_inf.S1x2048 .f32) (a3 a4 a5 : FVec Ideal Cert.Pre_dt_below_inf.S1x16 .f32) (a6 : FVec Ideal Cert.Pre_dt_below_inf.S1x1024 .f32)
    (h : Cert.Pre_dt_below_inf.fn (F := Ideal) a0 a1 a2 a3 a4 a5 a6 = fun _ => 1#1) :
    (∀ (b : Fin 4) (t : Fin 2048) (h : Fin 16), a0 (ix3 b t (⟨5680 + h.val, by omega⟩ : Fin 6144)) ≠ (⊤ : EReal)) ∧ (∀ h : Fin 16, a3 (ix2 (0 : Fin 1) h) ≠ (⊤ : EReal)) := by
  have e := congrFun h (fun i => i.elim0)
  unfold Cert.Pre_dt_below_inf.fn at e
  have e2 := IntOp.andi_eq_one.1 e
  refine ⟨fun b t h => ?_, fun h => ?_⟩
  · have e3 := Host.reduce_andi_all _ _ _ _ _ e2.1 (ix3 b t h)
    have e4 := ne_top_of_olt _ _ e3
    have ei : (extractStridedSlice Cert.Pre_dt_below_inf.S4x2048x16 ![0, 0, 5680] a0 Cert.Pre_dt_below_inf.Facts.slices_S4x2048x6144_S4x2048x16_0_0_5680) (ix3 b t h) = a0 (ix3 b t (⟨5680 + h.val, by omega⟩ : Fin 6144)) := by
      refine congrArg a0 (funext fun a => ?_)
      match a with
      | ⟨0, _⟩ => exact Fin.ext (Nat.zero_add _)
      | ⟨1, _⟩ => exact Fin.ext (Nat.zero_add _)
      | ⟨2, _⟩ => exact Fin.ext rfl
    rw [← ei]
    exact e4
  · have e3 := Host.reduce_andi_all _ _ _ _ _ e2.2 (ix2 (0 : Fin 1) h)
    exact ne_top_of_olt _ _ e3

end Cert.Proof.Ssd
-- ==== Proof.SsdEq.lean ====
/- The kernel's results are the reference's. -/
module

public import proofs.«01_k».proof.Defs
public import proofs.«01_k».proof.Proof.SsdEntry
public import proofs.«01_k».proof.Proof.SsdGrid
public import proofs.«01_k».proof.Proof.SsdPre

@[expose] public section

set_option backward.proofsInPublic true
set_option maxRecDepth 16384
set_option maxHeartbeats 4000000

noncomputable section

open Idealize.ShloMosaic Idealize.ShloMosaic.TcCoe Idealize.SL.Sem

namespace Cert.Proof.Ssd

/-- Every place of the layer's output is a row of a chunk and a lane of a head. -/
theorem rows_ext {f g : Cert.SsdIdeal.S4x2048x1024.Idx → EReal}
    (h : ∀ (b : Fin 4) (k : Fin 16) (i : Fin 128) (hd : Fin 16) (p : Fin 64), f (ix3 b (pos k i) (col hd p)) = g (ix3 b (pos k i) (col hd p))) : f = g := by
  funext j
  have e : j = ix3 (j 0) (pos ⟨(j 1).val / 128, by have := (j 1).isLt; change (j 1).val < 2048 at this; omega⟩ ⟨(j 1).val % 128, Nat.mod_lt _ (by decide)⟩)
      (col ⟨(j 2).val / 64, by have := (j 2).isLt; change (j 2).val < 1024 at this; omega⟩ ⟨(j 2).val % 64, Nat.mod_lt _ (by decide)⟩) := by
    funext a
    match a with
    | ⟨0, _⟩ => rfl
    | ⟨1, _⟩ => exact Fin.ext (Nat.div_add_mod _ _).symm
    | ⟨2, _⟩ => exact Fin.ext (Nat.div_add_mod _ _).symm
  rw [e]
  exact h _ _ _ _ _

/-- Every place of the state is a head, a row and a column of its matrix. -/
theorem state_ext {f g : Cert.SsdIdeal.S4x16x64x128.Idx → EReal}
    (h : ∀ (b : Fin 4) (hd : Fin 16) (p : Fin 64) (n : Fin 128), f (ix4 b hd p n) = g (ix4 b hd p n)) : f = g := by
  funext j
  have e : j = ix4 (j 0) (j 1) (j 2) (j 3) := by
    funext a
    match a with
    | ⟨0, _⟩ => rfl
    | ⟨1, _⟩ => rfl
    | ⟨2, _⟩ => rfl
    | ⟨3, _⟩ => rfl
  rw [e]
  exact h _ _ _ _

section Eq

variable {m : (ℓ : Loc Cert.SsdIdeal.nD Cert.SsdIdeal.τ Cert.SsdIdeal.sig) → Buf (Elt Ideal) ℓ}
  {m' : (ℓ : Loc Cert.SsdRefIdeal.nD Cert.SsdRefIdeal.τ Cert.SsdRefIdeal.sig) → Buf (Elt Ideal) ℓ} {q : Dev Cert.SsdIdeal.nD}
  {p3 : Fin 4 → Fin 2048 → Fin 6144 → EReal} {cw : Fin 4 → Fin 2048 → EReal} {cb : Fin 2048 → EReal}
  {dtb al dsk : Fin 16 → EReal} {ng : Fin 1024 → EReal}

theorem eq_rows (A : KerArgs m q p3 cw cb dtb al dsk ng) (B : RefArgs m' q p3 cw cb dtb al dsk ng)
    (hfin : ∀ b t (h : Fin 16), p3 b t ⟨5680 + h.val, by omega⟩ ≠ ⊤) (hfin' : ∀ h, dtb h ≠ ⊤) :
    Cert.SsdRefIdeal.Value.out_main_v61 (Cert.SsdRefIdeal.Value.STEP^[16] (Ent m' q)) = Cert.SsdIdeal.Value.G10 m q :=
  rows_ext fun b k i h p => (ref_rows B b k i h p).trans (ker_rows A hfin hfin' b k i h p).symm

theorem eq_state (A : KerArgs m q p3 cw cb dtb al dsk ng) (B : RefArgs m' q p3 cw cb dtb al dsk ng)
    (hfin : ∀ b t (h : Fin 16), p3 b t ⟨5680 + h.val, by omega⟩ ≠ ⊤) (hfin' : ∀ h, dtb h ≠ ⊤) :
    Cert.SsdRefIdeal.Value.out_main_v62 (Cert.SsdRefIdeal.Value.STEP^[16] (Ent m' q)) = Cert.SsdIdeal.Value.G11 m q :=
  state_ext fun b h p n => (ref_state B b h p n).trans (ker_state A hfin hfin' b h p n).symm

end Eq

theorem algebraic : Cert.algebraic_SsdIdeal_SsdRefIdeal_pre_dt_below_inf (hSsdIdeal := Cert.SsdIdeal.Gen.facts) (hSsdRefIdeal := Cert.SsdRefIdeal.Gen.facts) (hPre_dt_below_inf := preFacts) := by
  intro m ρ m' ρ' hpre hag
  have hA : ∀ c, KerArgs m c (fun b t j => m ((c.tc : Thread Cert.SsdIdeal.nD Cert.SsdIdeal.τ).loc Cert.SsdIdeal.main_arg0) (ix3 b t j))
      (fun k j => m ((c.tc : Thread Cert.SsdIdeal.nD Cert.SsdIdeal.τ).loc Cert.SsdIdeal.main_arg1) (ix3 (0 : Fin 1) k j))
      (fun j => m ((c.tc : Thread Cert.SsdIdeal.nD Cert.SsdIdeal.τ).loc Cert.SsdIdeal.main_arg2) (ix2 (0 : Fin 1) j))
      (fun j => m ((c.tc : Thread Cert.SsdIdeal.nD Cert.SsdIdeal.τ).loc Cert.SsdIdeal.main_arg3) (ix2 (0 : Fin 1) j))
      (fun j => m ((c.tc : Thread Cert.SsdIdeal.nD Cert.SsdIdeal.τ).loc Cert.SsdIdeal.main_arg4) (ix2 (0 : Fin 1) j))
      (fun j => m ((c.tc : Thread Cert.SsdIdeal.nD Cert.SsdIdeal.τ).loc Cert.SsdIdeal.main_arg5) (ix2 (0 : Fin 1) j))
      (fun j => m ((c.tc : Thread Cert.SsdIdeal.nD Cert.SsdIdeal.τ).loc Cert.SsdIdeal.main_arg6) (ix2 (0 : Fin 1) j)) := fun c =>
    ⟨fun _ _ _ => rfl, fun _ _ => rfl, fun _ => rfl, fun _ => rfl, fun _ => rfl, fun _ => rfl, fun _ => rfl⟩
  have hB : ∀ c, RefArgs m' c (fun b t j => m ((c.tc : Thread Cert.SsdIdeal.nD Cert.SsdIdeal.τ).loc Cert.SsdIdeal.main_arg0) (ix3 b t j))
      (fun k j => m ((c.tc : Thread Cert.SsdIdeal.nD Cert.SsdIdeal.τ).loc Cert.SsdIdeal.main_arg1) (ix3 (0 : Fin 1) k j))
      (fun j => m ((c.tc : Thread Cert.SsdIdeal.nD Cert.SsdIdeal.τ).loc Cert.SsdIdeal.main_arg2) (ix2 (0 : Fin 1) j))
      (fun j => m ((c.tc : Thread Cert.SsdIdeal.nD Cert.SsdIdeal.τ).loc Cert.SsdIdeal.main_arg3) (ix2 (0 : Fin 1) j))
      (fun j => m ((c.tc : Thread Cert.SsdIdeal.nD Cert.SsdIdeal.τ).loc Cert.SsdIdeal.main_arg4) (ix2 (0 : Fin 1) j))
      (fun j => m ((c.tc : Thread Cert.SsdIdeal.nD Cert.SsdIdeal.τ).loc Cert.SsdIdeal.main_arg5) (ix2 (0 : Fin 1) j))
      (fun j => m ((c.tc : Thread Cert.SsdIdeal.nD Cert.SsdIdeal.τ).loc Cert.SsdIdeal.main_arg6) (ix2 (0 : Fin 1) j)) := fun c => by
    obtain ⟨g0, g1, g2, g3, g4, g5, g6⟩ := hag c
    exact ⟨fun _ _ _ => congrFun g0 _, fun _ _ => congrFun g1 _, fun _ => congrFun g2 _, fun _ => congrFun g3 _, fun _ => congrFun g4 _, fun _ => congrFun g5 _, fun _ => congrFun g6 _⟩
  have hF := fun c => pre_fin _ _ _ _ _ _ _ (hpre c)
  have e0 := fun c => eq_rows (hA c) (hB c) (hF c).1 (hF c).2
  have e1 := fun c => eq_state (hA c) (hB c) (hF c).1 (hF c).2
  refine ⟨fun c => Cert.SsdIdeal.Value.G10 m c, fun c => Cert.SsdIdeal.Value.G11 m c, Cert.SsdIdeal.Value.run m ρ,
    (θ_run _ _ _).mono (fun r h c => ⟨(h c).1.trans (e0 c), (h c).2.1.trans (e1 c), (h c).2.2⟩) (Cert.SsdRefIdeal.Value.run m' ρ')⟩

end Cert.Proof.Ssd
-- ==== Proof.Rms.lean ====
/- A row over the root of its mean square, times a gain: the layer's normalisation of 2048 columns. -/
module

public import Idealize.ShloMosaic.Lib.Pipeline.ValueKit

@[expose] public section

noncomputable section

open Idealize.ShloMosaic

namespace Cert.Proof

/-- Column `c` of the row `x`, normalised: the words are 2048 and 1e-6. -/
def rms (x g : Fin 2048 → EReal) (c : Fin 2048) : EReal :=
  x c * Ideal.rsqrt (Ideal.div (∑ k : Fin 2048, x k * x k) (Ideal.ofBits .f32 0x45000000#32) + Ideal.ofBits .f32 0x358637BD#32) * g c

/-- Every index of a matrix is a row and a column. -/
theorem ix2_ext {a b : ℕ} {α : Type} {f g : Shape.Idx ⟨2, ![a, b]⟩ → α} (h : ∀ (i : Fin a) (j : Fin b), f (ix2 i j) = g (ix2 i j)) : f = g := by
  funext y
  have e : y = ix2 (y 0) (y 1) := by
    funext x
    match x with
    | ⟨0, _⟩ => rfl
    | ⟨1, _⟩ => rfl
  rw [e]
  exact h _ _

end Cert.Proof

end
-- ==== Proof.ProjKer.lean ====
/- The projection kernel: what every grid point leaves. -/
module

public import proofs.«01_k».proof.Proof.Rms
public import proofs.«01_k».proof.Proof.Gen.ProjIdeal.Value
public import Idealize.ShloMosaic.Lib.Pipeline.ReadBack

@[expose] public section

set_option backward.proofsInPublic true
set_option maxRecDepth 16384
set_option maxHeartbeats 4000000

noncomputable section

open Idealize.ShloMosaic Idealize.ShloMosaic.TcCoe Idealize.SL.Sem Cert.ProjIdeal Cert.ProjIdeal.Gen Cert.ProjIdeal.Value

namespace Cert.Proof.Proj

/-- The normalised block, read at an index. -/
theorem xn_at (x : Vec Ideal S1024x2048 .f32) (g : Vec Ideal S1x2048 .f32) (r : Fin 1024) (c : Fin 2048) :
    k0_pay1 (F := Ideal) x g (ix2 r c) = rms (fun k => x (ix2 r k)) (fun k => g (ix2 0 k)) c := by
  pointwise [k0_pay1]
  rfl

/-- The product with a column block, read at an index. -/
theorem dot_at (x : Vec Ideal S1024x2048 .bf16) (w : Vec Ideal S2048x512 .bf16) (r : Fin 1024) (c : Fin 512) :
    k0_pay2 (F := Ideal) x w (ix2 r c) = ∑ k : Fin 2048, x (ix2 r k) * w (ix2 k c) := by
  pointwise [k0_pay2]

theorem t_out0_A_3 (c : Dev nD) (t : Fin cfg0.N) (x0 : Vec Ideal S1024x2048 .f32) (x1 : Vec Ideal S1x2048 .f32) (x2 : Vec Ideal S2048x512 .bf16) (h0) :
    out0_A_3 c (grid0.coords t) (ms0_0 t) (hs0_0 t) (ms0_1 t) (hs0_1 t) (ms0_2 t) (hs0_2 t) (ms0_3 t) (hs0_3 t) scM0_0 (Memref.isWhole_whole _) h0 x0 x1 x2 = k0_pay2 (k0_pay1 x0 x1) x2 := by
  frame_open
  try simp (disch := decide) only [↓ View.readCov_skip, ↓ View.readCov_cons_toLoadRect, ↓ View.readCov_fill]
  frame_out

theorem t_sout0_A_0 (c : Dev nD) (t : Fin cfg0.N) (x0 : Vec Ideal S1024x2048 .f32) (x1 : Vec Ideal S1x2048 .f32) (x2 : Vec Ideal S2048x512 .bf16) (h0) :
    sout0_A_0 c (grid0.coords t) (ms0_0 t) (hs0_0 t) (ms0_1 t) (hs0_1 t) (ms0_2 t) (hs0_2 t) (ms0_3 t) (hs0_3 t) scM0_0 (Memref.isWhole_whole _) h0 x0 x1 x2 = k0_pay1 x0 x1 := by
  frame_open
  frame_out

theorem t_out0_B_3 (c : Dev nD) (t : Fin cfg0.N) (x0 : Vec Ideal S1024x2048 .f32) (x1 : Vec Ideal S1x2048 .f32) (x2 : Vec Ideal S2048x512 .bf16) (xs0 : Vec Ideal S1024x2048 .bf16) (h0) :
    out0_B_3 c (grid0.coords t) (ms0_0 t) (hs0_0 t) (ms0_1 t) (hs0_1 t) (ms0_2 t) (hs0_2 t) (ms0_3 t) (hs0_3 t) scM0_0 (Memref.isWhole_whole _) h0 x0 x1 x2 xs0 = k0_pay2 xs0 x2 := by
  frame_open
  try simp (disch := decide) only [↓ View.readCov_skip, ↓ View.readCov_cons_toLoadRect, ↓ View.readCov_fill]
  frame_out
  simp only [read_unread_whole]

theorem idx_w : ∀ t : Fin cfg0.N, (win0_0.index t 0 = t.val / 12 ∧ win0_0.index t 1 = 0)
    ∧ (win0_1.index t 0 = 0 ∧ win0_1.index t 1 = 0) ∧ (win0_2.index t 0 = 0 ∧ win0_2.index t 1 = t.val % 12) :=
  (by decide +kernel : ∀ t : Fin grid0.N, _)

/-- The kernel's arguments on a device. -/
structure Args (m : (ℓ : Loc nD τ sig) → Buf (Elt Ideal) ℓ) (q : Dev nD) (x : Fin 8192 → Fin 2048 → EReal) (g : Fin 2048 → EReal) (w : Fin 2048 → Fin 6144 → EReal) : Prop where
  x : ∀ i k, m ((q.tc : Thread nD τ).loc main_arg0) (ix2 i k) = x i k
  g : ∀ k, m ((q.tc : Thread nD τ).loc main_arg1) (ix2 (0 : Fin 1) k) = g k
  w : ∀ k j, m ((q.tc : Thread nD τ).loc main_arg2) (ix2 k j) = w k j

/-- Row `r` of row block `b`. -/
def row (b : Fin 8) (r : Fin 1024) : Fin 8192 := ⟨1024 * b.val + r.val, by omega⟩
/-- Column `c` of column block `j`. -/
def colm (j : Fin 12) (c : Fin 512) : Fin 6144 := ⟨512 * j.val + c.val, by omega⟩

variable {m : (ℓ : Loc nD τ sig) → Buf (Elt Ideal) ℓ} {q : Dev nD} {x : Fin 8192 → Fin 2048 → EReal} {g : Fin 2048 → EReal} {w : Fin 2048 → Fin 6144 → EReal}
  (A : Args m q x g w)
include A

theorem blk_x (t : Fin cfg0.N) (b : Fin 8) (j : Fin 12) (ht : t.val = 12 * b.val + j.val) (r : Fin 1024) (k : Fin 2048) :
    iblk m q 0 t (ix2 r k) = x (row b r) k := by
  rw [← A.x]
  blk_ext [iblk, V, idx_w t]
  all_goals (simp only [row]; omega)

theorem blk_g (t : Fin cfg0.N) (k : Fin 2048) : iblk m q 1 t (ix2 (0 : Fin 1) k) = g k := by
  rw [← A.g]
  blk_ext [iblk, V, idx_w t]

theorem blk_w (t : Fin cfg0.N) (b : Fin 8) (j : Fin 12) (ht : t.val = 12 * b.val + j.val) (k : Fin 2048) (c : Fin 512) :
    iblk m q 2 t (ix2 k c) = w k (colm j c) := by
  rw [← A.w]
  blk_ext [iblk, V, idx_w t]
  all_goals (simp only [colm]; omega)

omit A in
/-- What a grid point leaves: its block of the product, and the normalised rows. -/
structure After (x : Fin 8192 → Fin 2048 → EReal) (g : Fin 2048 → EReal) (w : Fin 2048 → Fin 6144 → EReal) (b : Fin 8) (j : Fin 12)
    (s : Vec Ideal S1024x512 .f32 × Vec Ideal S1024x2048 .bf16) : Prop where
  out : ∀ r c, s.1 (ix2 r c) = ∑ k : Fin 2048, rms (x (row b r)) g k * w k (colm j c)
  xn : ∀ r k, s.2 (ix2 r k) = rms (x (row b r)) g k

theorem step_first (t : Fin cfg0.N) (b : Fin 8) (j : Fin 12) (ht : t.val = 12 * b.val + j.val) (hj : j.val = 0) (acc : Vec Ideal S1024x512 .f32 × Vec Ideal S1024x2048 .bf16) :
    After x g w b j (stAt0 m q t.val t.isLt acc) := by
  have h0 : t.val % 12 = 0 := by omega
  have e := stAt0_A m q t acc h0
  have e1 : (stAt0 m q t.val t.isLt acc).1 = k0_pay2 (k0_pay1 (iblk m q 0 t) (iblk m q 1 t)) (iblk m q 2 t) := by
    rw [e]; dsimp only; exact t_out0_A_3 q t (iblk m q 0 t) (iblk m q 1 t) (iblk m q 2 t) ((hcond0_0 t).mpr h0)
  have e2 : (stAt0 m q t.val t.isLt acc).2 = k0_pay1 (iblk m q 0 t) (iblk m q 1 t) := by
    rw [e]; dsimp only; exact t_sout0_A_0 q t (iblk m q 0 t) (iblk m q 1 t) (iblk m q 2 t) ((hcond0_0 t).mpr h0)
  have hn : ∀ r k, k0_pay1 (F := Ideal) (iblk m q 0 t) (iblk m q 1 t) (ix2 r k) = rms (x (row b r)) g k := fun r k => by
    rw [xn_at]
    congr 1
    · funext k; exact blk_x A t b j ht r k
    · funext k; exact blk_g A t k
  refine ⟨fun r c => ?_, fun r k => ?_⟩
  · rw [e1, dot_at]
    exact Finset.sum_congr rfl fun k _ => congrArg₂ (· * ·) (hn r k) (blk_w A t b j ht k c)
  · rw [e2, hn]

theorem step_later (t : Fin cfg0.N) (b : Fin 8) (j j' : Fin 12) (ht : t.val = 12 * b.val + j.val) (hj : j.val = j'.val + 1) (acc : Vec Ideal S1024x512 .f32 × Vec Ideal S1024x2048 .bf16)
    (H : After x g w b j' acc) : After x g w b j (stAt0 m q t.val t.isLt acc) := by
  have h0 : ¬ t.val % 12 = 0 := by omega
  have e := stAt0_B m q t acc h0
  have e1 : (stAt0 m q t.val t.isLt acc).1 = k0_pay2 acc.2 (iblk m q 2 t) := by
    rw [e]; dsimp only; exact t_out0_B_3 q t (iblk m q 0 t) (iblk m q 1 t) (iblk m q 2 t) acc.2 (fun h => h0 ((hcond0_0 t).mp h))
  have e2 : (stAt0 m q t.val t.isLt acc).2 = acc.2 := by
    rw [e]; rfl
  refine ⟨fun r c => ?_, fun r k => ?_⟩
  · rw [e1, dot_at]
    exact Finset.sum_congr rfl fun k _ => congrArg₂ (· * ·) (H.xn r k) (blk_w A t b j ht k c)
  · rw [e2, H.xn]

/-- Every point leaves its block. -/
theorem after_all (n : ℕ) : ∀ (hn : n < cfg0.N) (b : Fin 8) (j : Fin 12), n = 12 * b.val + j.val → After x g w b j (outsAt0 m q n hn) := by
  induction n with
  | zero =>
    intro hn b j h
    rw [outsAt0_zero]
    exact step_first A ⟨0, hn⟩ b j h (by omega) _
  | succ n ih =>
    intro hn b j h
    rw [outsAt0_succ]
    by_cases hj : j.val = 0
    · exact step_first A ⟨n + 1, hn⟩ b j h hj _
    · exact step_later A ⟨n + 1, hn⟩ b j ⟨j.val - 1, by omega⟩ h (by dsimp only; omega) _ (ih _ b ⟨j.val - 1, by omega⟩ (by dsimp only; omega))

/-- The array at the end. -/
theorem ker_at (i : Fin 8192) (j : Fin 6144) : G3 m q (ix2 i j) = ∑ k : Fin 2048, rms (x i) g k * w k j := by
  have hb : i.val / 1024 < 8 := by omega
  have hj : j.val / 512 < 12 := by omega
  have hN : 12 * (i.val / 1024) + j.val / 512 < cfg0.N := lt_of_lt_of_eq (by omega) N_0.symm
  have H := (after_all A _ hN ⟨i.val / 1024, hb⟩ ⟨j.val / 512, hj⟩ rfl).out ⟨i.val % 1024, Nat.mod_lt _ (by decide)⟩ ⟨j.val % 512, Nat.mod_lt _ (by decide)⟩
  have er : row ⟨i.val / 1024, hb⟩ ⟨i.val % 1024, Nat.mod_lt _ (by decide)⟩ = i := Fin.ext (Nat.div_add_mod _ _)
  have ec : colm ⟨j.val / 512, hj⟩ ⟨j.val % 512, Nat.mod_lt _ (by decide)⟩ = j := Fin.ext (Nat.div_add_mod _ _)
  rw [er, ec, outsAt0_sweep] at H
  have ep : pt3Of (ix2 i j) = 12 * (i.val / 1024) + j.val / 512 := by
    show 12 * (i.val / 1024 - 0) + 1 * (j.val / 512 - 0) = _
    omega
  have hp : pt3Of (ix2 i j) < cfg0.N := by rw [ep]; exact hN
  unfold G3
  rw [dif_pos hp, fold0_congr m q _ _ _ (by omega) ep]
  refine Eq.trans (congrArg _ ?_) H
  funext a
  match a with
  | ⟨0, _⟩ => rfl
  | ⟨1, _⟩ => rfl

end Cert.Proof.Proj

end
-- ==== Proof.ProjEq.lean ====
/- The projection kernel's result is the reference's. -/
module

public import proofs.«01_k».proof.Defs
public import proofs.«01_k».proof.Proof.ProjKer
public import proofs.«01_k».proof.Proof.Gen.ProjRefIdeal.Run

@[expose] public section

set_option maxRecDepth 16384
set_option maxHeartbeats 4000000

noncomputable section

open Idealize.ShloMosaic Idealize.ShloMosaic.TcCoe Idealize.SL.Sem

namespace Cert.Proof.Proj

section Ref

open Cert.ProjRefIdeal Cert.ProjRefIdeal.Gen

/-- The reference's result, read at an index. -/
theorem ref_at (x : FVec Ideal S8192x2048 .f32) (g : FVec Ideal S1x2048 .f32) (w : FVec Ideal S2048x6144 .bf16) (i : Fin 8192) (j : Fin 6144) :
    (Host.dotGeneral dot_S8192x2048_S2048x6144_S8192x6144_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) (extf .f32 w bitsLt_bf16_f32) : FVec Ideal S8192x6144 .f32) (ix2 i j)
      = ∑ k : Fin 2048, rms (fun k => x (ix2 i k)) (fun k => g (ix2 0 k)) k * w (ix2 k j) := by
  pointwise []
  rfl

end Ref

theorem algebraic : Cert.algebraic_ProjIdeal_ProjRefIdeal (hProjIdeal := Cert.ProjIdeal.Gen.facts) (hProjRefIdeal := Cert.ProjRefIdeal.Gen.facts) := by
  intro m ρ m' ρ' _ hag
  have e0 : ∀ c, _ = Cert.ProjIdeal.Value.G3 m c := fun c =>
    ix2_ext fun i j => (ref_at (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2)) i j).trans
        (ker_at (m := m) (q := c) ⟨fun _ _ => (congrFun (hag c).1 _).symm, fun _ => (congrFun (hag c).2.1 _).symm, fun _ _ => (congrFun (hag c).2.2 _).symm⟩ i j).symm
  exact ⟨fun c => Cert.ProjIdeal.Value.G3 m c, Cert.ProjIdeal.Value.run m ρ,
    (θ_run _ _ _).mono (fun r h c => ⟨(h c).1.trans (e0 c), (h c).2⟩) (Cert.ProjRefIdeal.Value.run m' ρ')⟩

end Cert.Proof.Proj

end
-- ==== Proof.UpMath.lean ====
/- The first products of the feed-forward part: the mathematics that the kernel and the reference share. -/
module

public import proofs.«01_k».proof.Proof.Rms

@[expose] public section

noncomputable section

open Idealize.ShloMosaic

namespace Cert.Proof.Up

/-- The product of the rows with a matrix of weights. -/
def prod (h : Fin 8192 → Fin 2048 → EReal) (w : Fin 2048 → Fin 5632 → EReal) (i : Fin 8192) (j : Fin 5632) : EReal :=
  ∑ k : Fin 2048, h i k * w k j

/-- The value `l` positions back in the sequence of 2048 rows that row `i` lies in, zero before its begin. -/
def back (g : Fin 8192 → Fin 5632 → EReal) (l : ℕ) (i : Fin 8192) (j : Fin 5632) : EReal :=
  if l ≤ i.val % 2048 then g ⟨i.val - l, by omega⟩ j else 0

/-- The causal convolution over three positions. -/
def conv (g : Fin 8192 → Fin 5632 → EReal) (dw : Fin 8 → Fin 5632 → EReal) (db : Fin 5632 → EReal) (i : Fin 8192) (j : Fin 5632) : EReal :=
  db j + dw 2 j * g i j + dw 1 j * back g 1 i j + dw 0 j * back g 2 i j

/-- The gate `x · (1 + tanh …) / 2`: the words are 0.5, 0.7978846 and 0.044715. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The activations: the gate over the convolved product with `wg`, times the product with `wu`. -/
def act (h : Fin 8192 → Fin 2048 → EReal) (wg wu : Fin 2048 → Fin 5632 → EReal) (dw : Fin 8 → Fin 5632 → EReal) (db : Fin 5632 → EReal)
    (i : Fin 8192) (j : Fin 5632) : EReal :=
  gelu (conv (prod h wg) dw db i j) * prod h wu i j

end Cert.Proof.Up

end
-- ==== Proof.UpBody.lean ====
/- The kernel of the feed-forward part's first products: its payloads, read at an index. -/
module

public import proofs.«01_k».proof.Proof.UpMath
public import proofs.«01_k».proof.Proof.Gen.FfnUpIdeal.Skeleton

@[expose] public section

set_option backward.proofsInPublic true
set_option maxRecDepth 16384
set_option maxHeartbeats 4000000

noncomputable section

open Idealize.ShloMosaic Cert.FfnUpIdeal Cert.FfnUpIdeal.Gen

namespace Cert.Proof.Up

theorem gate_at (x : Vec Ideal S1024x2048 .bf16) (w : Vec Ideal S2048x512 .bf16) (r : Fin 1024) (c : Fin 512) :
    k0_pay2 (F := Ideal) x w (ix2 r c) = ∑ k : Fin 2048, x (ix2 r k) * w (ix2 k c) := by
  pointwise [k0_pay2]

theorem up_at (x : Vec Ideal S1024x2048 .bf16) (w : Vec Ideal S2048x512 .bf16) (r : Fin 1024) (c : Fin 512) :
    k0_pay3 (F := Ideal) x w (ix2 r c) = ∑ k : Fin 2048, x (ix2 r k) * w (ix2 k c) := by
  pointwise [k0_pay3]

theorem zero_at (r : Fin 1024) (c : Fin 512) : k0_pay4 (F := Ideal) (ix2 r c) = 0 := by
  pointwise [k0_pay4]

theorem keep_at (g : FVec Ideal S1024x512 .f32) (r : Fin 1024) (c : Fin 512) : k0_pay9 (F := Ideal) g (ix2 r c) = g (ix2 r c) := by
  pointwise [k0_pay9]

theorem tail_at (g : FVec Ideal S1024x512 .f32) (a : Fin 1) (r : Fin 8) (c : Fin 512) :
    k0_pay1 (F := Ideal) (k0_pay10 (F := Ideal) g) (ix3 a r c) = g (ix2 ⟨1016 + r.val, by omega⟩ c) := by
  pointwise [k0_pay1, k0_pay10]

theorem pos_word (i : Fin 1024) : k0_pay5 (ix2 i 0) = BitVec.ofNat 32 i.val := by
  pointwise [k0_pay5]
  revert i; decide +kernel

theorem ge1_word : ∀ i : Fin 1024, IntOp.cmpi .sge (BitVec.ofNat 32 i.val) 1#32 = BitVec.ofBool (decide (1 ≤ i.val)) := by
  decide +kernel
theorem ge2_word : ∀ i : Fin 1024, IntOp.cmpi .sge (BitVec.ofNat 32 i.val) 2#32 = BitVec.ofBool (decide (2 ≤ i.val)) := by
  decide +kernel

/-- Row `r`'s value `l` rows back: in the block, or in the block before. -/
def lag (g p : Fin 1024 → Fin 512 → EReal) (l : ℕ) (r : Fin 1024) (c : Fin 512) : EReal :=
  if l ≤ r.val then g ⟨r.val - l, by omega⟩ c else p ⟨(r.val + 1024 - l) % 1024, by omega⟩ c

theorem lag_at (g p : FVec Ideal S1024x512 .f32) (l : ℕ) (hl : l ≤ 1024) (r : Fin 1024) (c : Fin 512) {b : BitVec 1} (hb : b = BitVec.ofBool (decide (l ≤ r.val))) :
    Scalar.select b (g (ix2 ⟨(r.val + 1024 - l) % 1024, by omega⟩ c)) (p (ix2 ⟨(r.val + 1024 - l) % 1024, by omega⟩ c))
      = lag (fun r c => g (ix2 r c)) (fun r c => p (ix2 r c)) l r c := by
  subst hb
  by_cases h : l ≤ r.val
  · have e : (⟨(r.val + 1024 - l) % 1024, by omega⟩ : Fin 1024) = ⟨r.val - l, by omega⟩ := Fin.ext (by simp only; omega)
    simp [h, Scalar.select, lag, e]
  · simp [h, Scalar.select, lag]

theorem bias_at (x : Vec Ideal S1024x2048 .bf16) (w : Vec Ideal S2048x512 .bf16) (b t : Vec Ideal S1x512 .f32) (r : Fin 1024) (c : Fin 512) :
    k0_pay6 (F := Ideal) x w b t (ix2 r c) = b (ix2 0 c) + t (ix2 0 c) * k0_pay2 (F := Ideal) x w (ix2 r c) := by
  pointwise [k0_pay6]

theorem act_at (g u : FVec Ideal S1024x512 .f32) (p : Vec Ideal S1024x512 .f32) (a : FVec Ideal S1024x512 .f32) (w1 w0 : Vec Ideal S1x512 .f32) (r : Fin 1024) (c : Fin 512) :
    k0_pay8 (F := Ideal) g u p k0_pay5 a k0_pay7 w1 w0 (ix2 r c)
      = gelu (a (ix2 r c) + w1 (ix2 0 c) * lag (fun r c => g (ix2 r c)) (fun r c => p (ix2 r c)) 1 r c
          + w0 (ix2 0 c) * lag (fun r c => g (ix2 r c)) (fun r c => p (ix2 r c)) 2 r c) * u (ix2 r c) := by
  have e1 := lag_at g p 1 (by omega) r c (b := IntOp.cmpi .sge (k0_pay5 (ix2 r 0)) 1#32) (by rw [pos_word]; exact ge1_word r)
  have e2 := lag_at g p 2 (by omega) r c (b := IntOp.cmpi .sge (k0_pay5 (ix2 r 0)) 2#32) (by rw [pos_word]; exact ge2_word r)
  pointwise [k0_pay8, k0_pay7]
  rw [e1, e2]
  rfl

end Cert.Proof.Up

end
-- ==== Proof.UpKer.lean ====
/- The kernel of the feed-forward part's first products: what every grid point leaves, and the arrays at the end. -/
module

public import proofs.«01_k».proof.Proof.UpBody
public import proofs.«01_k».proof.Proof.Gen.FfnUpIdeal.Value
public import Idealize.ShloMosaic.Lib.Pipeline.ReadBack

@[expose] public section

set_option backward.proofsInPublic true
set_option maxRecDepth 16384
set_option maxHeartbeats 4000000

noncomputable section

open Idealize.ShloMosaic Idealize.ShloMosaic.TcCoe Idealize.SL.Sem Cert.FfnUpIdeal Cert.FfnUpIdeal.Gen Cert.FfnUpIdeal.Value

namespace Cert.Proof.Up

/-- Row 0 of the taps. -/
def tap0 (x : Vec Ideal S8x512 .f32) : Vec Ideal S1x512 .f32 := View.ld x (Rect.unit ![0, 0] ![1, 512] inb_S8x512_S1x512_0_0)
theorem tap0_at (x : Vec Ideal S8x512 .f32) (c : Fin 512) : tap0 x (ix2 0 c) = x (ix2 0 c) := by
  unfold tap0
  exact View.ld_unit_apply_of _ _ _ _ _ _ (by intro a; fin_cases a <;> simp)
/-- Row 1 of the taps. -/
def tap1 (x : Vec Ideal S8x512 .f32) : Vec Ideal S1x512 .f32 := View.ld x (Rect.unit ![1, 0] ![1, 512] inb_S8x512_S1x512_1_0)
theorem tap1_at (x : Vec Ideal S8x512 .f32) (c : Fin 512) : tap1 x (ix2 0 c) = x (ix2 1 c) := by
  unfold tap1
  exact View.ld_unit_apply_of _ _ _ _ _ _ (by intro a; fin_cases a <;> simp)
/-- Row 2 of the taps. -/
def tap2 (x : Vec Ideal S8x512 .f32) : Vec Ideal S1x512 .f32 := View.ld x (Rect.unit ![2, 0] ![1, 512] inb_S8x512_S1x512_2_0)
theorem tap2_at (x : Vec Ideal S8x512 .f32) (c : Fin 512) : tap2 x (ix2 0 c) = x (ix2 2 c) := by
  unfold tap2
  exact View.ld_unit_apply_of _ _ _ _ _ _ (by intro a; fin_cases a <;> simp)

/-- The block of activations that a point stores, over the block before. -/
def kAct (x0 : Vec Ideal S1024x2048 .bf16) (x1 x2 : Vec Ideal S2048x512 .bf16) (x3 : Vec Ideal S8x512 .f32) (x4 : Vec Ideal S1x512 .f32) (p : Vec Ideal S1024x512 .f32) : Vec Ideal S1024x512 .bf16 :=
  k0_pay8 (k0_pay2 x0 x1) (k0_pay3 x0 x2) p k0_pay5 (k0_pay6 x0 x1 x4 (tap2 x3)) k0_pay7 (tap1 x3) (tap0 x3)

theorem t_out0_A_5 (c : Dev nD) (t : Fin cfg0.N) (x0 : Vec Ideal S1024x2048 .bf16) (x1 x2 : Vec Ideal S2048x512 .bf16) (x3 : Vec Ideal S8x512 .f32) (x4 : Vec Ideal S1x512 .f32) (h0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 = kAct x0 x1 x2 x3 x4 (k0_pay4 (F := Ideal)) := by
  frame_open
  try simp (disch := decide) only [↓ View.readCov_skip, ↓ View.readCov_cons_toLoadRect, ↓ View.readCov_fill]
  frame_out
  try simp only [read_unread_whole]
  try rfl

theorem t_out0_B_5 (c : Dev nD) (t : Fin cfg0.N) (x0 : Vec Ideal S1024x2048 .bf16) (x1 x2 : Vec Ideal S2048x512 .bf16) (x3 : Vec Ideal S8x512 .f32) (x4 : Vec Ideal S1x512 .f32) (xs0 : Vec Ideal S1024x512 .f32) (h0) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 xs0 = kAct x0 x1 x2 x3 x4 xs0 := by
  frame_open
  try simp (disch := decide) only [↓ View.readCov_skip, ↓ View.readCov_cons_toLoadRect, ↓ View.readCov_fill]
  frame_out
  try simp only [read_unread_whole]
  try rfl

theorem t_out0_B_6 (c : Dev nD) (t : Fin cfg0.N) (x0 : Vec Ideal S1024x2048 .bf16) (x1 x2 : Vec Ideal S2048x512 .bf16) (x3 : Vec Ideal S8x512 .f32) (x4 : Vec Ideal S1x512 .f32) (xs0 : Vec Ideal S1024x512 .f32) (h0) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 xs0 = k0_pay1 (k0_pay10 (k0_pay2 x0 x1)) := by
  frame_open
  try simp (disch := decide) only [↓ View.readCov_skip, ↓ View.readCov_cons_toLoadRect, ↓ View.readCov_fill]
  frame_out
  try simp only [read_unread_whole]
  try rfl

theorem t_sout0_A_0 (c : Dev nD) (t : Fin cfg0.N) (x0 : Vec Ideal S1024x2048 .bf16) (x1 x2 : Vec Ideal S2048x512 .bf16) (x3 : Vec Ideal S8x512 .f32) (x4 : Vec Ideal S1x512 .f32) (h0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 x0 x1 x2 x3 x4 = k0_pay9 (k0_pay2 x0 x1) := by
  frame_open
  try simp (disch := decide) only [↓ View.readCov_skip, ↓ View.readCov_cons_toLoadRect, ↓ View.readCov_fill]
  frame_out
  try simp only [read_unread_whole]
  try rfl

theorem idx_w : ∀ t : Fin cfg0.N, (win0_0.index t 0 = 2 * (t.val / 22) + t.val % 2 ∧ win0_0.index t 1 = 0)
    ∧ (win0_1.index t 0 = 0 ∧ win0_1.index t 1 = t.val % 22 / 2) ∧ (win0_2.index t 0 = 0 ∧ win0_2.index t 1 = t.val % 22 / 2)
    ∧ (win0_3.index t 0 = 0 ∧ win0_3.index t 1 = t.val % 22 / 2) ∧ (win0_4.index t 0 = 0 ∧ win0_4.index t 1 = t.val % 22 / 2)
    ∧ (win0_5.index t 0 = 2 * (t.val / 22) + t.val % 2 ∧ win0_5.index t 1 = t.val % 22 / 2)
    ∧ (win0_6.index t 0 = t.val / 22 ∧ win0_6.index t 1 = 0 ∧ win0_6.index t 2 = t.val % 22 / 2) :=
  (by decide +kernel : ∀ t : Fin grid0.N, _)

/-- The kernel's arguments on a device. -/
structure Args (m : (ℓ : Loc nD τ sig) → Buf (Elt Ideal) ℓ) (q : Dev nD) (h : Fin 8192 → Fin 2048 → EReal) (wg wu : Fin 2048 → Fin 5632 → EReal)
    (dw : Fin 8 → Fin 5632 → EReal) (db : Fin 5632 → EReal) : Prop where
  h : ∀ i k, m ((q.tc : Thread nD τ).loc main_arg0) (ix2 i k) = h i k
  wg : ∀ k j, m ((q.tc : Thread nD τ).loc main_arg1) (ix2 k j) = wg k j
  wu : ∀ k j, m ((q.tc : Thread nD τ).loc main_arg2) (ix2 k j) = wu k j
  dw : ∀ k j, m ((q.tc : Thread nD τ).loc main_arg3) (ix2 k j) = dw k j
  db : ∀ j, m ((q.tc : Thread nD τ).loc main_arg4) (ix2 (0 : Fin 1) j) = db j

/-- Row `r` of half `s` of sequence `b`. -/
def row (b : Fin 4) (s : Fin 2) (r : Fin 1024) : Fin 8192 := ⟨1024 * (2 * b.val + s.val) + r.val, by omega⟩
/-- Column `c` of column block `n`. -/
def colm (n : Fin 11) (c : Fin 512) : Fin 5632 := ⟨512 * n.val + c.val, by omega⟩

variable {m : (ℓ : Loc nD τ sig) → Buf (Elt Ideal) ℓ} {q : Dev nD} {h : Fin 8192 → Fin 2048 → EReal} {wg wu : Fin 2048 → Fin 5632 → EReal}
  {dw : Fin 8 → Fin 5632 → EReal} {db : Fin 5632 → EReal} (A : Args m q h wg wu dw db)
include A

section Point

variable (t : Fin cfg0.N) (b : Fin 4) (n : Fin 11) (s : Fin 2) (ht : t.val = 22 * b.val + 2 * n.val + s.val)
include ht

theorem blk_h (r : Fin 1024) (k : Fin 2048) : iblk m q 0 t (ix2 r k) = h (row b s r) k := by
  rw [← A.h]
  blk_ext [iblk, V, idx_w t]
  all_goals (simp only [row]; omega)

theorem blk_wg (k : Fin 2048) (c : Fin 512) : iblk m q 1 t (ix2 k c) = wg k (colm n c) := by
  rw [← A.wg]
  blk_ext [iblk, V, idx_w t]
  all_goals (simp only [colm]; omega)

theorem blk_wu (k : Fin 2048) (c : Fin 512) : iblk m q 2 t (ix2 k c) = wu k (colm n c) := by
  rw [← A.wu]
  blk_ext [iblk, V, idx_w t]
  all_goals (simp only [colm]; omega)

theorem blk_dw (k : Fin 8) (c : Fin 512) : iblk m q 3 t (ix2 k c) = dw k (colm n c) := by
  rw [← A.dw]
  blk_ext [iblk, V, idx_w t]
  all_goals (simp only [colm]; omega)

theorem blk_db (c : Fin 512) : iblk m q 4 t (ix2 (0 : Fin 1) c) = db (colm n c) := by
  rw [← A.db]
  blk_ext [iblk, V, idx_w t]
  all_goals (simp only [colm]; omega)

/-- The block of the product with `wg`. -/
theorem gate_blk (r : Fin 1024) (c : Fin 512) : k0_pay2 (F := Ideal) (iblk m q 0 t) (iblk m q 1 t) (ix2 r c) = prod h wg (row b s r) (colm n c) := by
  rw [gate_at]
  exact Finset.sum_congr rfl fun k _ => congrArg₂ (· * ·) (blk_h A t b n s ht r k) (blk_wg A t b n s ht k c)

theorem up_blk (r : Fin 1024) (c : Fin 512) : k0_pay3 (F := Ideal) (iblk m q 0 t) (iblk m q 2 t) (ix2 r c) = prod h wu (row b s r) (colm n c) := by
  rw [up_at]
  exact Finset.sum_congr rfl fun k _ => congrArg₂ (· * ·) (blk_h A t b n s ht r k) (blk_wu A t b n s ht k c)

omit A ht in
/-- The lag within the block and the block before is the lag in the sequence. -/
theorem lag_back (g : Fin 8192 → Fin 5632 → EReal) (x p : Fin 1024 → Fin 512 → EReal) (hx : ∀ r c, x r c = g (row b s r) (colm n c))
    (hp : ∀ r c, p r c = if s.val = 0 then 0 else g (row b 0 r) (colm n c)) (l : ℕ) (hl : 0 < l ∧ l ≤ 2) (r : Fin 1024) (c : Fin 512) :
    lag x p l r c = back g l (row b s r) (colm n c) := by
  have hm : (row b s r).val % 2048 = 1024 * s.val + r.val := by simp only [row]; omega
  unfold lag back
  by_cases h1 : l ≤ r.val
  · rw [if_pos h1, if_pos (by omega), hx]
    exact congrArg (g · _) (Fin.ext (by simp only [row]; omega))
  · rw [if_neg h1, hp]
    by_cases h2 : s.val = 0
    · rw [if_pos h2, if_neg (by omega)]
    · rw [if_neg h2, if_pos (by omega)]
      exact congrArg (g · _) (Fin.ext (by simp only [row, Fin.val_zero]; omega))

/-- The block of activations. -/
theorem act_blk (p : Vec Ideal S1024x512 .f32) (hp : ∀ r c, p (ix2 r c) = if s.val = 0 then 0 else prod h wg (row b 0 r) (colm n c)) (r : Fin 1024) (c : Fin 512) :
    kAct (iblk m q 0 t) (iblk m q 1 t) (iblk m q 2 t) (iblk m q 3 t) (iblk m q 4 t) p (ix2 r c) = act h wg wu dw db (row b s r) (colm n c) := by
  unfold kAct
  rw [act_at, bias_at, tap2_at, tap1_at, tap0_at, blk_dw A t b n s ht, blk_dw A t b n s ht, blk_dw A t b n s ht, blk_db A t b n s ht,
    lag_back b n s (prod h wg) _ _ (fun r c => gate_blk A t b n s ht r c) hp 1 (by omega), lag_back b n s (prod h wg) _ _ (fun r c => gate_blk A t b n s ht r c) hp 2 (by omega),
    gate_blk A t b n s ht, up_blk A t b n s ht]
  rfl

end Point

theorem scratch_first (t : Fin cfg0.N) (b : Fin 4) (n : Fin 11) (ht : t.val = 22 * b.val + 2 * n.val) (r : Fin 1024) (c : Fin 512) :
    (outsAt0 m q t.val t.isLt).2.2 (ix2 r c) = prod h wg (row b 0 r) (colm n c) := by
  have h0 : t.val % 2 = 0 := by omega
  have e : (outsAt0 m q t.val t.isLt).2.2 = k0_pay9 (k0_pay2 (iblk m q 0 t) (iblk m q 1 t)) := by
    rw [outsAt0_A m q t h0]; dsimp only
    exact t_sout0_A_0 q t (iblk m q 0 t) (iblk m q 1 t) (iblk m q 2 t) (iblk m q 3 t) (iblk m q 4 t) ((hcond0_0 t).mpr h0)
  rw [e, keep_at]
  exact gate_blk A t b n 0 (by simpa using ht) r c

/-- What a point leaves in the block of activations. -/
theorem act_all (t : Fin cfg0.N) (b : Fin 4) (n : Fin 11) (s : Fin 2) (ht : t.val = 22 * b.val + 2 * n.val + s.val) (r : Fin 1024) (c : Fin 512) :
    (outsAt0 m q t.val t.isLt).1 (ix2 r c) = act h wg wu dw db (row b s r) (colm n c) := by
  by_cases h0 : t.val % 2 = 0
  · have e : (outsAt0 m q t.val t.isLt).1 = kAct (iblk m q 0 t) (iblk m q 1 t) (iblk m q 2 t) (iblk m q 3 t) (iblk m q 4 t) (k0_pay4 (F := Ideal)) := by
      rw [outsAt0_A m q t h0]; dsimp only
      exact t_out0_A_5 q t (iblk m q 0 t) (iblk m q 1 t) (iblk m q 2 t) (iblk m q 3 t) (iblk m q 4 t) ((hcond0_0 t).mpr h0)
    rw [e]
    exact act_blk A t b n s ht _ (fun r c => by rw [zero_at, if_pos (by omega)]) r c
  · have e : (outsAt0 m q t.val t.isLt).1 = kAct (iblk m q 0 t) (iblk m q 1 t) (iblk m q 2 t) (iblk m q 3 t) (iblk m q 4 t)
        (outsAt0 m q (t.val - 1) (Nat.lt_of_le_of_lt (Nat.sub_le _ _) t.isLt)).2.2 := by
      rw [outsAt0_B m q t h0]; dsimp only
      exact t_out0_B_5 q t (iblk m q 0 t) (iblk m q 1 t) (iblk m q 2 t) (iblk m q 3 t) (iblk m q 4 t) _ (fun h => h0 ((hcond0_0 t).mp h))
    rw [e]
    refine act_blk A t b n s ht _ (fun r c => ?_) r c
    rw [if_neg (by omega)]
    exact scratch_first A ⟨t.val - 1, Nat.lt_of_le_of_lt (Nat.sub_le _ _) t.isLt⟩ b n (by dsimp only; omega) r c

/-- What the second point of a block leaves of the tail. -/
theorem tail_all (t : Fin cfg0.N) (b : Fin 4) (n : Fin 11) (ht : t.val = 22 * b.val + 2 * n.val + 1) (a : Fin 1) (r : Fin 8) (c : Fin 512) :
    (outsAt0 m q t.val t.isLt).2.1 (ix3 a r c) = prod h wg (row b 1 ⟨1016 + r.val, by omega⟩) (colm n c) := by
  have h0 : ¬ t.val % 2 = 0 := by omega
  have e : (outsAt0 m q t.val t.isLt).2.1 = k0_pay1 (k0_pay10 (k0_pay2 (iblk m q 0 t) (iblk m q 1 t))) := by
    rw [outsAt0_B m q t h0]; dsimp only
    exact t_out0_B_6 q t (iblk m q 0 t) (iblk m q 1 t) (iblk m q 2 t) (iblk m q 3 t) (iblk m q 4 t) _ (fun h => h0 ((hcond0_0 t).mp h))
  rw [e, tail_at]
  exact gate_blk A t b n 1 (by simpa using ht) _ c

/-- The array of activations at the end. -/
theorem final5 : (dats m 0 q).arrAt 5 cfg0.N = (fun y : S8192x5632.Idx => act h wg wu dw db (y 0) (y 1)) := by
  refine (dats m 0 q).arrAt_eq_of_cover 5 _ (fun t _ => ?_) (fun i => ?_)
  · have hN : t.val < 88 := lt_of_lt_of_eq t.isLt N_0
    rw [flushed5]
    obtain ⟨-, -, -, -, -, ⟨e0, e1⟩, -⟩ := idx_w t
    funext y
    have hb0 : (((cfg0.win 5).blk t).view.emb y 0).val = win0_5.index t (0 : Fin 2) * 1024 + 1 * (y 0).val := rfl
    have hb1 : (((cfg0.win 5).blk t).view.emb y 1).val = win0_5.index t (1 : Fin 2) * 512 + 1 * (y 1).val := rfl
    have H := act_all A t ⟨t.val / 22, by omega⟩ ⟨t.val % 22 / 2, by omega⟩ ⟨t.val % 2, by omega⟩ (by dsimp only; omega) (y 0) (y 1)
    have e2 : row ⟨t.val / 22, by omega⟩ ⟨t.val % 2, by omega⟩ (y 0) = ((cfg0.win 5).blk t).view.emb y 0 := Fin.ext (by rw [hb0, e0]; simp only [row]; omega)
    have e3 : colm ⟨t.val % 22 / 2, by omega⟩ (y 1) = ((cfg0.win 5).blk t).view.emb y 1 := Fin.ext (by rw [hb1, e1]; simp only [colm]; omega)
    rw [e2, e3] at H
    refine Eq.trans (congrArg _ ?_) H
    funext a
    match a with
    | ⟨0, _⟩ => rfl
    | ⟨1, _⟩ => rfl
  · have hi0 : (i 0).val < 8192 := (i 0).isLt
    have hi1 : (i 1).val < 5632 := (i 1).isLt
    refine ⟨⟨22 * ((i 0).val / 2048) + 2 * ((i 1).val / 512) + (i 0).val % 2048 / 1024, lt_of_lt_of_eq (by omega) N_0.symm⟩, flush0_5 _, ?_⟩
    generalize ht : (⟨22 * ((i 0).val / 2048) + 2 * ((i 1).val / 512) + (i 0).val % 2048 / 1024, lt_of_lt_of_eq (by omega) N_0.symm⟩ : Fin cfg0.N) = t
    have hv : t.val = 22 * ((i 0).val / 2048) + 2 * ((i 1).val / 512) + (i 0).val % 2048 / 1024 := by rw [← ht]
    obtain ⟨-, -, -, -, -, ⟨e0, e1⟩, -⟩ := idx_w t
    show i ∈ ((View.whole main_v0_0).slice (win0_5.rect t)).set
    rw [View.set_slice_whole, Rect.mem_set_unit]
    intro a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 512 ≤ (i 1).val ∧ (i 1).val < win0_5.index t (1 : Fin 2) * 512 + 512; omega

/-- Row `r` of the last eight rows of sequence `b`. -/
def lastRow (b : Fin 4) (r : Fin 8) : Fin 8192 := ⟨2048 * b.val + 2040 + r.val, by omega⟩

/-- The array of tails at the end. -/
theorem final6 : (dats m 0 q).arrAt 6 cfg0.N = (fun y : S4x8x5632.Idx => prod h wg (lastRow (y 0) (y 1)) (y 2)) := by
  refine (dats m 0 q).arrAt_eq_of_cover 6 _ (fun t hf => ?_) (fun i => ?_)
  · have hN : t.val < 88 := lt_of_lt_of_eq t.isLt N_0
    have hm : t.val % 2 = 1 := (flush0_6 t).mp hf
    rw [flushed6]
    obtain ⟨-, -, -, -, -, -, ⟨e0, e1, e2⟩⟩ := idx_w t
    funext y
    have hy0 : (y 0).val < 1 := (y 0).isLt
    have hb0 : (((cfg0.win 6).blk t).view.emb y 0).val = win0_6.index t (0 : Fin 3) * 1 + 1 * (y 0).val := rfl
    have hb1 : (((cfg0.win 6).blk t).view.emb y 1).val = win0_6.index t (1 : Fin 3) * 8 + 1 * (y 1).val := rfl
    have hb2 : (((cfg0.win 6).blk t).view.emb y 2).val = win0_6.index t (2 : Fin 3) * 512 + 1 * (y 2).val := rfl
    have H := tail_all A t ⟨t.val / 22, by omega⟩ ⟨t.val % 22 / 2, by omega⟩ (by dsimp only; omega) (y 0) (y 1) (y 2)
    have e3 : row ⟨t.val / 22, by omega⟩ 1 ⟨1016 + (y 1).val, by have := (y 1).isLt; exact Nat.add_lt_add_left this 1016⟩
        = lastRow (((cfg0.win 6).blk t).view.emb y 0) (((cfg0.win 6).blk t).view.emb y 1) := Fin.ext (by
      simp only [row, lastRow, hb0, hb1, e0, e1, Fin.val_one]; omega)
    have e4 : colm ⟨t.val % 22 / 2, by omega⟩ (y 2) = ((cfg0.win 6).blk t).view.emb y 2 := Fin.ext (by rw [hb2, e2]; simp only [colm]; omega)
    rw [e3, e4] at H
    refine Eq.trans (congrArg _ ?_) H
    funext a
    match a with
    | ⟨0, _⟩ => rfl
    | ⟨1, _⟩ => rfl
    | ⟨2, _⟩ => rfl
  · have hi0 : (i 0).val < 4 := (i 0).isLt
    have hi1 : (i 1).val < 8 := (i 1).isLt
    have hi2 : (i 2).val < 5632 := (i 2).isLt
    generalize ht : (⟨22 * (i 0).val + 2 * ((i 2).val / 512) + 1, lt_of_lt_of_eq (by omega) N_0.symm⟩ : Fin cfg0.N) = t
    have hv : t.val = 22 * (i 0).val + 2 * ((i 2).val / 512) + 1 := by rw [← ht]
    obtain ⟨-, -, -, -, -, -, ⟨e0, e1, e2⟩⟩ := idx_w t
    refine ⟨t, (flush0_6 t).mpr (by omega), ?_⟩
    show i ∈ ((View.whole main_v0_1).slice (win0_6.rect t)).set
    rw [View.set_slice_whole, Rect.mem_set_unit]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 8 ≤ (i 1).val ∧ (i 1).val < win0_6.index t (1 : Fin 3) * 8 + 8; omega
    | ⟨2, _⟩ => show win0_6.index t (2 : Fin 3) * 512 ≤ (i 2).val ∧ (i 2).val < win0_6.index t (2 : Fin 3) * 512 + 512; omega

end Cert.Proof.Up

end
-- ==== Proof.UpRef.lean ====
/- The first products of the feed-forward part: the reference's results, read at an index. -/
module

public import proofs.«01_k».proof.Proof.UpMath
public import proofs.«01_k».proof.Proof.Gen.FfnUpRefIdeal.Run

@[expose] public section

set_option maxRecDepth 16384
set_option maxHeartbeats 4000000

noncomputable section

open Idealize.ShloMosaic Idealize.ShloMosaic.TcCoe Idealize.SL.Sem Cert.FfnUpRefIdeal Cert.FfnUpRefIdeal.Gen Cert.FfnUpRefIdeal.Value

namespace Cert.Proof.Up

section Ref

variable (x0 : FVec Ideal S8192x2048 .bf16) (x1 x2 : FVec Ideal S2048x5632 .bf16) (x3 : FVec Ideal S8x5632 .f32) (x4 : FVec Ideal S1x5632 .f32)

/-- The product of the sequences with a matrix of weights. -/
def rProd (w : FVec Ideal S2048x5632 .bf16) : FVec Ideal S4x2048x5632 .f32 :=
  Host.dotGeneral dot_S4x2048x2048_S2048x5632_S4x2048x5632_2_0_01_1_n_n none (shapeCast _ (extf .f32 x0 bitsLt_bf16_f32) shapeCasts_S8192x2048_S4x2048x2048) (extf .f32 w bitsLt_bf16_f32)

/-- The product with two zero rows before each sequence. -/
def rFull (g : FVec Ideal S4x2048x5632 .f32) : FVec Ideal S4x2050x5632 .f32 :=
  concatenate S4x2050x5632 1 [⟨S4x2x5632, (broadcastInDim S4x2x5632 ![] bcast_S_S4x2x5632 (constant S_ .f32 0x00000000#32))⟩, ⟨S4x2048x5632, g⟩] concatenates_S4x2x5632_S4x2048x5632_S4x2050x5632_d1

/-- The convolution. -/
def rConv (f : FVec Ideal S4x2050x5632 .f32) : FVec Ideal S4x2048x5632 .f32 :=
  addf (addf (addf (broadcastInDim S4x2048x5632 ![0, 1, 2] bcast_S1x1x5632_S4x2048x5632_0_1_2 (broadcastInDim S1x1x5632 ![2] bcast_S5632_S1x1x5632_2 (shapeCast _ x4 shapeCasts_S1x5632_S5632)))
    (mulf (extractStridedSlice S4x2048x5632 ![0, 0, 0] f slices_S4x2050x5632_S4x2048x5632_0_0_0) (broadcastInDim S4x2048x5632 ![0, 1, 2] bcast_S1x1x5632_S4x2048x5632_0_1_2 (broadcastInDim S1x1x5632 ![2] bcast_S5632_S1x1x5632_2 (shapeCast _ (extractStridedSlice S1x5632 ![0, 0] (extractStridedSlice S3x5632 ![0, 0] x3 slices_S8x5632_S3x5632_0_0) slices_S3x5632_S1x5632_0_0) shapeCasts_S1x5632_S5632)))))
    (mulf (extractStridedSlice S4x2048x5632 ![0, 1, 0] f slices_S4x2050x5632_S4x2048x5632_0_1_0) (broadcastInDim S4x2048x5632 ![0, 1, 2] bcast_S1x1x5632_S4x2048x5632_0_1_2 (broadcastInDim S1x1x5632 ![2] bcast_S5632_S1x1x5632_2 (shapeCast _ (extractStridedSlice S1x5632 ![1, 0] (extractStridedSlice S3x5632 ![0, 0] x3 slices_S8x5632_S3x5632_0_0) slices_S3x5632_S1x5632_1_0) shapeCasts_S1x5632_S5632)))))
    (mulf (extractStridedSlice S4x2048x5632 ![0, 2, 0] f slices_S4x2050x5632_S4x2048x5632_0_2_0) (broadcastInDim S4x2048x5632 ![0, 1, 2] bcast_S1x1x5632_S4x2048x5632_0_1_2 (broadcastInDim S1x1x5632 ![2] bcast_S5632_S1x1x5632_2 (shapeCast _ (extractStridedSlice S1x5632 ![2, 0] (extractStridedSlice S3x5632 ![0, 0] x3 slices_S8x5632_S3x5632_0_0) slices_S3x5632_S1x5632_2_0) shapeCasts_S1x5632_S5632))))

/-- The activations from the convolution and the second product. -/
def rAct (v u : FVec Ideal S4x2048x5632 .f32) : FVec Ideal S8192x5632 .bf16 :=
  truncf .bf16 (shapeCast _ (mulf (mulf v (mulf (broadcastInDim S4x2048x5632 ![] bcast_S_S4x2048x5632 (constant S_ .f32 0x3F000000#32)) (addf (broadcastInDim S4x2048x5632 ![] bcast_S_S4x2048x5632 (constant S_ .f32 0x3F800000#32)) (Host.tanh (mulf (broadcastInDim S4x2048x5632 ![] bcast_S_S4x2048x5632 (constant S_ .f32 0x3F4C422A#32)) (addf v (mulf (broadcastInDim S4x2048x5632 ![] bcast_S_S4x2048x5632 (constant S_ .f32 0x3D372713#32)) (mulf (mulf v v) v)))))))) u) shapeCasts_S4x2048x5632_S8192x5632) bitsLt_bf16_f32

theorem rProd_at (w : FVec Ideal S2048x5632 .bf16) (b : Fin 4) (p : Fin 2048) (j : Fin 5632) :
    rProd x0 w (ix3 b p j) = prod (fun i k => x0 (ix2 i k)) (fun k j => w (ix2 k j)) ⟨b.val * 2048 + p.val, by omega⟩ j := by
  unfold rProd prod
  pointwise []

theorem rFull_at (g : FVec Ideal S4x2048x5632 .f32) (b : Fin 4) (p : Fin 2050) (j : Fin 5632) :
    rFull g (ix3 b p j) = if h : p.val < 2 then 0 else g (ix3 b ⟨p.val - 2, by omega⟩ j) := by
  unfold rFull
  pointwise []

theorem rConv_at (f : FVec Ideal S4x2050x5632 .f32) (b : Fin 4) (p : Fin 2048) (j : Fin 5632) :
    rConv x3 x4 f (ix3 b p j) = x4 (ix2 0 j) + f (ix3 b ⟨p.val, by omega⟩ j) * x3 (ix2 0 j) + f (ix3 b ⟨1 + p.val, by omega⟩ j) * x3 (ix2 1 j) + f (ix3 b ⟨2 + p.val, by omega⟩ j) * x3 (ix2 2 j) := by
  unfold rConv
  pointwise []

theorem rAct_at (v u : FVec Ideal S4x2048x5632 .f32) (i : Fin 8192) (j : Fin 5632) :
    rAct v u (ix2 i j) = gelu (v (ix3 ⟨i.val / 2048, by omega⟩ ⟨i.val % 2048, by omega⟩ j)) * u (ix3 ⟨i.val / 2048, by omega⟩ ⟨i.val % 2048, by omega⟩ j) := by
  unfold rAct
  pointwise []
  unfold gelu
  rw [← mul_assoc (v _), mul_comm (v _) (Ideal.ofBits .f32 0x3F000000#32)]

/-- The convolution of the padded product. -/
theorem conv_at (g : Fin 8192 → Fin 5632 → EReal) (y : FVec Ideal S4x2048x5632 .f32) (b : Fin 4) (hy : ∀ p j, y (ix3 b p j) = g ⟨b.val * 2048 + p.val, by omega⟩ j)
    (p : Fin 2048) (j : Fin 5632) :
    rConv x3 x4 (rFull y) (ix3 b p j) = conv g (fun k j => x3 (ix2 k j)) (fun j => x4 (ix2 0 j)) ⟨b.val * 2048 + p.val, by omega⟩ j := by
  have hm : (b.val * 2048 + p.val) % 2048 = p.val := by omega
  have f0 : rFull y (ix3 b ⟨p.val, by omega⟩ j) = back g 2 ⟨b.val * 2048 + p.val, by omega⟩ j := by
    rw [rFull_at]
    unfold back
    by_cases h : p.val < 2
    · rw [dif_pos h, if_neg (by simp only; omega)]
    · rw [dif_neg h, if_pos (by simp only; omega), hy]
      exact congrArg (g · j) (Fin.ext (by simp only; omega))
  have f1 : rFull y (ix3 b ⟨1 + p.val, by omega⟩ j) = back g 1 ⟨b.val * 2048 + p.val, by omega⟩ j := by
    rw [rFull_at]
    unfold back
    by_cases h : 1 + p.val < 2
    · rw [dif_pos h, if_neg (by simp only; omega)]
    · rw [dif_neg h, if_pos (by simp only; omega), hy]
      exact congrArg (g · j) (Fin.ext (by simp only; omega))
  have f2 : rFull y (ix3 b ⟨2 + p.val, by omega⟩ j) = g ⟨b.val * 2048 + p.val, by omega⟩ j := by
    rw [rFull_at, dif_neg (by simp only; omega), hy]
    exact congrArg (g · j) (Fin.ext (by simp only; omega))
  rw [rConv_at, f0, f1, f2]
  unfold conv
  rw [mul_comm (back g 2 _ j), mul_comm (back g 1 _ j), mul_comm (g _ j)]
  rw [add_right_comm (_ + _), add_right_comm (x4 _), add_right_comm (_ + _)]

/-- The reference's activations. -/
theorem ref_act (i : Fin 8192) (j : Fin 5632) :
    rAct (rConv x3 x4 (rFull (rProd x0 x1))) (rProd x0 x2) (ix2 i j)
      = act (fun i k => x0 (ix2 i k)) (fun k j => x1 (ix2 k j)) (fun k j => x2 (ix2 k j)) (fun k j => x3 (ix2 k j)) (fun j => x4 (ix2 0 j)) i j := by
  rw [rAct_at, conv_at x3 x4 (prod (fun i k => x0 (ix2 i k)) (fun k j => x1 (ix2 k j))) _ _ (fun p j => rProd_at x0 x1 _ p j), rProd_at]
  have e : (⟨i.val / 2048 * 2048 + i.val % 2048, by omega⟩ : Fin 8192) = i := Fin.ext (by simp only; omega)
  simp only [e]
  rfl

/-- The reference's last rows. -/
theorem ref_tail (b : Fin 4) (r : Fin 8) (j : Fin 5632) :
    (extractStridedSlice S4x8x5632 ![0, 2040, 0] (rProd x0 x1) slices_S4x2048x5632_S4x8x5632_0_2040_0) (ix3 b r j)
      = prod (fun i k => x0 (ix2 i k)) (fun k j => x1 (ix2 k j)) ⟨2048 * b.val + 2040 + r.val, by omega⟩ j := by
  generalize hy : rProd x0 x1 = y
  pointwise []
  rw [← hy, rProd_at]
  exact congrArg (prod _ _ · j) (Fin.ext (by simp only; omega))

end Ref

theorem res_eq (m : (ℓ : Loc nD τ sig) → Buf (Elt Ideal) ℓ) (c : Dev nD) :
    res_main_v48 m c = rAct (rConv (m ((c.tc : Thread nD τ).loc main_arg3)) (m ((c.tc : Thread nD τ).loc main_arg4)) (rFull (rProd (m ((c.tc : Thread nD τ).loc main_arg0)) (m ((c.tc : Thread nD τ).loc main_arg1)))))
      (rProd (m ((c.tc : Thread nD τ).loc main_arg0)) (m ((c.tc : Thread nD τ).loc main_arg2))) := by
  unfold res_main_v48
  rfl

end Cert.Proof.Up

end
-- ==== Proof.UpEq.lean ====
/- The first products of the feed-forward part: the kernel's results are the reference's. -/
module

public import proofs.«01_k».proof.Defs
public import proofs.«01_k».proof.Proof.UpKer
public import proofs.«01_k».proof.Proof.UpRef

@[expose] public section

set_option maxRecDepth 16384
set_option maxHeartbeats 4000000

noncomputable section

open Idealize.ShloMosaic Idealize.ShloMosaic.TcCoe Idealize.SL.Sem

namespace Cert.Proof.Up

/-- Every index of a three-axis array is its three coordinates. -/
theorem ix3_ext {a b c : ℕ} {α : Type} {f g : Shape.Idx ⟨3, ![a, b, c]⟩ → α} (h : ∀ (i : Fin a) (j : Fin b) (k : Fin c), f (ix3 i j k) = g (ix3 i j k)) : f = g := by
  funext y
  have e : y = ix3 (y 0) (y 1) (y 2) := by
    funext x
    match x with
    | ⟨0, _⟩ => rfl
    | ⟨1, _⟩ => rfl
    | ⟨2, _⟩ => rfl
  rw [e]
  exact h _ _ _

theorem algebraic : Cert.algebraic_FfnUpIdeal_FfnUpRefIdeal (hFfnUpIdeal := Cert.FfnUpIdeal.Gen.facts) (hFfnUpRefIdeal := Cert.FfnUpRefIdeal.Gen.facts) := by
  intro m ρ m' ρ' _ hag
  have A : ∀ c, Args m c (fun i k => m' ((c.tc : Thread Cert.FfnUpRefIdeal.nD Cert.FfnUpRefIdeal.τ).loc Cert.FfnUpRefIdeal.main_arg0) (ix2 i k))
      (fun k j => m' ((c.tc : Thread Cert.FfnUpRefIdeal.nD Cert.FfnUpRefIdeal.τ).loc Cert.FfnUpRefIdeal.main_arg1) (ix2 k j))
      (fun k j => m' ((c.tc : Thread Cert.FfnUpRefIdeal.nD Cert.FfnUpRefIdeal.τ).loc Cert.FfnUpRefIdeal.main_arg2) (ix2 k j))
      (fun k j => m' ((c.tc : Thread Cert.FfnUpRefIdeal.nD Cert.FfnUpRefIdeal.τ).loc Cert.FfnUpRefIdeal.main_arg3) (ix2 k j))
      (fun j => m' ((c.tc : Thread Cert.FfnUpRefIdeal.nD Cert.FfnUpRefIdeal.τ).loc Cert.FfnUpRefIdeal.main_arg4) (ix2 (0 : Fin 1) j)) := fun c =>
    ⟨fun _ _ => (congrFun (hag c).1 _).symm, fun _ _ => (congrFun (hag c).2.1 _).symm, fun _ _ => (congrFun (hag c).2.2.1 _).symm,
      fun _ _ => (congrFun (hag c).2.2.2.1 _).symm, fun _ => (congrFun (hag c).2.2.2.2 _).symm⟩
  have e0 : ∀ c, Cert.FfnUpRefIdeal.Value.res_main_v48 m' c = (Cert.FfnUpIdeal.Gen.dats m 0 c).arrAt 5 Cert.FfnUpIdeal.cfg0.N := fun c => by
    rw [res_eq]
    refine Eq.trans ?_ (final5 (A c)).symm
    exact ix2_ext fun i j => ref_act _ _ _ _ _ i j
  have e1 : ∀ c, _ = (Cert.FfnUpIdeal.Gen.dats m 0 c).arrAt 6 Cert.FfnUpIdeal.cfg0.N := fun c =>
    Eq.trans (ix3_ext fun b r j => ref_tail (m' ((c.tc : Thread Cert.FfnUpRefIdeal.nD Cert.FfnUpRefIdeal.τ).loc Cert.FfnUpRefIdeal.main_arg0))
      (m' ((c.tc : Thread Cert.FfnUpRefIdeal.nD Cert.FfnUpRefIdeal.τ).loc Cert.FfnUpRefIdeal.main_arg1)) b r j) (final6 (A c)).symm
  exact ⟨fun c => (Cert.FfnUpIdeal.Gen.dats m 0 c).arrAt 5 Cert.FfnUpIdeal.cfg0.N, fun c => (Cert.FfnUpIdeal.Gen.dats m 0 c).arrAt 6 Cert.FfnUpIdeal.cfg0.N, Cert.FfnUpIdeal.Value.run_blocks m ρ,
    (θ_run _ _ _).mono (fun r h c => ⟨(h c).1.trans (e0 c), (h c).2.1.trans (e1 c), (h c).2.2⟩) (Cert.FfnUpRefIdeal.Value.run m' ρ')⟩

end Cert.Proof.Up

end
-- ==== Proof.DownKer.lean ====
/- The second product of the feed-forward layer: what every grid point leaves. -/
module

public import proofs.«01_k».proof.Proof.Rms
public import proofs.«01_k».proof.Proof.Gen.FfnDownIdeal.Value
public import Idealize.ShloMosaic.Lib.Pipeline.ReadBack

@[expose] public section

set_option backward.proofsInPublic true
set_option maxRecDepth 16384
set_option maxHeartbeats 4000000

noncomputable section

open Idealize.ShloMosaic Idealize.ShloMosaic.TcCoe Idealize.SL.Sem Cert.FfnDownIdeal Cert.FfnDownIdeal.Gen Cert.FfnDownIdeal.Value

namespace Cert.Proof.Down

/-- The cleared accumulator. -/
theorem zero_at (r : Fin 1024) (c : Fin 2048) : k0_pay1 (F := Ideal) (ix2 r c) = 0 := by
  pointwise [k0_pay1]

/-- The accumulator after a block's product is added. -/
theorem acc_at (a : Vec Ideal S1024x2048 .f32) (x : Vec Ideal S1024x512 .bf16) (w : Vec Ideal S512x2048 .bf16) (r : Fin 1024) (c : Fin 2048) :
    k0_pay2 (F := Ideal) a x w (ix2 r c) = a (ix2 r c) + ∑ k : Fin 512, x (ix2 r k) * w (ix2 k c) := by
  pointwise [k0_pay2]

/-- The stored block: the residual and the normalised accumulator. -/
theorem out_at (x a : Vec Ideal S1024x2048 .f32) (g : Vec Ideal S1x2048 .f32) (r : Fin 1024) (c : Fin 2048) :
    k0_pay3 (F := Ideal) x a g (ix2 r c) = x (ix2 r c) + rms (fun k => a (ix2 r k)) (fun k => g (ix2 0 k)) c := by
  pointwise [k0_pay3]
  rfl

theorem t_sout0_A_0 (c : Dev nD) (t : Fin cfg0.N) (x0 : Vec Ideal S1024x512 .bf16) (x1 : Vec Ideal S512x2048 .bf16) (x2 : Vec Ideal S1024x2048 .f32) (x3 : Vec Ideal S1x2048 .f32) (h0) (h1) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 x0 x1 x2 x3 = k0_pay2 (k0_pay1 (F := Ideal)) x0 x1 := by
  frame_open
  try simp (disch := decide) only [↓ View.readCov_skip, ↓ View.readCov_cons_toLoadRect, ↓ View.readCov_fill]
  frame_out

theorem t_sout0_B_0 (c : Dev nD) (t : Fin cfg0.N) (x0 : Vec Ideal S1024x512 .bf16) (x1 : Vec Ideal S512x2048 .bf16) (x2 : Vec Ideal S1024x2048 .f32) (x3 : Vec Ideal S1x2048 .f32) (xs0 : Vec Ideal S1024x2048 .f32) (h0) (h1) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 x0 x1 x2 x3 xs0 = k0_pay2 xs0 x0 x1 := by
  frame_open
  try simp (disch := decide) only [↓ View.readCov_skip, ↓ View.readCov_cons_toLoadRect, ↓ View.readCov_fill]
  frame_out
  try simp only [read_unread_whole]

theorem t_sout0_C_0 (c : Dev nD) (t : Fin cfg0.N) (x0 : Vec Ideal S1024x512 .bf16) (x1 : Vec Ideal S512x2048 .bf16) (x2 : Vec Ideal S1024x2048 .f32) (x3 : Vec Ideal S1x2048 .f32) (xs0 : Vec Ideal S1024x2048 .f32) (h0) (h1) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 x0 x1 x2 x3 xs0 = k0_pay2 xs0 x0 x1 := by
  frame_open
  try simp (disch := decide) only [↓ View.readCov_skip, ↓ View.readCov_cons_toLoadRect, ↓ View.readCov_fill]
  frame_out
  try simp only [read_unread_whole]

theorem t_out0_C_4 (c : Dev nD) (t : Fin cfg0.N) (x0 : Vec Ideal S1024x512 .bf16) (x1 : Vec Ideal S512x2048 .bf16) (x2 : Vec Ideal S1024x2048 .f32) (x3 : Vec Ideal S1x2048 .f32) (xs0 : Vec Ideal S1024x2048 .f32) (h0) (h1) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 x0 x1 x2 x3 xs0 = k0_pay3 x2 (k0_pay2 xs0 x0 x1) x3 := by
  frame_open
  try simp (disch := decide) only [↓ View.readCov_skip, ↓ View.readCov_cons_toLoadRect, ↓ View.readCov_fill]
  frame_out
  try simp only [read_unread_whole]

theorem idx_w : ∀ t : Fin cfg0.N, (win0_0.index t 0 = t.val / 11 ∧ win0_0.index t 1 = t.val % 11)
    ∧ (win0_1.index t 0 = t.val % 11 ∧ win0_1.index t 1 = 0) ∧ (win0_2.index t 0 = t.val / 11 ∧ win0_2.index t 1 = 0)
    ∧ (win0_3.index t 0 = 0 ∧ win0_3.index t 1 = 0) :=
  (by decide +kernel : ∀ t : Fin grid0.N, _)

/-- The kernel's arguments on a device. -/
structure Args (m : (ℓ : Loc nD τ sig) → Buf (Elt Ideal) ℓ) (q : Dev nD) (a : Fin 8192 → Fin 5632 → EReal) (w : Fin 5632 → Fin 2048 → EReal)
    (x : Fin 8192 → Fin 2048 → EReal) (g : Fin 2048 → EReal) : Prop where
  a : ∀ i k, m ((q.tc : Thread nD τ).loc main_arg0) (ix2 i k) = a i k
  w : ∀ k j, m ((q.tc : Thread nD τ).loc main_arg1) (ix2 k j) = w k j
  x : ∀ i k, m ((q.tc : Thread nD τ).loc main_arg2) (ix2 i k) = x i k
  g : ∀ k, m ((q.tc : Thread nD τ).loc main_arg3) (ix2 (0 : Fin 1) k) = g k

/-- Row `r` of row block `b`. -/
def row (b : Fin 8) (r : Fin 1024) : Fin 8192 := ⟨1024 * b.val + r.val, by omega⟩
/-- Place `k` of block `s` of the contracted axis. -/
def mid (s : Fin 11) (k : Fin 512) : Fin 5632 := ⟨512 * s.val + k.val, by omega⟩

/-- The sum over one block of the contracted axis. -/
def part (a : Fin 8192 → Fin 5632 → EReal) (w : Fin 5632 → Fin 2048 → EReal) (b : Fin 8) (r : Fin 1024) (c : Fin 2048) (s : Fin 11) : EReal :=
  ∑ k : Fin 512, a (row b r) (mid s k) * w (mid s k) c

/-- The sum over the first `n` blocks. -/
def upTo (a : Fin 8192 → Fin 5632 → EReal) (w : Fin 5632 → Fin 2048 → EReal) (b : Fin 8) (r : Fin 1024) (c : Fin 2048) : ℕ → EReal
  | 0 => 0
  | n + 1 => upTo a w b r c n + if h : n < 11 then part a w b r c ⟨n, h⟩ else 0

theorem upTo_all (a : Fin 8192 → Fin 5632 → EReal) (w : Fin 5632 → Fin 2048 → EReal) (b : Fin 8) (r : Fin 1024) (c : Fin 2048) :
    upTo a w b r c 11 = ∑ k : Fin 5632, a (row b r) k * w k c := by
  have e : ∀ n, upTo a w b r c n = ∑ s ∈ Finset.range n, if h : s < 11 then part a w b r c ⟨s, h⟩ else 0 := by
    intro n
    induction n with
    | zero => rfl
    | succ n ih => rw [Finset.sum_range_succ, ← ih]; rfl
  rw [e, Finset.sum_range]
  have e2 : ∀ f : Fin 5632 → EReal, ∑ k, f k = ∑ s : Fin 11, ∑ k : Fin 512, f (mid s k) := by
    intro f
    rw [← Fintype.sum_prod_type' (fun s k => f (mid s k))]
    refine (Fintype.sum_equiv (finProdFinEquiv (m := 11) (n := 512)) _ _ fun p => ?_).symm
    exact congrArg f (Fin.ext (by simp only [mid, finProdFinEquiv_apply_val]; omega))
  rw [e2]
  refine Finset.sum_congr rfl fun s _ => ?_
  rw [dif_pos s.isLt]
  rfl

variable {m : (ℓ : Loc nD τ sig) → Buf (Elt Ideal) ℓ} {q : Dev nD} {a : Fin 8192 → Fin 5632 → EReal} {w : Fin 5632 → Fin 2048 → EReal}
  {x : Fin 8192 → Fin 2048 → EReal} {g : Fin 2048 → EReal} (A : Args m q a w x g)
include A

theorem blk_a (t : Fin cfg0.N) (b : Fin 8) (s : Fin 11) (ht : t.val = 11 * b.val + s.val) (r : Fin 1024) (k : Fin 512) :
    iblk m q 0 t (ix2 r k) = a (row b r) (mid s k) := by
  rw [← A.a]
  blk_ext [iblk, V, idx_w t]
  all_goals (simp only [row, mid]; omega)

theorem blk_w (t : Fin cfg0.N) (b : Fin 8) (s : Fin 11) (ht : t.val = 11 * b.val + s.val) (k : Fin 512) (c : Fin 2048) :
    iblk m q 1 t (ix2 k c) = w (mid s k) c := by
  rw [← A.w]
  blk_ext [iblk, V, idx_w t]
  all_goals (simp only [mid]; omega)

theorem blk_x (t : Fin cfg0.N) (b : Fin 8) (s : Fin 11) (ht : t.val = 11 * b.val + s.val) (r : Fin 1024) (k : Fin 2048) :
    iblk m q 2 t (ix2 r k) = x (row b r) k := by
  rw [← A.x]
  blk_ext [iblk, V, idx_w t]
  all_goals (simp only [row]; omega)

theorem blk_g (t : Fin cfg0.N) (k : Fin 2048) : iblk m q 3 t (ix2 (0 : Fin 1) k) = g k := by
  rw [← A.g]
  blk_ext [iblk, V, idx_w t]

omit A in
/-- What a grid point leaves: the sum so far, and at the last block the output. -/
structure After (a : Fin 8192 → Fin 5632 → EReal) (w : Fin 5632 → Fin 2048 → EReal) (x : Fin 8192 → Fin 2048 → EReal) (g : Fin 2048 → EReal) (b : Fin 8) (s : Fin 11)
    (o : Vec Ideal S1024x2048 .f32 × Vec Ideal S1024x2048 .f32) : Prop where
  out : s.val = 10 → ∀ r c, o.1 (ix2 r c) = x (row b r) c + rms (fun k => ∑ n : Fin 5632, a (row b r) n * w n k) g c
  acc : ∀ r c, o.2 (ix2 r c) = upTo a w b r c (s.val + 1)

/-- Adding a block's product takes the sum one block further. -/
theorem acc_step (t : Fin cfg0.N) (b : Fin 8) (s : Fin 11) (ht : t.val = 11 * b.val + s.val) (v : Vec Ideal S1024x2048 .f32)
    (hv : ∀ r c, v (ix2 r c) = upTo a w b r c s.val) (r : Fin 1024) (c : Fin 2048) :
    k0_pay2 (F := Ideal) v (iblk m q 0 t) (iblk m q 1 t) (ix2 r c) = upTo a w b r c (s.val + 1) := by
  rw [acc_at, hv]
  show _ = upTo a w b r c s.val + (if h : s.val < 11 then part a w b r c ⟨s.val, h⟩ else 0)
  rw [dif_pos s.isLt]
  exact congrArg _ (Finset.sum_congr rfl fun k _ => congrArg₂ (· * ·) (blk_a A t b s ht r k) (blk_w A t b s ht k c))

theorem step_first (t : Fin cfg0.N) (b : Fin 8) (s : Fin 11) (ht : t.val = 11 * b.val + s.val) (hs : s.val = 0) (acc : Vec Ideal S1024x2048 .f32 × Vec Ideal S1024x2048 .f32) :
    After a w x g b s (stAt0 m q t.val t.isLt acc) := by
  have h0 : t.val % 11 = 0 := by omega
  have h1 : ¬ t.val % 11 = 10 := by omega
  have e := stAt0_A m q t acc h0 h1
  have e2 : (stAt0 m q t.val t.isLt acc).2 = k0_pay2 (k0_pay1 (F := Ideal)) (iblk m q 0 t) (iblk m q 1 t) := by
    rw [e]; dsimp only; exact t_sout0_A_0 q t (iblk m q 0 t) (iblk m q 1 t) (iblk m q 2 t) (iblk m q 3 t) ((hcond0_0 t).mpr h0) (fun h => h1 ((hcond0_1 t).mp h))
  refine ⟨fun h => by omega, fun r c => ?_⟩
  rw [e2]
  exact acc_step A t b s ht _ (fun r c => by rw [zero_at, hs]; rfl) r c

theorem step_later (t : Fin cfg0.N) (b : Fin 8) (s s' : Fin 11) (ht : t.val = 11 * b.val + s.val) (hs : s.val = s'.val + 1) (acc : Vec Ideal S1024x2048 .f32 × Vec Ideal S1024x2048 .f32)
    (H : After a w x g b s' acc) : After a w x g b s (stAt0 m q t.val t.isLt acc) := by
  have h0 : ¬ t.val % 11 = 0 := by omega
  have hv : ∀ r c, acc.2 (ix2 r c) = upTo a w b r c s.val := fun r c => by rw [hs]; exact H.acc r c
  by_cases h1 : t.val % 11 = 10
  · have e := stAt0_C m q t acc h0 h1
    have e1 : (stAt0 m q t.val t.isLt acc).1 = k0_pay3 (iblk m q 2 t) (k0_pay2 acc.2 (iblk m q 0 t) (iblk m q 1 t)) (iblk m q 3 t) := by
      rw [e]; dsimp only; exact t_out0_C_4 q t (iblk m q 0 t) (iblk m q 1 t) (iblk m q 2 t) (iblk m q 3 t) acc.2 (fun h => h0 ((hcond0_0 t).mp h)) ((hcond0_1 t).mpr h1)
    have e2 : (stAt0 m q t.val t.isLt acc).2 = k0_pay2 acc.2 (iblk m q 0 t) (iblk m q 1 t) := by
      rw [e]; dsimp only; exact t_sout0_C_0 q t (iblk m q 0 t) (iblk m q 1 t) (iblk m q 2 t) (iblk m q 3 t) acc.2 (fun h => h0 ((hcond0_0 t).mp h)) ((hcond0_1 t).mpr h1)
    refine ⟨fun hl r c => ?_, fun r c => ?_⟩
    · rw [e1, out_at]
      refine congrArg₂ (· + ·) (blk_x A t b s ht r c) ?_
      congr 1
      · funext k
        rw [acc_step A t b s ht _ hv r k, hl]
        exact upTo_all a w b r k
      · funext k; exact blk_g A t k
    · rw [e2]; exact acc_step A t b s ht _ hv r c
  · have e := stAt0_B m q t acc h0 h1
    have e2 : (stAt0 m q t.val t.isLt acc).2 = k0_pay2 acc.2 (iblk m q 0 t) (iblk m q 1 t) := by
      rw [e]; dsimp only; exact t_sout0_B_0 q t (iblk m q 0 t) (iblk m q 1 t) (iblk m q 2 t) (iblk m q 3 t) acc.2 (fun h => h0 ((hcond0_0 t).mp h)) (fun h => h1 ((hcond0_1 t).mp h))
    refine ⟨fun hl => by omega, fun r c => ?_⟩
    rw [e2]; exact acc_step A t b s ht _ hv r c

/-- Every point leaves what its blocks say. -/
theorem after_all (n : ℕ) : ∀ (hn : n < cfg0.N) (b : Fin 8) (s : Fin 11), n = 11 * b.val + s.val → After a w x g b s (outsAt0 m q n hn) := by
  induction n with
  | zero =>
    intro hn b s h
    rw [outsAt0_zero]
    exact step_first A ⟨0, hn⟩ b s h (by omega) _
  | succ n ih =>
    intro hn b s h
    rw [outsAt0_succ]
    by_cases hs : s.val = 0
    · exact step_first A ⟨n + 1, hn⟩ b s h hs _
    · exact step_later A ⟨n + 1, hn⟩ b s ⟨s.val - 1, by omega⟩ h (by dsimp only; omega) _ (ih _ b ⟨s.val - 1, by omega⟩ (by dsimp only; omega))

/-- The array at the end. -/
theorem ker_at (i : Fin 8192) (j : Fin 2048) : G4 m q (ix2 i j) = x i j + rms (fun k => ∑ n : Fin 5632, a i n * w n k) g j := by
  have hb : i.val / 1024 < 8 := by omega
  have hN : 11 * (i.val / 1024) + 10 < cfg0.N := lt_of_lt_of_eq (by omega) N_0.symm
  have H := (after_all A _ hN ⟨i.val / 1024, hb⟩ ⟨10, by decide⟩ rfl).out rfl ⟨i.val % 1024, Nat.mod_lt _ (by decide)⟩ j
  have er : row ⟨i.val / 1024, hb⟩ ⟨i.val % 1024, Nat.mod_lt _ (by decide)⟩ = i := Fin.ext (Nat.div_add_mod _ _)
  rw [er, outsAt0_sweep] at H
  have ep : pt4Of (ix2 i j) = 11 * (i.val / 1024) + 10 := by
    show 11 * (1 * (i.val / 1024 - 0) + 1 * (j.val / 2048 - 0)) + 10 = _
    omega
  have hp : pt4Of (ix2 i j) < cfg0.N := by rw [ep]; exact hN
  unfold G4
  rw [dif_pos hp, fold0_congr m q _ _ _ (by omega) ep]
  refine Eq.trans (congrArg _ ?_) H
  funext y
  match y with
  | ⟨0, _⟩ => rfl
  | ⟨1, _⟩ => exact Fin.ext (Nat.mod_eq_of_lt j.isLt)

end Cert.Proof.Down

end
-- ==== Proof.DownEq.lean ====
/- The result of the second product of the feed-forward layer is the reference's. -/
module

public import proofs.«01_k».proof.Defs
public import proofs.«01_k».proof.Proof.DownKer
public import proofs.«01_k».proof.Proof.Gen.FfnDownRefIdeal.Run

@[expose] public section

set_option maxRecDepth 16384
set_option maxHeartbeats 4000000

noncomputable section

open Idealize.ShloMosaic Idealize.ShloMosaic.TcCoe Idealize.SL.Sem

namespace Cert.Proof.Down

section Ref

open Cert.FfnDownRefIdeal Cert.FfnDownRefIdeal.Gen

/-- The reference's result, read at an index. -/
theorem ref_at (a : FVec Ideal S8192x5632 .bf16) (w : FVec Ideal S5632x2048 .bf16) (x : FVec Ideal S8192x2048 .f32) (g : FVec Ideal S1x2048 .f32) (i : Fin 8192) (j : Fin 2048) :
    (addf x (mulf (mulf (Host.dotGeneral dot_S8192x5632_S5632x2048_S8192x2048_1_0_0_1_n_n none (extf .f32 a bitsLt_bf16_f32) (extf .f32 w bitsLt_bf16_f32)) (broadcastInDim S8192x2048 ![0, 1] bcast_S8192x1_S8192x2048_0_1 (Host.rsqrt (addf (Host.divf (broadcastInDim S8192x1 ![0] bcast_S8192_S8192x1_0 (Host.reduceAdd (mulf (Host.dotGeneral dot_S8192x5632_S5632x2048_S8192x2048_1_0_0_1_n_n none (extf .f32 a bitsLt_bf16_f32) (extf .f32 w bitsLt_bf16_f32)) (Host.dotGeneral dot_S8192x5632_S5632x2048_S8192x2048_1_0_0_1_n_n none (extf .f32 a bitsLt_bf16_f32) (extf .f32 w bitsLt_bf16_f32))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) : FVec Ideal S8192x2048 .f32) (ix2 i j)
      = x (ix2 i j) + rms (fun k => ∑ n : Fin 5632, a (ix2 i n) * w (ix2 n k)) (fun k => g (ix2 0 k)) j := by
  pointwise []
  rfl

end Ref

theorem algebraic : Cert.algebraic_FfnDownIdeal_FfnDownRefIdeal (hFfnDownIdeal := Cert.FfnDownIdeal.Gen.facts) (hFfnDownRefIdeal := Cert.FfnDownRefIdeal.Gen.facts) := by
  intro m ρ m' ρ' _ hag
  have e0 : ∀ c, _ = Cert.FfnDownIdeal.Value.G4 m c := fun c =>
    ix2_ext fun i j => (ref_at (m' ((c.tc : Thread Cert.FfnDownRefIdeal.nD Cert.FfnDownRefIdeal.τ).loc Cert.FfnDownRefIdeal.main_arg0)) (m' ((c.tc : Thread Cert.FfnDownRefIdeal.nD Cert.FfnDownRefIdeal.τ).loc Cert.FfnDownRefIdeal.main_arg1))
      (m' ((c.tc : Thread Cert.FfnDownRefIdeal.nD Cert.FfnDownRefIdeal.τ).loc Cert.FfnDownRefIdeal.main_arg2)) (m' ((c.tc : Thread Cert.FfnDownRefIdeal.nD Cert.FfnDownRefIdeal.τ).loc Cert.FfnDownRefIdeal.main_arg3)) i j).trans
        (ker_at (m := m) (q := c) ⟨fun _ _ => (congrFun (hag c).1 _).symm, fun _ _ => (congrFun (hag c).2.1 _).symm, fun _ _ => (congrFun (hag c).2.2.1 _).symm, fun _ => (congrFun (hag c).2.2.2 _).symm⟩ i j).symm
  exact ⟨fun c => Cert.FfnDownIdeal.Value.G4 m c, Cert.FfnDownIdeal.Value.run m ρ,
    (θ_run _ _ _).mono (fun r h c => ⟨(h c).1.trans (e0 c), (h c).2⟩) (Cert.FfnDownRefIdeal.Value.run m' ρ')⟩

end Cert.Proof.Down

end
-- ==== Proof.lean ====
/- The proof of the certificate: the layer's calls, as the tiled kernels compute them, are what the reference computes. -/
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.SsdIdeal.Value
public import proofs.«01_k».proof.Proof.Gen.SsdRefIdeal.Run
public import proofs.«01_k».proof.Proof.SsdEq
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.ProjEq
public import proofs.«01_k».proof.Proof.UpEq
public import proofs.«01_k».proof.Proof.DownEq
public import Idealize.ShloMosaic.Adequacy
public import Idealize.ShloMosaic.Init

@[expose] public section

noncomputable section

namespace Cert.Proof

open Idealize.ShloMosaic Idealize.SL.Sem

theorem claim : Cert.Claim :=
  ⟨Cert.Ssd.Gen.facts, Cert.SsdIdeal.Gen.facts, Cert.SsdRefIdeal.Gen.facts,
    Cert.Proj.Gen.facts, Cert.ProjIdeal.Gen.facts, Cert.ProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts,
    Cert.Proof.Ssd.preFacts,
    fun m ρ _ => Cert.Ssd.Gen.frame m ρ, fun m ρ _ => Cert.SsdIdeal.Gen.frame m ρ, fun m ρ _ => Cert.SsdIdeal.Gen.frame m ρ,

    fun m ρ _ => (θ_run (Cert.SsdRefIdeal.defs (F := Ideal)) _ _).mono (fun r h => ⟨fun c => (h c).2.2, sem_eq_zero_of_no_sems (by decide) r.2⟩) (Cert.SsdRefIdeal.Value.run (F := Ideal) m ρ),
    fun m ρ _ => (θ_run (Cert.SsdRefIdeal.defs (F := Ideal)) _ _).mono (fun r h => ⟨fun c => (h c).2.2, sem_eq_zero_of_no_sems (by decide) r.2⟩) (Cert.SsdRefIdeal.Value.run (F := Ideal) m ρ),
    fun m ρ _ => Cert.Proj.Gen.frame m ρ, fun m ρ _ => Cert.ProjIdeal.Gen.frame m ρ,
    fun m ρ _ => (θ_run (Cert.ProjRefIdeal.defs (F := Ideal)) _ _).mono (fun r h => ⟨fun c => (h c).2, sem_eq_zero_of_no_sems (by decide) r.2⟩) (Cert.ProjRefIdeal.Value.run (F := Ideal) m ρ),
    fun m ρ _ => Cert.FfnUp.Gen.frame m ρ, fun m ρ _ => Cert.FfnUpIdeal.Gen.frame m ρ,
    fun m ρ _ => (θ_run (Cert.FfnUpRefIdeal.defs (F := Ideal)) _ _).mono (fun r h => ⟨fun c => (h c).2.2, sem_eq_zero_of_no_sems (by decide) r.2⟩) (Cert.FfnUpRefIdeal.Value.run (F := Ideal) m ρ),
    fun m ρ _ => Cert.FfnDown.Gen.frame m ρ, fun m ρ _ => Cert.FfnDownIdeal.Gen.frame m ρ,
    fun m ρ _ => (θ_run (Cert.FfnDownRefIdeal.defs (F := Ideal)) _ _).mono (fun r h => ⟨fun c => (h c).2, sem_eq_zero_of_no_sems (by decide) r.2⟩) (Cert.FfnDownRefIdeal.Value.run (F := Ideal) m ρ),
    trivial, Cert.Proof.Ssd.algebraic, trivial, Cert.Proof.Proj.algebraic, trivial, Cert.Proof.Up.algebraic, trivial, Cert.Proof.Down.algebraic⟩

end Cert.Proof

end
